-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_v65)) (v3 : (c : Dev Cert.KernelIdeal.nD) → Buf (Elt Ideal) ((c.tc : Thread Cert.KernelIdeal.nD Cert.KernelIdeal.τ).loc Cert.KernelIdeal.main_v68)) (v4 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_v68) = v3 c
          ∧ r.2.mem ((c.tc : Thread Cert.KernelIdeal.nD Cert.KernelIdeal.τ).loc Cert.KernelIdeal.main_v69) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x6x128 : Shape := ⟨3, ![16384, 6, 128]⟩
abbrev S16384x6x64 : Shape := ⟨3, ![16384, 6, 64]⟩
abbrev S16384x64 : Shape := ⟨2, ![16384, 64]⟩
abbrev S16384x768 : Shape := ⟨2, ![16384, 768]⟩
abbrev S_ : Shape := ⟨0, ![]⟩

class Facts : Prop where
  bcast_S_S16384x6x128 : S_.BroadcastsInDim S16384x6x128 (![] : Fin 0 → Fin S16384x6x128.rank)
  bcast_S_S16384x6x64 : S_.BroadcastsInDim S16384x6x64 (![] : Fin 0 → Fin S16384x6x64.rank)
  bcast_S_S16384x64 : S_.BroadcastsInDim S16384x64 (![] : Fin 0 → Fin S16384x64.rank)
  bcast_S_S16384x768 : S_.BroadcastsInDim S16384x768 (![] : Fin 0 → Fin S16384x768.rank)

variable [Facts]

def fn {F : FTy → Type} [FloatOps F] (main_arg0 : FVec F S16384x6x128 .f32) (main_arg1 : FVec F S16384x6x64 .f32) (main_arg2 : FVec F S16384x6x128 .f32) (main_arg3 : FVec F S16384x64 .f32) (main_arg4 : FVec F S16384x6x128 .f32) (main_arg5 : FVec F S16384x768 .f32) : IVec S16384x6x128 1 × IVec S16384x6x64 1 × IVec S16384x6x128 1 × IVec S16384x64 1 × IVec S16384x6x128 1 × IVec S16384x768 1 :=
  let main_v0 : FVec F S16384x6x128 .f32 := Host.absf main_arg0
  let main_cst : FVec F S_ .f32 := constant S_ .f32 0x7F800000#32
  let main_v1 : FVec F S16384x6x128 .f32 := broadcastInDim S16384x6x128 ![] bcast_S_S16384x6x128 main_cst
  let main_v2 : IVec S16384x6x128 1 := cmpf .olt main_v0 main_v1
  let main_v3 : FVec F S16384x6x64 .f32 := Host.absf main_arg1
  let main_cst_0 : FVec F S_ .f32 := constant S_ .f32 0x7F800000#32
  let main_v4 : FVec F S16384x6x64 .f32 := broadcastInDim S16384x6x64 ![] bcast_S_S16384x6x64 main_cst_0
  let main_v5 : IVec S16384x6x64 1 := cmpf .olt main_v3 main_v4
  let main_v6 : FVec F S16384x6x128 .f32 := Host.absf main_arg2
  let main_cst_1 : FVec F S_ .f32 := constant S_ .f32 0x7F800000#32
  let main_v7 : FVec F S16384x6x128 .f32 := broadcastInDim S16384x6x128 ![] bcast_S_S16384x6x128 main_cst_1
  let main_v8 : IVec S16384x6x128 1 := cmpf .olt main_v6 main_v7
  let main_v9 : FVec F S16384x64 .f32 := Host.absf main_arg3
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_v12 : FVec F S16384x6x128 .f32 := Host.absf main_arg4
  let main_cst_3 : FVec F S_ .f32 := constant S_ .f32 0x7F800000#32
  let main_v13 : FVec F S16384x6x128 .f32 := broadcastInDim S16384x6x128 ![] bcast_S_S16384x6x128 main_cst_3
  let main_v14 : IVec S16384x6x128 1 := cmpf .olt main_v12 main_v13
  let main_v15 : FVec F S16384x768 .f32 := Host.absf main_arg5
  let main_cst_4 : FVec F S_ .f32 := constant S_ .f32 0x7F800000#32
  let main_v16 : FVec F S16384x768 .f32 := broadcastInDim S16384x768 ![] bcast_S_S16384x768 main_cst_4
  let main_v17 : IVec S16384x768 1 := cmpf .olt main_v15 main_v16
  (main_v2, main_v5, main_v8, main_v11, main_v14, main_v17)
-- ==== Kernel.lean ====
abbrev S16384x6x128 : Shape := ⟨3, ![16384, 6, 128]⟩
abbrev S16384x6x64 : Shape := ⟨3, ![16384, 6, 64]⟩
abbrev S16384x64 : Shape := ⟨2, ![16384, 64]⟩
abbrev S16384x768 : Shape := ⟨2, ![16384, 768]⟩
abbrev S_ : Shape := ⟨0, ![]⟩
abbrev S16384x1536 : Shape := ⟨2, ![16384, 1536]⟩
abbrev S16384x128 : Shape := ⟨2, ![16384, 128]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S6x16384x16384 : Shape := ⟨3, ![6, 16384, 16384]⟩
abbrev S16384x16384x6 : Shape := ⟨3, ![16384, 16384, 6]⟩
abbrev S6x16384 : Shape := ⟨2, ![6, 16384]⟩
abbrev S6x16384x1 : Shape := ⟨3, ![6, 16384, 1]⟩
abbrev S6x16384x128 : Shape := ⟨3, ![6, 16384, 128]⟩
abbrev S6x32x512 : Shape := ⟨3, ![6, 32, 512]⟩
abbrev S32x6x512 : Shape := ⟨3, ![32, 6, 512]⟩
abbrev S32x6x1x512 : Shape := ⟨4, ![32, 6, 1, 512]⟩
abbrev S32x6x8x512 : Shape := ⟨4, ![32, 6, 8, 512]⟩
abbrev S1536x512 : Shape := ⟨2, ![1536, 512]⟩
abbrev S2048x128 : Shape := ⟨2, ![2048, 128]⟩
abbrev S2048x256 : Shape := ⟨2, ![2048, 256]⟩
abbrev S512x128 : Shape := ⟨2, ![512, 128]⟩
abbrev S512x256 : Shape := ⟨2, ![512, 256]⟩
abbrev S512x512 : Shape := ⟨2, ![512, 512]⟩
abbrev S1x512 : Shape := ⟨2, ![1, 512]⟩
abbrev S1024x128 : Shape := ⟨2, ![1024, 128]⟩
abbrev S1024x256 : Shape := ⟨2, ![1024, 256]⟩
abbrev S1024x512 : Shape := ⟨2, ![1024, 512]⟩
abbrev S1536x128 : Shape := ⟨2, ![1536, 128]⟩
abbrev S1536x256 : Shape := ⟨2, ![1536, 256]⟩
abbrev S2048x512 : Shape := ⟨2, ![2048, 512]⟩

abbrev nBuf : Space → Nat
  | .hbm => 111
  | .vmem => 21
  | .smem => 0
  | _ => 0

abbrev bufTy : (tb : Table) → Fin (tcTables nBuf tb) → BufTy
  | .hbm, ⟨0, _⟩ => ⟨S16384x6x128, .f32⟩
  | .hbm, ⟨1, _⟩ => ⟨S16384x6x64, .f32⟩
  | .hbm, ⟨2, _⟩ => ⟨S16384x6x128, .f32⟩
  | .hbm, ⟨3, _⟩ => ⟨S16384x64, .f32⟩
  | .hbm, ⟨4, _⟩ => ⟨S16384x6x128, .f32⟩
  | .hbm, ⟨5, _⟩ => ⟨S16384x768, .f32⟩
  | .hbm, ⟨6, _⟩ => ⟨S16384x768, .f32⟩
  | .hbm, ⟨7, _⟩ => ⟨S_, .f32⟩
  | .hbm, ⟨8, _⟩ => ⟨S16384x6x64, .f32⟩
  | .hbm, ⟨9, _⟩ => ⟨S16384x6x128, .f32⟩
  | .hbm, ⟨10, _⟩ => ⟨S16384x768, .f32⟩
  | .hbm, ⟨11, _⟩ => ⟨S16384x1536, .f32⟩
  | .hbm, ⟨12, _⟩ => ⟨S_, .f32⟩
  | .hbm, ⟨13, _⟩ => ⟨S16384x1536, .f32⟩
  | .hbm, ⟨14, _⟩ => ⟨S16384x1536, .f32⟩
  | .hbm, ⟨15, _⟩ => ⟨S16384x1536, .bf16⟩
  | .hbm, ⟨16, _⟩ => ⟨S16384x768, .f32⟩
  | .hbm, ⟨17, _⟩ => ⟨S16384x768, .f32⟩
  | .hbm, ⟨18, _⟩ => ⟨S16384x1536, .f32⟩
  | .hbm, ⟨19, _⟩ => ⟨S16384x1536, .bf16⟩
  | .hbm, ⟨20, _⟩ => ⟨S_, .f32⟩
  | .hbm, ⟨21, _⟩ => ⟨S16384x64, .f32⟩
  | .hbm, ⟨22, _⟩ => ⟨S16384x128, .f32⟩
  | .hbm, ⟨23, _⟩ => ⟨S16384x128, .bf16⟩
  | .hbm, ⟨24, _⟩ => ⟨S16384, .i32⟩
  | .hbm, ⟨25, _⟩ => ⟨S_, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S1x16384, .i32⟩
  | .hbm, ⟨44, _⟩ => ⟨S16384x1, .i32⟩
  | .hbm, ⟨45, _⟩ => ⟨S16384x16384, .i32⟩
  | .hbm, ⟨46, _⟩ => ⟨S16384x16384, .i32⟩
  | .hbm, ⟨47, _⟩ => ⟨S16384x16384, .i1⟩
  | .hbm, ⟨48, _⟩ => ⟨S6x16384x16384, .f32⟩
  | .hbm, ⟨49, _⟩ => ⟨S16384x16384x6, .f32⟩
  | .hbm, ⟨50, _⟩ => ⟨S6x16384x16384, .f32⟩
  | .hbm, ⟨51, _⟩ => ⟨S6x16384x16384, .f32⟩
  | .hbm, ⟨52, _⟩ => ⟨S_, .f32⟩
  | .hbm, ⟨53, _⟩ => ⟨S6x16384x16384, .f32⟩
  | .hbm, ⟨54, _⟩ => ⟨S6x16384x16384, .f32⟩
  | .hbm, ⟨55, _⟩ => ⟨S_, .f32⟩
  | .hbm, ⟨56, _⟩ => ⟨S_, .f32⟩
  | .hbm, ⟨57, _⟩ => ⟨S6x16384x16384, .i1⟩
  | .hbm, ⟨58, _⟩ => ⟨S6x16384x16384, .f32⟩
  | .hbm, ⟨59, _⟩ => ⟨S6x16384x16384, .f32⟩
  | .hbm, ⟨60, _⟩ => ⟨S_, .f32⟩
  | .hbm, ⟨61, _⟩ => ⟨S6x16384, .f32⟩
  | .hbm, ⟨62, _⟩ => ⟨S6x16384x1, .f32⟩
  | .hbm, ⟨63, _⟩ => ⟨S6x16384x16384, .f32⟩
  | .hbm, ⟨64, _⟩ => ⟨S6x16384x16384, .f32⟩
  | .hbm, ⟨65, _⟩ => ⟨S6x16384x16384, .f32⟩
  | .hbm, ⟨66, _⟩ => ⟨S_, .f32⟩
  | .hbm, ⟨67, _⟩ => ⟨S6x16384, .f32⟩
  | .hbm, ⟨68, _⟩ => ⟨S6x16384x1, .f32⟩
  | .hbm, ⟨69, _⟩ => ⟨S6x16384x1, .f32⟩
  | .hbm, ⟨70, _⟩ => ⟨S6x16384x1, .f32⟩
  | .hbm, ⟨71, _⟩ => ⟨S6x16384, .f32⟩
  | .hbm, ⟨72, _⟩ => ⟨S6x16384x16384, .f32⟩
  | .hbm, ⟨73, _⟩ => ⟨S6x16384x16384, .f32⟩
  | .hbm, ⟨74, _⟩ => ⟨S6x16384x128, .f32⟩
  | .hbm, ⟨75, _⟩ => ⟨S16384x6x128, .f32⟩
  | .hbm, ⟨76, _⟩ => ⟨S6x16384x128, .f32⟩
  | .hbm, ⟨77, _⟩ => ⟨S6x16384x128, .f32⟩
  | .hbm, ⟨78, _⟩ => ⟨S_, .f32⟩
  | .hbm, ⟨79, _⟩ => ⟨S6x16384, .f32⟩
  | .hbm, ⟨80, _⟩ => ⟨S6x32x512, .f32⟩
  | .hbm, ⟨81, _⟩ => ⟨S32x6x512, .f32⟩
  | .hbm, ⟨82, _⟩ => ⟨S32x6x1x512, .f32⟩
  | .hbm, ⟨83, _⟩ => ⟨S32x6x8x512, .f32⟩
  | .hbm, ⟨84, _⟩ => ⟨S1536x512, .f32⟩
  | .hbm, ⟨85, _⟩ => ⟨S6x32x512, .f32⟩
  | .hbm, ⟨86, _⟩ => ⟨S32x6x512, .f32⟩
  | .hbm, ⟨87, _⟩ => ⟨S32x6x1x512, .f32⟩
  | .hbm, ⟨88, _⟩ => ⟨S32x6x8x512, .f32⟩
  | .hbm, ⟨89, _⟩ => ⟨S1536x512, .f32⟩
  | .hbm, ⟨90, _⟩ => ⟨S16384x768, .bf16⟩
  | .hbm, ⟨91, _⟩ => ⟨S16384x768, .f32⟩
  | .hbm, ⟨92, _⟩ => ⟨S16384x768, .f32⟩
  | .hbm, ⟨93, _⟩ => ⟨S16384x768, .f32⟩
  | .hbm, ⟨94, _⟩ => ⟨S16384x768, .f32⟩
  | .hbm, ⟨95, _⟩ => ⟨S16384x768, .f32⟩
  | .hbm, ⟨96, _⟩ => ⟨S16384x6x128, .f32⟩
  | .hbm, ⟨97, _⟩ => ⟨S_, .f32⟩
  | .hbm, ⟨98, _⟩ => ⟨S16384x6x128, .f32⟩
  | .hbm, ⟨99, _⟩ => ⟨S16384x6x128, .f32⟩
  | .hbm, ⟨100, _⟩ => ⟨S16384x6x128, .f32⟩
  | .hbm, ⟨101, _⟩ => ⟨S16384x6x64, .f32⟩
  | .hbm, ⟨102, _⟩ => ⟨S_, .f32⟩
  | .hbm, ⟨103, _⟩ => ⟨S16384x6x64, .f32⟩
  | .hbm, ⟨104, _⟩ => ⟨S16384x6x64, .f32⟩
  | .hbm, ⟨105, _⟩ => ⟨S16384x6x128, .f32⟩
  | .hbm, ⟨106, _⟩ => ⟨S16384x6x128, .f32⟩
  | .hbm, ⟨107, _⟩ => ⟨S16384x6x64, .f32⟩
  | .hbm, ⟨108, _⟩ => ⟨S_, .f32⟩
  | .hbm, ⟨109, _⟩ => ⟨S16384x64, .f32⟩
  | .hbm, ⟨110, _⟩ => ⟨S16384x6x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S1536x512, .f32⟩
  | .local _ .vmem, ⟨10, _⟩ => ⟨S1536x512, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S16384x128, .f32⟩
  | .local _ .vmem, ⟨18, _⟩ => ⟨S16384x128, .f32⟩
  | .local _ .vmem, ⟨19, _⟩ => ⟨S2048x256, .f32⟩
  | .local _ .vmem, ⟨20, _⟩ => ⟨S2048x128, .f32⟩
  | _, _ => ⟨S16384x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_6 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57_0 : Ref sig .tc := ⟨.hbm, 91, rfl⟩
abbrev main_v57_1 : Ref sig .tc := ⟨.hbm, 92, rfl⟩
abbrev main_v57_2 : Ref sig .tc := ⟨.hbm, 93, rfl⟩
abbrev main_v57_3 : Ref sig .tc := ⟨.hbm, 94, rfl⟩
abbrev main_v57_4 : Ref sig .tc := ⟨.hbm, 95, rfl⟩
abbrev main_v58 : Ref sig .tc := ⟨.hbm, 96, rfl⟩
abbrev main_cst_7 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_8 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_9 : Ref sig .tc := ⟨.hbm, 108, rfl⟩
abbrev main_v68 : Ref sig .tc := ⟨.hbm, 109, rfl⟩
abbrev main_v69 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let arg1 : BitVec 32 := BitVec.ofNat 32 (i 1).val
  let c4_i32 : BitVec 32 := 4#32
  let v11 : BitVec 32 := Scalar.muli arg1 c4_i32
  let c0_i32_5 : BitVec 32 := 0#32
  let v12 : BitVec 32 := Scalar.addi v11 c0_i32_5
  let c512_i32 : BitVec 32 := 512#32
  let v13 : BitVec 32 := Scalar.muli v12 c512_i32
  v13
def k0_mult2 (i : grid0.Coords) : BitVec 32 :=
  let arg1 : BitVec 32 := BitVec.ofNat 32 (i 1).val
  let c4_i32 : BitVec 32 := 4#32
  let v11 : BitVec 32 := Scalar.muli arg1 c4_i32
  let c0_i32_5 : BitVec 32 := 0#32
  let v12 : BitVec 32 := Scalar.addi v11 c0_i32_5
  let c6_i32 : BitVec 32 := 6#32
  let v15 : BitVec 32 := Scalar.muli v12 c6_i32
  let arg0 : BitVec 32 := BitVec.ofNat 32 (i 0).val
  let v16 : BitVec 32 := Scalar.addi v15 arg0
  let c8_i32 : BitVec 32 := 8#32
  let v17 : BitVec 32 := Scalar.muli v16 c8_i32
  v17
def k0_off1 (i : grid0.Coords) (c0_i32_5 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_5
  let c512_i32 : BitVec 32 := 512#32
  let v13 : BitVec 32 := Scalar.muli v12 c512_i32
  let v14 : BitVec 32 := v13
  let v19 : Index := Scalar.indexCast v14
  let c0_6 : Index := 0#32
  ![v19.toNat, 0]
def k0_off2 (i : grid0.Coords) (c0_i32_5 : BitVec 32) : Fin 2 → Nat :=
  let arg1 : BitVec 32 := BitVec.ofNat 32 (i 1).val
  let c4_i32 : BitVec 32 := 4#32
  let v11 : BitVec 32 := Scalar.muli arg1 c4_i32
  let v12 : BitVec 32 := Scalar.addi v11 c0_i32_5
  let c6_i32 : BitVec 32 := 6#32
  let v15 : BitVec 32 := Scalar.muli v12 c6_i32
  let arg0 : BitVec 32 := BitVec.ofNat 32 (i 0).val
  let v16 : BitVec 32 := Scalar.addi v15 arg0
  let c8_i32 : BitVec 32 := 8#32
  let v17 : BitVec 32 := Scalar.muli v16 c8_i32
  let v18 : BitVec 32 := v17
  let v35 : Index := Scalar.indexCast v18
  let c0_14 : Index := 0#32
  ![v35.toNat, 0]
def k0_mult3 (i : grid0.Coords) : BitVec 32 :=
  let arg1 : BitVec 32 := BitVec.ofNat 32 (i 1).val
  let c4_i32_48 : BitVec 32 := 4#32
  let v135 : BitVec 32 := Scalar.muli arg1 c4_i32_48
  let c1_i32_49 : BitVec 32 := 1#32
  let v136 : BitVec 32 := Scalar.addi v135 c1_i32_49
  let c512_i32_50 : BitVec 32 := 512#32
  let v137 : BitVec 32 := Scalar.muli v136 c512_i32_50
  v137
def k0_mult4 (i : grid0.Coords) : BitVec 32 :=
  let arg1 : BitVec 32 := BitVec.ofNat 32 (i 1).val
  let c4_i32_48 : BitVec 32 := 4#32
  let v135 : BitVec 32 := Scalar.muli arg1 c4_i32_48
  let c1_i32_49 : BitVec 32 := 1#32
  let v136 : BitVec 32 := Scalar.addi v135 c1_i32_49
  let c6_i32_51 : BitVec 32 := 6#32
  let v139 : BitVec 32 := Scalar.muli v136 c6_i32_51
  let arg0 : BitVec 32 := BitVec.ofNat 32 (i 0).val
  let v140 : BitVec 32 := Scalar.addi v139 arg0
  let c8_i32_52 : BitVec 32 := 8#32
  let v141 : BitVec 32 := Scalar.muli v140 c8_i32_52
  v141
def k0_mult5 (i : grid0.Coords) : BitVec 32 :=
  let arg1 : BitVec 32 := BitVec.ofNat 32 (i 1).val
  let c4_i32_97 : BitVec 32 := 4#32
  let v259 : BitVec 32 := Scalar.muli arg1 c4_i32_97
  let c2_i32 : BitVec 32 := 2#32
  let v260 : BitVec 32 := Scalar.addi v259 c2_i32
  let c512_i32_98 : BitVec 32 := 512#32
  let v261 : BitVec 32 := Scalar.muli v260 c512_i32_98
  v261
def k0_mult6 (i : grid0.Coords) : BitVec 32 :=
  let arg1 : BitVec 32 := BitVec.ofNat 32 (i 1).val
  let c4_i32_97 : BitVec 32 := 4#32
  let v259 : BitVec 32 := Scalar.muli arg1 c4_i32_97
  let c2_i32 : BitVec 32 := 2#32
  let v260 : BitVec 32 := Scalar.addi v259 c2_i32
  let c6_i32_99 : BitVec 32 := 6#32
  let v263 : BitVec 32 := Scalar.muli v260 c6_i32_99
  let arg0 : BitVec 32 := BitVec.ofNat 32 (i 0).val
  let v264 : BitVec 32 := Scalar.addi v263 arg0
  let c8_i32_100 : BitVec 32 := 8#32
  let v265 : BitVec 32 := Scalar.muli v264 c8_i32_100
  v265
def k0_mult7 (i : grid0.Coords) : BitVec 32 :=
  let arg1 : BitVec 32 := BitVec.ofNat 32 (i 1).val
  let c4_i32_144 : BitVec 32 := 4#32
  let v383 : BitVec 32 := Scalar.muli arg1 c4_i32_144
  let c3_i32 : BitVec 32 := 3#32
  let v384 : BitVec 32 := Scalar.addi v383 c3_i32
  let c512_i32_145 : BitVec 32 := 512#32
  let v385 : BitVec 32 := Scalar.muli v384 c512_i32_145
  v385
def k0_mult8 (i : grid0.Coords) : BitVec 32 :=
  let arg1 : BitVec 32 := BitVec.ofNat 32 (i 1).val
  let c4_i32_144 : BitVec 32 := 4#32
  let v383 : BitVec 32 := Scalar.muli arg1 c4_i32_144
  let c3_i32 : BitVec 32 := 3#32
  let v384 : BitVec 32 := Scalar.addi v383 c3_i32
  let c6_i32_146 : BitVec 32 := 6#32
  let v387 : BitVec 32 := Scalar.muli v384 c6_i32_146
  let arg0 : BitVec 32 := BitVec.ofNat 32 (i 0).val
  let v388 : BitVec 32 := Scalar.addi v387 arg0
  let c8_i32_147 : BitVec 32 := 8#32
  let v389 : BitVec 32 := Scalar.muli v388 c8_i32_147
  v389
@[reducible] def k0_t1_loop (i : grid0.Coords) : Scf.Loop 32 :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c32_i32 : BitVec 32 := 32#32
  let v509 : BitVec 32 := Scalar.subi c32_i32 v508
  let c1_i32_194 : BitVec 32 := 1#32
  let v511 : BitVec 32 := Scalar.divsi v509 c1_i32_194
  let v512 : BitVec 32 := Scalar.muli v511 c1_i32_194
  let v513 : BitVec 32 := Scalar.addi v508 v512
  let c1_i32_195 : BitVec 32 := 1#32
  ⟨v508, v513, c1_i32_195⟩
def k0_mult9 (i : grid0.Coords) (k0_t1 : Fin (k0_t1_loop i).trips) : BitVec 32 :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c1_i32_195 : BitVec 32 := 1#32
  let arg17 : BitVec 32 := Scf.iv v508 c1_i32_195 k0_t1
  let c512_i32_208 : BitVec 32 := 512#32
  let v520 : BitVec 32 := Scalar.muli arg17 c512_i32_208
  v520
def k0_mult10 (i : grid0.Coords) (k0_t1 : Fin (k0_t1_loop i).trips) : BitVec 32 :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c1_i32_195 : BitVec 32 := 1#32
  let arg17 : BitVec 32 := Scf.iv v508 c1_i32_195 k0_t1
  let c6_i32_209 : BitVec 32 := 6#32
  let v522 : BitVec 32 := Scalar.muli arg17 c6_i32_209
  let arg0 : BitVec 32 := BitVec.ofNat 32 (i 0).val
  let v523 : BitVec 32 := Scalar.addi v522 arg0
  let c8_i32_210 : BitVec 32 := 8#32
  let v524 : BitVec 32 := Scalar.muli v523 c8_i32_210
  v524
def k0_off3 (i : grid0.Coords) (k0_t1 : Fin (k0_t1_loop i).trips) : Fin 2 → Nat :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c1_i32_195 : BitVec 32 := 1#32
  let arg17 : BitVec 32 := Scf.iv v508 c1_i32_195 k0_t1
  let c512_i32_208 : BitVec 32 := 512#32
  let v520 : BitVec 32 := Scalar.muli arg17 c512_i32_208
  let v521 : BitVec 32 := v520
  let v526 : Index := Scalar.indexCast v521
  let c0_211 : Index := 0#32
  ![v526.toNat, 0]
def k0_off4 (i : grid0.Coords) (k0_t1 : Fin (k0_t1_loop i).trips) : Fin 2 → Nat :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c1_i32_195 : BitVec 32 := 1#32
  let arg17 : BitVec 32 := Scf.iv v508 c1_i32_195 k0_t1
  let c6_i32_209 : BitVec 32 := 6#32
  let v522 : BitVec 32 := Scalar.muli arg17 c6_i32_209
  let arg0 : BitVec 32 := BitVec.ofNat 32 (i 0).val
  let v523 : BitVec 32 := Scalar.addi v522 arg0
  let c8_i32_210 : BitVec 32 := 8#32
  let v524 : BitVec 32 := Scalar.muli v523 c8_i32_210
  let v525 : BitVec 32 := v524
  let v542 : Index := Scalar.indexCast v525
  let c0_219 : Index := 0#32
  ![v542.toNat, 0]
@[reducible] def k0_t2_loop (i : grid0.Coords) : Scf.Loop 32 :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c32_i32 : BitVec 32 := 32#32
  let v509 : BitVec 32 := Scalar.subi c32_i32 v508
  let c1_i32_194 : BitVec 32 := 1#32
  let v511 : BitVec 32 := Scalar.divsi v509 c1_i32_194
  let v512 : BitVec 32 := Scalar.muli v511 c1_i32_194
  let v513 : BitVec 32 := Scalar.addi v508 v512
  let v510 : BitVec 32 := Scalar.addi v508 v509
  let c1_i32_196 : BitVec 32 := 1#32
  ⟨v513, v510, c1_i32_196⟩
def k0_mult11 (i : grid0.Coords) (k0_t2 : Fin (k0_t2_loop i).trips) : BitVec 32 :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c32_i32 : BitVec 32 := 32#32
  let v509 : BitVec 32 := Scalar.subi c32_i32 v508
  let c1_i32_194 : BitVec 32 := 1#32
  let v511 : BitVec 32 := Scalar.divsi v509 c1_i32_194
  let v512 : BitVec 32 := Scalar.muli v511 c1_i32_194
  let v513 : BitVec 32 := Scalar.addi v508 v512
  let c1_i32_196 : BitVec 32 := 1#32
  let arg17 : BitVec 32 := Scf.iv v513 c1_i32_196 k0_t2
  let c512_i32_208 : BitVec 32 := 512#32
  let v520 : BitVec 32 := Scalar.muli arg17 c512_i32_208
  v520
def k0_mult12 (i : grid0.Coords) (k0_t2 : Fin (k0_t2_loop i).trips) : BitVec 32 :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c32_i32 : BitVec 32 := 32#32
  let v509 : BitVec 32 := Scalar.subi c32_i32 v508
  let c1_i32_194 : BitVec 32 := 1#32
  let v511 : BitVec 32 := Scalar.divsi v509 c1_i32_194
  let v512 : BitVec 32 := Scalar.muli v511 c1_i32_194
  let v513 : BitVec 32 := Scalar.addi v508 v512
  let c1_i32_196 : BitVec 32 := 1#32
  let arg17 : BitVec 32 := Scf.iv v513 c1_i32_196 k0_t2
  let c6_i32_209 : BitVec 32 := 6#32
  let v522 : BitVec 32 := Scalar.muli arg17 c6_i32_209
  let arg0 : BitVec 32 := BitVec.ofNat 32 (i 0).val
  let v523 : BitVec 32 := Scalar.addi v522 arg0
  let c8_i32_210 : BitVec 32 := 8#32
  let v524 : BitVec 32 := Scalar.muli v523 c8_i32_210
  v524
def k0_off5 (i : grid0.Coords) (k0_t2 : Fin (k0_t2_loop i).trips) : Fin 2 → Nat :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c32_i32 : BitVec 32 := 32#32
  let v509 : BitVec 32 := Scalar.subi c32_i32 v508
  let c1_i32_194 : BitVec 32 := 1#32
  let v511 : BitVec 32 := Scalar.divsi v509 c1_i32_194
  let v512 : BitVec 32 := Scalar.muli v511 c1_i32_194
  let v513 : BitVec 32 := Scalar.addi v508 v512
  let c1_i32_196 : BitVec 32 := 1#32
  let arg17 : BitVec 32 := Scf.iv v513 c1_i32_196 k0_t2
  let c512_i32_208 : BitVec 32 := 512#32
  let v520 : BitVec 32 := Scalar.muli arg17 c512_i32_208
  let v521 : BitVec 32 := v520
  let v526 : Index := Scalar.indexCast v521
  let c0_211 : Index := 0#32
  ![v526.toNat, 0]
def k0_off6 (i : grid0.Coords) (k0_t2 : Fin (k0_t2_loop i).trips) : Fin 2 → Nat :=
  let arg1 : BitVec 32 := BitVec.ofNat 32 (i 1).val
  let c1_i32_191 : BitVec 32 := 1#32
  let v507 : BitVec 32 := Scalar.addi arg1 c1_i32_191
  let c4_i32_192 : BitVec 32 := 4#32
  let v508 : BitVec 32 := Scalar.muli v507 c4_i32_192
  let c32_i32 : BitVec 32 := 32#32
  let v509 : BitVec 32 := Scalar.subi c32_i32 v508
  let c1_i32_194 : BitVec 32 := 1#32
  let v511 : BitVec 32 := Scalar.divsi v509 c1_i32_194
  let v512 : BitVec 32 := Scalar.muli v511 c1_i32_194
  let v513 : BitVec 32 := Scalar.addi v508 v512
  let c1_i32_196 : BitVec 32 := 1#32
  let arg17 : BitVec 32 := Scf.iv v513 c1_i32_196 k0_t2
  let c6_i32_209 : BitVec 32 := 6#32
  let v522 : BitVec 32 := Scalar.muli arg17 c6_i32_209
  let arg0 : BitVec 32 := BitVec.ofNat 32 (i 0).val
  let v523 : BitVec 32 := Scalar.addi v522 arg0
  let c8_i32_210 : BitVec 32 := 8#32
  let v524 : BitVec 32 := Scalar.muli v523 c8_i32_210
  let v525 : BitVec 32 := v524
  let v542 : Index := Scalar.indexCast v525
  let c0_219 : Index := 0#32
  ![v542.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S16384x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S16384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1536x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1536x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S16384x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S16384x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== ReferenceIdeal.lean ====
abbrev S16384x6x128 : Shape := ⟨3, ![16384, 6, 128]⟩
abbrev S16384x6x64 : Shape := ⟨3, ![16384, 6, 64]⟩
abbrev S16384x64 : Shape := ⟨2, ![16384, 64]⟩
abbrev S16384x768 : Shape := ⟨2, ![16384, 768]⟩
abbrev S16384 : Shape := ⟨1, ![16384]⟩
abbrev S_ : Shape := ⟨0, ![]⟩
abbrev S6x16384x16384 : Shape := ⟨3, ![6, 16384, 16384]⟩
abbrev S16384x16384x6 : Shape := ⟨3, ![16384, 16384, 6]⟩
abbrev S1x16384 : Shape := ⟨2, ![1, 16384]⟩
abbrev S16384x1 : Shape := ⟨2, ![16384, 1]⟩
abbrev S16384x16384 : Shape := ⟨2, ![16384, 16384]⟩
abbrev S6x16384 : Shape := ⟨2, ![6, 16384]⟩
abbrev S6x16384x1 : Shape := ⟨3, ![6, 16384, 1]⟩
abbrev S6x128x16384 : Shape := ⟨3, ![6, 128, 16384]⟩
abbrev S6x16384x128 : Shape := ⟨3, ![6, 16384, 128]⟩

abbrev nBuf : Space → Nat
  | .hbm => 117
  | .vmem => 0
  | .smem => 0
  | _ => 0

abbrev bufTy : (tb : Table) → Fin (tcTables nBuf tb) → BufTy
  | .hbm, ⟨0, _⟩ => ⟨S16384x6x128, .f32⟩
  | .hbm, ⟨1, _⟩ => ⟨S16384x6x64, .f32⟩
  | .hbm, ⟨2, _⟩ => ⟨S16384x6x128, .f32⟩
  | .hbm, ⟨3, _⟩ => ⟨S16384x64, .f32⟩
  | .hbm, ⟨4, _⟩ => ⟨S16384x6x128, .f32⟩
  | .hbm, ⟨5, _⟩ => ⟨S16384x768, .f32⟩
  | .hbm, ⟨6, _⟩ => ⟨S16384, .i32⟩
  | .hbm, ⟨7, _⟩ => ⟨S_, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S6x16384x16384, .f32⟩
  | .hbm, ⟨26, _⟩ => ⟨S16384x16384x6, .f32⟩
  | .hbm, ⟨27, _⟩ => ⟨S6x16384x16384, .f32⟩
  | .hbm, ⟨28, _⟩ => ⟨S6x16384x16384, .f32⟩
  | .hbm, ⟨29, _⟩ => ⟨S_, .f32⟩
  | .hbm, ⟨30, _⟩ => ⟨S6x16384x16384, .f32⟩
  | .hbm, ⟨31, _⟩ => ⟨S6x16384x16384, .f32⟩
  | .hbm, ⟨32, _⟩ => ⟨S1x16384, .i32⟩
  | .hbm, ⟨33, _⟩ => ⟨S16384x1, .i32⟩
  | .hbm, ⟨34, _⟩ => ⟨S16384x16384, .i32⟩
  | .hbm, ⟨35, _⟩ => ⟨S16384x16384, .i32⟩
  | .hbm, ⟨36, _⟩ => ⟨S16384x16384, .i1⟩
  | .hbm, ⟨37, _⟩ => ⟨S_, .f32⟩
  | .hbm, ⟨38, _⟩ => ⟨S_, .f32⟩
  | .hbm, ⟨39, _⟩ => ⟨S6x16384x16384, .i1⟩
  | .hbm, ⟨40, _⟩ => ⟨S6x16384x16384, .f32⟩
  | .hbm, ⟨41, _⟩ => ⟨S6x16384x16384, .f32⟩
  | .hbm, ⟨42, _⟩ => ⟨S_, .f32⟩
  | .hbm, ⟨43, _⟩ => ⟨S6x16384x16384, .f32⟩
  | .hbm, ⟨44, _⟩ => ⟨S_, .f32⟩
  | .hbm, ⟨45, _⟩ => ⟨S6x16384, .f32⟩
  | .hbm, ⟨46, _⟩ => ⟨S6x16384x1, .f32⟩
  | .hbm, ⟨47, _⟩ => ⟨S6x16384x16384, .f32⟩
  | .hbm, ⟨48, _⟩ => ⟨S6x16384x16384, .i1⟩
  | .hbm, ⟨49, _⟩ => ⟨S6x16384x16384, .f32⟩
  | .hbm, ⟨50, _⟩ => ⟨S_, .f32⟩
  | .hbm, ⟨51, _⟩ => ⟨S6x16384, .f32⟩
  | .hbm, ⟨52, _⟩ => ⟨S_, .f32⟩
  | .hbm, ⟨53, _⟩ => ⟨S6x16384, .f32⟩
  | .hbm, ⟨54, _⟩ => ⟨S6x16384, .f32⟩
  | .hbm, ⟨55, _⟩ => ⟨S_, .f32⟩
  | .hbm, ⟨56, _⟩ => ⟨S6x16384, .f32⟩
  | .hbm, ⟨57, _⟩ => ⟨S6x16384, .i1⟩
  | .hbm, ⟨58, _⟩ => ⟨S_, .f32⟩
  | .hbm, ⟨59, _⟩ => ⟨S6x16384, .f32⟩
  | .hbm, ⟨60, _⟩ => ⟨S6x16384, .i1⟩
  | .hbm, ⟨61, _⟩ => ⟨S_, .f32⟩
  | .hbm, ⟨62, _⟩ => ⟨S6x16384, .f32⟩
  | .hbm, ⟨63, _⟩ => ⟨S_, .f32⟩
  | .hbm, ⟨64, _⟩ => ⟨S6x16384, .f32⟩
  | .hbm, ⟨65, _⟩ => ⟨S_, .f32⟩
  | .hbm, ⟨66, _⟩ => ⟨S6x16384, .f32⟩
  | .hbm, ⟨67, _⟩ => ⟨S6x16384, .f32⟩
  | .hbm, ⟨68, _⟩ => ⟨S6x16384, .f32⟩
  | .hbm, ⟨69, _⟩ => ⟨S6x16384x1, .f32⟩
  | .hbm, ⟨70, _⟩ => ⟨S6x16384x16384, .f32⟩
  | .hbm, ⟨71, _⟩ => ⟨S6x16384x16384, .f32⟩
  | .hbm, ⟨72, _⟩ => ⟨S6x16384x16384, .f32⟩
  | .hbm, ⟨73, _⟩ => ⟨S_, .f32⟩
  | .hbm, ⟨74, _⟩ => ⟨S6x16384, .f32⟩
  | .hbm, ⟨75, _⟩ => ⟨S6x16384x1, .f32⟩
  | .hbm, ⟨76, _⟩ => ⟨S6x16384x16384, .f32⟩
  | .hbm, ⟨77, _⟩ => ⟨S6x16384x16384, .f32⟩
  | .hbm, ⟨78, _⟩ => ⟨S6x16384x1, .f32⟩
  | .hbm, ⟨79, _⟩ => ⟨S_, .f32⟩
  | .hbm, ⟨80, _⟩ => ⟨S6x16384x1, .f32⟩
  | .hbm, ⟨81, _⟩ => ⟨S6x16384x1, .f32⟩
  | .hbm, ⟨82, _⟩ => ⟨S6x128x16384, .f32⟩
  | .hbm, ⟨83, _⟩ => ⟨S16384x6x128, .f32⟩
  | .hbm, ⟨84, _⟩ => ⟨S16384x768, .f32⟩
  | .hbm, ⟨85, _⟩ => ⟨S16384x6x128, .f32⟩
  | .hbm, ⟨86, _⟩ => ⟨S6x128x16384, .f32⟩
  | .hbm, ⟨87, _⟩ => ⟨S6x16384x16384, .f32⟩
  | .hbm, ⟨88, _⟩ => ⟨S6x128x16384, .f32⟩
  | .hbm, ⟨89, _⟩ => ⟨S16384x6x128, .f32⟩
  | .hbm, ⟨90, _⟩ => ⟨S6x16384x16384, .f32⟩
  | .hbm, ⟨91, _⟩ => ⟨S6x16384x16384, .f32⟩
  | .hbm, ⟨92, _⟩ => ⟨S6x16384x16384, .f32⟩
  | .hbm, ⟨93, _⟩ => ⟨S_, .f32⟩
  | .hbm, ⟨94, _⟩ => ⟨S6x16384, .f32⟩
  | .hbm, ⟨95, _⟩ => ⟨S6x16384x1, .f32⟩
  | .hbm, ⟨96, _⟩ => ⟨S6x16384x1, .f32⟩
  | .hbm, ⟨97, _⟩ => ⟨S6x16384x16384, .f32⟩
  | .hbm, ⟨98, _⟩ => ⟨S6x16384x16384, .f32⟩
  | .hbm, ⟨99, _⟩ => ⟨S_, .f32⟩
  | .hbm, ⟨100, _⟩ => ⟨S6x16384, .f32⟩
  | .hbm, ⟨101, _⟩ => ⟨S6x16384x16384, .f32⟩
  | .hbm, ⟨102, _⟩ => ⟨S6x16384x16384, .f32⟩
  | .hbm, ⟨103, _⟩ => ⟨S6x16384x16384, .f32⟩
  | .hbm, ⟨104, _⟩ => ⟨S_, .f32⟩
  | .hbm, ⟨105, _⟩ => ⟨S6x16384x16384, .f32⟩
  | .hbm, ⟨106, _⟩ => ⟨S6x16384x16384, .f32⟩
  | .hbm, ⟨107, _⟩ => ⟨S_, .f32⟩
  | .hbm, ⟨108, _⟩ => ⟨S6x16384x16384, .f32⟩
  | .hbm, ⟨109, _⟩ => ⟨S6x16384x16384, .f32⟩
  | .hbm, ⟨110, _⟩ => ⟨S16384x16384x6, .f32⟩
  | .hbm, ⟨111, _⟩ => ⟨S16384x6x64, .f32⟩
  | .hbm, ⟨112, _⟩ => ⟨S16384x64, .f32⟩
  | .hbm, ⟨113, _⟩ => ⟨S6x16384x128, .f32⟩
  | .hbm, ⟨114, _⟩ => ⟨S16384x6x128, .f32⟩
  | .hbm, ⟨115, _⟩ => ⟨S6x16384x128, .f32⟩
  | .hbm, ⟨116, _⟩ => ⟨S16384x6x128, .f32⟩
  | _, _ => ⟨S16384x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_v0 : Ref sig .tc := ⟨.hbm, 38, rfl⟩
abbrev main_v13_1 : Ref sig .tc := ⟨.hbm, 39, rfl⟩
abbrev main_call1_v2 : Ref sig .tc := ⟨.hbm, 40, rfl⟩
abbrev main_v13_0 : Ref sig .tc := ⟨.hbm, 41, rfl⟩
abbrev main_call1_cst : Ref sig .tc := ⟨.hbm, 42, rfl⟩
abbrev main_v13_2 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_11 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_12 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_call2_cst : Ref sig .tc := ⟨.hbm, 104, rfl⟩
abbrev main_call2_v0 : Ref sig .tc := ⟨.hbm, 105, rfl⟩
abbrev main_v62 : Ref sig .tc := ⟨.hbm, 106, rfl⟩
abbrev main_cst_13 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S16384x2816 : Shape := ⟨2, ![16384, 2816]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x2816 : Shape := ⟨2, ![512, 2816]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x1024, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .bf16⟩
  | .hbm, ⟨8, _⟩ => ⟨S16384x2816, .bf16⟩
  | .hbm, ⟨9, _⟩ => ⟨S1024x4x1408, .f32⟩
  | .hbm, ⟨10, _⟩ => ⟨S4x1024x1408, .f32⟩
  | .hbm, ⟨11, _⟩ => ⟨S4x1024x1408, .bf16⟩
  | .hbm, ⟨12, _⟩ => ⟨S1x1024, .f32⟩
  | .hbm, ⟨13, _⟩ => ⟨S16384x1024, .f32⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x1024, .f32⟩
  | .hbm, ⟨4, _⟩ => ⟨S16384x5632, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S16384x1024 : Shape := ⟨2, ![16384, 1024]⟩
abbrev S16384x2816 : Shape := ⟨2, ![16384, 2816]⟩
abbrev S_ : Shape := ⟨0, ![]⟩
abbrev S4x1x1024x1408 : Shape := ⟨4, ![4, 1, 1024, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S4x1x1024x1408, .f32⟩
  | .hbm, ⟨4, _⟩ => ⟨S16384x1024, .bf16⟩
  | .hbm, ⟨5, _⟩ => ⟨S16384x2816, .bf16⟩
  | .hbm, ⟨6, _⟩ => ⟨S4x1x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .f32⟩
  | .local _ .vmem, ⟨5, _⟩ => ⟨S1x1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x1024 : Shape := ⟨2, ![16384, 1024]⟩
abbrev S16384x2816 : Shape := ⟨2, ![16384, 2816]⟩
abbrev S_ : Shape := ⟨0, ![]⟩
abbrev S4x1x1024x1408 : Shape := ⟨4, ![4, 1, 1024, 1408]⟩
abbrev S2x1x1024x1408 : Shape := ⟨4, ![2, 1, 1024, 1408]⟩
abbrev S2x1024x1408 : Shape := ⟨3, ![2, 1024, 1408]⟩
abbrev S1024x2x1408 : Shape := ⟨3, ![1024, 2, 1408]⟩
abbrev S1024x2816 : Shape := ⟨2, ![1024, 2816]⟩
abbrev S2816x1024 : Shape := ⟨2, ![2816, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S4x1x1024x1408, .f32⟩
  | .hbm, ⟨4, _⟩ => ⟨S2x1x1024x1408, .f32⟩
  | .hbm, ⟨5, _⟩ => ⟨S2x1024x1408, .f32⟩
  | .hbm, ⟨6, _⟩ => ⟨S1024x2x1408, .f32⟩
  | .hbm, ⟨7, _⟩ => ⟨S1024x2816, .f32⟩
  | .hbm, ⟨8, _⟩ => ⟨S16384x2816, .f32⟩
  | .hbm, ⟨9, _⟩ => ⟨S2816x1024, .f32⟩
  | .hbm, ⟨10, _⟩ => ⟨S1024x2816, .f32⟩
  | .hbm, ⟨11, _⟩ => ⟨S1024x2x1408, .f32⟩
  | .hbm, ⟨12, _⟩ => ⟨S2x1024x1408, .f32⟩
  | .hbm, ⟨13, _⟩ => ⟨S2x1x1024x1408, .f32⟩
  | .hbm, ⟨14, _⟩ => ⟨S_, .f32⟩
  | .hbm, ⟨15, _⟩ => ⟨S4x1x1024x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S_ : Shape := ⟨0, ![]⟩
abbrev S4x1x1024x1408 : Shape := ⟨4, ![4, 1, 1024, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S4x1x1024x1408, .f32⟩
  | .hbm, ⟨4, _⟩ => ⟨S16384x1024, .bf16⟩
  | .hbm, ⟨5, _⟩ => ⟨S16384x2816, .bf16⟩
  | .hbm, ⟨6, _⟩ => ⟨S4x1x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .f32⟩
  | .local _ .vmem, ⟨5, _⟩ => ⟨S1x1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S16384x1024 : Shape := ⟨2, ![16384, 1024]⟩
abbrev S16384x2816 : Shape := ⟨2, ![16384, 2816]⟩
abbrev S_ : Shape := ⟨0, ![]⟩
abbrev S4x1x1024x1408 : Shape := ⟨4, ![4, 1, 1024, 1408]⟩
abbrev S2x1x1024x1408 : Shape := ⟨4, ![2, 1, 1024, 1408]⟩
abbrev S2x1024x1408 : Shape := ⟨3, ![2, 1024, 1408]⟩
abbrev S1024x2x1408 : Shape := ⟨3, ![1024, 2, 1408]⟩
abbrev S1024x2816 : Shape := ⟨2, ![1024, 2816]⟩
abbrev S2816x1024 : Shape := ⟨2, ![2816, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S4x1x1024x1408, .f32⟩
  | .hbm, ⟨4, _⟩ => ⟨S2x1x1024x1408, .f32⟩
  | .hbm, ⟨5, _⟩ => ⟨S2x1024x1408, .f32⟩
  | .hbm, ⟨6, _⟩ => ⟨S1024x2x1408, .f32⟩
  | .hbm, ⟨7, _⟩ => ⟨S1024x2816, .f32⟩
  | .hbm, ⟨8, _⟩ => ⟨S16384x2816, .f32⟩
  | .hbm, ⟨9, _⟩ => ⟨S2816x1024, .f32⟩
  | .hbm, ⟨10, _⟩ => ⟨S1024x2816, .f32⟩
  | .hbm, ⟨11, _⟩ => ⟨S1024x2x1408, .f32⟩
  | .hbm, ⟨12, _⟩ => ⟨S2x1024x1408, .f32⟩
  | .hbm, ⟨13, _⟩ => ⟨S2x1x1024x1408, .f32⟩
  | .hbm, ⟨14, _⟩ => ⟨S_, .f32⟩
  | .hbm, ⟨15, _⟩ => ⟨S4x1x1024x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S_ : Shape := ⟨0, ![]⟩
abbrev S4x1x704x1024 : Shape := ⟨4, ![4, 1, 704, 1024]⟩
abbrev S1024x1408 : Shape := ⟨2, ![1024, 1408]⟩
abbrev S1024x1024 : Shape := ⟨2, ![1024, 1024]⟩
abbrev S2x1x704x1024 : Shape := ⟨4, ![2, 1, 704, 1024]⟩
abbrev S2x704x1024 : Shape := ⟨3, ![2, 704, 1024]⟩
abbrev S1408x1024 : Shape := ⟨2, ![1408, 1024]⟩
abbrev S1x1x704x1024 : Shape := ⟨4, ![1, 1, 704, 1024]⟩
abbrev S704x1024 : Shape := ⟨2, ![704, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S4x1x704x1024, .f32⟩
  | .hbm, ⟨4, _⟩ => ⟨S16384x2816, .bf16⟩
  | .hbm, ⟨5, _⟩ => ⟨S4x1x704x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S2x1x704x1024, .f32⟩
  | .local _ .vmem, ⟨5, _⟩ => ⟨S2x1x704x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S16384x2816 : Shape := ⟨2, ![16384, 2816]⟩
abbrev S16384x1024 : Shape := ⟨2, ![16384, 1024]⟩
abbrev S_ : Shape := ⟨0, ![]⟩
abbrev S4x1x704x1024 : Shape := ⟨4, ![4, 1, 704, 1024]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S4x1x704x1024, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S1024x2816, .f32⟩
  | .hbm, ⟨13, _⟩ => ⟨S2816x1024, .f32⟩
  | .hbm, ⟨14, _⟩ => ⟨S4x1x704x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.WordBodyA.lean ====
module

public import proofs.«01_k».proof.Proof.Gen.Kernel.Frame
public import proofs.«01_k».proof.Proof.Gen.Kernel.Loops
public import proofs.«01_k».proof.Proof.Gen.Kernel.Skeleton

/-!
For any floating-point arithmetic: the body runs at a point of the grid whose group of key rows is the first, whatever the outputs hold.
-/

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2500000 in
/-- The body at a point whose group of key rows is the first. -/
theorem bodyA (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1536x512 .f32) (harg8 : arg8.IsWhole) (arg9 : Memref sig .tc .vmem S1536x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S16384x128 .f32) (harg13 : arg13.IsWhole) (arg14 : Memref sig .tc .vmem S16384x128 .f32) (harg14 : arg14.IsWhole) (arg15 : Memref sig .tc .vmem S2048x256 .f32) (harg15 : arg15.IsWhole) (arg16 : Memref sig .tc .vmem S2048x128 .f32) (harg16 : arg16.IsWhole) (hc0 : ((Scalar.cmpi .ne (Scalar.extui (Scalar.cmpi .eq (BitVec.ofNat 32 (i 1).val) 0#32)) 0#32) = 1#1))
    (x2 x3 x4 : Vec F S2048x128 .bf16) (x5 x6 x7 : Vec F S16384x128 .bf16) (x8 x9 : Vec F S1536x512 .f32) (E : Set ℕ) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ y, owns (c : Thread nD τ) arg10 fullShare y) ∗ (∃ y, owns (c : Thread nD τ) arg11 fullShare y) ∗ (∃ y, owns (c : Thread nD τ) arg12 fullShare y) ∗ (∃ y, owns (c : Thread nD τ) arg13 fullShare y) ∗ (∃ y, owns (c : Thread nD τ) arg14 fullShare y) ∗ (∃ y, owns (c : Thread nD τ) arg15 fullShare y) ∗ (∃ y, owns (c : Thread nD τ) arg16 fullShare y))
      ⊢ wp (M := 𝕄) frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ y, owns (c : Thread nD τ) arg10 fullShare y) ∗ (∃ y, owns (c : Thread nD τ) arg11 fullShare y) ∗ (∃ y, owns (c : Thread nD τ) arg12 fullShare y) ∗ (∃ y, owns (c : Thread nD τ) arg13 fullShare y) ∗ (∃ y, owns (c : Thread nD τ) arg14 fullShare y) ∗ (∃ y, owns (c : Thread nD τ) arg15 fullShare y) ∗ (∃ y, owns (c : Thread nD τ) arg16 fullShare y))) := by
  simp only [cc0_attn_bwd_eq_skeleton]; unfold cc0_attn_bwd_skel
  simp only [k0_part15_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%yf10, %f10, %hf10, H10⟩, ⟨%yf11, %f11, %hf11, H11⟩, ⟨%yf12, %f12, %hf12, H12⟩, ⟨%yf13, %f13, %hf13, H13⟩, ⟨%yf14, %f14, %hf14, H14⟩, ⟨%yf15, %f15, %hf15, H15⟩, ⟨%yf16, %f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc0)
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

end Cert.Kernel.Attn

end
-- ==== Proof.WordBodyB.lean ====
module

public import proofs.«01_k».proof.Proof.Gen.Kernel.Frame
public import proofs.«01_k».proof.Proof.Gen.Kernel.Loops
public import proofs.«01_k».proof.Proof.Gen.Kernel.Skeleton

/-!
For any floating-point arithmetic: the body runs at a point of the grid whose group of key rows is not the first, whatever the outputs hold.
-/

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2500000 in
/-- The body at a point whose group of key rows is not the first. -/
theorem bodyB (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1536x512 .f32) (harg8 : arg8.IsWhole) (arg9 : Memref sig .tc .vmem S1536x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S16384x128 .f32) (harg13 : arg13.IsWhole) (arg14 : Memref sig .tc .vmem S16384x128 .f32) (harg14 : arg14.IsWhole) (arg15 : Memref sig .tc .vmem S2048x256 .f32) (harg15 : arg15.IsWhole) (arg16 : Memref sig .tc .vmem S2048x128 .f32) (harg16 : arg16.IsWhole) (hc0 : ¬((Scalar.cmpi .ne (Scalar.extui (Scalar.cmpi .eq (BitVec.ofNat 32 (i 1).val) 0#32)) 0#32) = 1#1))
    (x2 x3 x4 : Vec F S2048x128 .bf16) (x5 x6 x7 : Vec F S16384x128 .bf16) (x8 x9 : Vec F S1536x512 .f32) (E : Set ℕ) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ y, owns (c : Thread nD τ) arg10 fullShare y) ∗ (∃ y, owns (c : Thread nD τ) arg11 fullShare y) ∗ (∃ y, owns (c : Thread nD τ) arg12 fullShare y) ∗ (∃ y, owns (c : Thread nD τ) arg13 fullShare y) ∗ (∃ y, owns (c : Thread nD τ) arg14 fullShare y) ∗ (∃ y, owns (c : Thread nD τ) arg15 fullShare y) ∗ (∃ y, owns (c : Thread nD τ) arg16 fullShare y))
      ⊢ wp (M := 𝕄) frame (wpE (defs₀ (F := F)) Variants.none c none) E (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ y, owns (c : Thread nD τ) arg10 fullShare y) ∗ (∃ y, owns (c : Thread nD τ) arg11 fullShare y) ∗ (∃ y, owns (c : Thread nD τ) arg12 fullShare y) ∗ (∃ y, owns (c : Thread nD τ) arg13 fullShare y) ∗ (∃ y, owns (c : Thread nD τ) arg14 fullShare y) ∗ (∃ y, owns (c : Thread nD τ) arg15 fullShare y) ∗ (∃ y, owns (c : Thread nD τ) arg16 fullShare y))) := by
  simp only [cc0_attn_bwd_eq_skeleton]; unfold cc0_attn_bwd_skel
  simp only [k0_part15_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%yf10, %f10, %hf10, H10⟩, ⟨%yf11, %f11, %hf11, H11⟩, ⟨%yf12, %f12, %hf12, H12⟩, ⟨%yf13, %f13, %hf13, H13⟩, ⟨%yf14, %f14, %hf14, H14⟩, ⟨%yf15, %f15, %hf15, H15⟩, ⟨%yf16, %f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc0)
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  isplitl [H15]
  · iexists _; iexists _; isplitr; swap; · iexact H15
    ipureintro; rfl
  iexists _; iexists _; isplitr; swap; · iexact H16
  ipureintro; rfl

end Cert.Kernel.Attn

end
-- ==== Proof.Word.lean ====
module

public import proofs.«01_k».proof.Proof.WordBodyA
public import proofs.«01_k».proof.Proof.WordBodyB
public import Idealize.ShloMosaic.Lib.Claim

/-!
For any floating-point arithmetic: the launch runs to its end and leaves the arguments alone. The outputs are not named: nothing is said of what they hold.
-/

@[expose] public section

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of the outputs. -/
def outs : Fin 13 → Bool := fun w => 8 ≤ w.val

/-- The proof data: each input window holds its block of its array at every point; of the outputs nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by dsimp only [dats]

/-- After a point and before it, each input window holds its block. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The staging memref of window 0 at a point. -/
abbrev ms_0 (t : Fin cfg0.N) : Memref sig .tc .vmem S2048x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x128 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S16384x128 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S16384x128 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S16384x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1536x512 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1536x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S2048x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S2048x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S2048x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S16384x128 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S16384x128 .f32 := win0_12.stage (cfg0.slots t 12)
abbrev hs_12 (t : Fin cfg0.N) : (ms_12 t).IsWhole := hstage0_12 ((cfg0.slots t 12).cast nbuf0_12)

/-- The two accumulators of the key side. -/
abbrev sc_0 : Memref sig .tc .vmem S2048x256 .f32 := Memref.whole cc0_scratch0
abbrev sc_1 : Memref sig .tc .vmem S2048x128 .f32 := Memref.whole cc0_scratch1

theorem rest_eq (c : Dev nD) : (Pipeline.ΦA spec0 c : sProp 𝕄)
    = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-- The body's branch is taken at a head's first point. -/
theorem branch (t : Fin cfg0.N) : (Scalar.cmpi .ne (Scalar.extui (Scalar.cmpi .eq (BitVec.ofNat 32 (grid0.coords t 1).val) 0#32)) 0#32) = 1#1 ↔ t.val % 8 = 0 := by
  have ht : t.val < 48 := Nat.lt_of_lt_of_eq t.isLt N_0
  have e1 : (grid0.coords t 1).val = t.val / 1 % 8 := Pipeline.Grid.coords_val t 1 (by decide) rfl
  simp only [e1]
  word_cmp

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare d)
    ∗ (∃ d, owns (c : Thread nD τ) (ms_9 t) fullShare d)
    ∗ (∃ d, owns (c : Thread nD τ) (ms_10 t) fullShare d)
    ∗ (∃ d, owns (c : Thread nD τ) (ms_11 t) fullShare d)
    ∗ (∃ d, owns (c : Thread nD τ) (ms_12 t) fullShare d))
/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ (∃ d, owns (c : Thread nD τ) (ms_8 t) fullShare d)
    ∗ (∃ d, owns (c : Thread nD τ) (ms_9 t) fullShare d)
    ∗ (∃ d, owns (c : Thread nD τ) (ms_10 t) fullShare d)
    ∗ (∃ d, owns (c : Thread nD τ) (ms_11 t) fullShare d)
    ∗ (∃ d, owns (c : Thread nD τ) (ms_12 t) fullShare d))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, rest_eq]
  by_cases h0 : t.val % 8 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
    iapply wp_wand_r
    isplitl [H0 H1 H2 H3 H4 H5 H6 H7 H8 H9 H10 H11 H12 HS0 HS1]
    · iapply (bodyA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) sc_0 (Memref.isWhole_whole _) sc_1 (Memref.isWhole_whole _) ((branch t).mpr h0) (iblk m c 0 t) (iblk m c 1 t) (iblk m c 2 t) (iblk m c 3 t) (iblk m c 4 t) (iblk m c 5 t) (iblk m c 6 t) (iblk m c 7 t) Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iexact HS1
    iintro %_ ⟨H0, H1, H2, H3, H4, H5, H6, H7, H8, H9, H10, H11, H12, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
    iapply wp_wand_r
    isplitl [H0 H1 H2 H3 H4 H5 H6 H7 H8 H9 H10 H11 H12 HS0 HS1]
    · iapply (bodyB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) sc_0 (Memref.isWhole_whole _) sc_1 (Memref.isWhole_whole _) (fun h => h0 ((branch t).mp h)) (iblk m c 0 t) (iblk m c 1 t) (iblk m c 2 t) (iblk m c 3 t) (iblk m c 4 t) (iblk m c 5 t) (iblk m c 6 t) (iblk m c 7 t) Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iexact HS1
    iintro %_ ⟨H0, H1, H2, H3, H4, H5, H6, H7, H8, H9, H10, H11, H12, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body the pipeline calls at a point. -/
theorem defs_row (t : Fin cfg0.N) : defs₀ (F := F) .tc cfg0.body (cfg0.bodyArgs t (cfg0.slots t)) = bodyAt0 t := by
  unfold defs₀; rw [Defs.onTc_tc]

/-- The body meets what the launch asks of it. -/
theorem body_obligation (c : Dev nD) : BodyObligation (dats m 0 c) (defs₀ (F := F)) Variants.none () Set.univ outs := fun t => by
  rw [bigSep_W0, bigSep_W0, defs_row]
  exact triple_restated (sound_body m c t) rfl .rfl fun _ => .rfl

/-- The buffers the host lines after the region write. -/
def written : Finset (Ref sig .tc) :=
  {main_cst_7, main_cst_8, main_cst_9, main_v58, main_v59, main_v60, main_v61, main_v62, main_v63, main_v64, main_v65, main_v66, main_v67, main_v68,
    main_v69}

/-- They write no other. -/
theorem written_all : ∀ ops ∈ ([hostOps1] : List (List (HloOp τ sig (Elt F)))), ∀ op ∈ ops,
    ∀ b : Ref sig .tc, Proc.devRef .tc b ∈ op.writes → b ∈ written := by
  intro ops hops op hop b hb
  obtain rfl := List.mem_singleton.mp hops
  simp only [hostOps1, List.mem_cons, List.mem_nil_iff, or_false] at hop
  rcases hop with rfl | rfl | rfl | rfl | rfl | rfl | rfl | rfl | rfl | rfl | rfl | rfl | rfl | rfl | rfl
  all_goals
    simp only [StableHlo.nullary_writes, StableHlo.unary_writes, StableHlo.binary_writes, StableHlo.ternary_writes, StableHlo.reshape_writes,
      Finset.mem_singleton] at hb
    cases Proc.devRef_injective _ hb
    decide

set_option backward.isDefEq.respectTransparency.types false in
set_option maxHeartbeats 800000 in
/-- The launch: every execution ends, every buffer but the outputs and those computed from them as the region finds it, and every
    counter at zero. -/
theorem run_main : θ_run defs (onTc (τ := τ) (main (F := F))) (s₀ m ρ)
    (fun r => Pipeline.RDat.FramePostR (cfgs 0) (fun c => (dats m 0 c).toRForget outs) written (V m) r ∧ r.2.sem = fun _ => 0) :=
  Pipeline.θ_run_frame_around_T_forget_shared (Q' := _) cfgs (dats m) (0 : Fin 1) launch₀0 defs₀ Variants.none outs written m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hT := written_all) (hmain := hmain m Variants.none) (hA := A_eq m)
    (hΦ := fun _ _ => rfl)

/-- A buffer that no window stages and no later line writes ends as the region finds it. -/
theorem kept {r : PUnit × MemSt nD τ sig (Elt F)} (h : Pipeline.RDat.FramePostR (cfgs 0) (fun c => (dats m 0 c).toRForget outs) written (V m) r)
    (c : Dev nD) (b : Ref sig .tc) (hr : b ∈ Pipeline.restRefs sig (cfgs 0).spec) (hw : b ∉ written) :
    r.2.mem ((c.tc : Thread nD τ).loc b) = V m c b :=
  (h c).2 b (Finset.mem_sdiff.mpr ⟨hr, hw⟩)

/-- The arguments end as they were, and every counter at zero. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun _ h => ⟨fun c =>
    ⟨(kept m h.1 c main_arg0 (Pipeline.mem_restRefs_of main_arg0 (by decide) (by decide)) (by decide)).trans (V_main_arg0 m c),
      (kept m h.1 c main_arg1 (Pipeline.mem_restRefs_of main_arg1 (by decide) (by decide)) (by decide)).trans (V_main_arg1 m c),
      (kept m h.1 c main_arg2 (Pipeline.mem_restRefs_of main_arg2 (by decide) (by decide)) (by decide)).trans (V_main_arg2 m c),
      (kept m h.1 c main_arg3 (Pipeline.mem_restRefs_of main_arg3 (by decide) (by decide)) (by decide)).trans (V_main_arg3 m c),
      (kept m h.1 c main_arg4 (Pipeline.mem_restRefs_of main_arg4 (by decide) (by decide)) (by decide)).trans (V_main_arg4 m c),
      (kept m h.1 c main_arg5 (Pipeline.mem_restRefs_of main_arg5 (by decide) (by decide)) (by decide)).trans (V_main_arg5 m c)⟩, h.2⟩) (run_main m ρ)

end Cert.Kernel.Attn

end
-- ==== Proof.Spec.lean ====
module

public import Idealize.ShloMosaic.Lib.Pointwise
public import Idealize.ShloMosaic.Lib.VecWindow
public import Idealize.ShloMosaic.PureOps.Ideal

/-!
What one grid point of the attention gradient accumulates, written with plain sums.

A grid point works for one head and 2048 key rows (the `j`-th group of 2048); it walks the blocks of 512 queries
`m = 4 j, 4 j + 1, …, 31`.  The first four of them are the blocks on the diagonal, where the chunk mask cuts.
-/

@[expose] public section

set_option maxRecDepth 16384

noncomputable section

namespace Cert.Attn

open Idealize.ShloMosaic

/-- A matrix of `n` rows and `k` columns over the extended reals. -/
abbrev Mat (n k : ℕ) : Type := (⟨2, ![n, k]⟩ : Shape).Idx → EReal

/-- Every index of a matrix is a row and a column. -/
theorem idx_eq {n k : ℕ} (i : (⟨2, ![n, k]⟩ : Shape).Idx) : ∃ (r : Fin n) (d : Fin k), i = ix2 r d :=
  ⟨⟨(i 0).val, (i 0).isLt⟩, ⟨(i 1).val, (i 1).isLt⟩, by
    funext a; apply Fin.ext
    match a with
    | ⟨0, _⟩ => rfl
    | ⟨1, _⟩ => rfl⟩

/-- A sum whose terms vanish from `n` on is the sum of the first `n` terms. -/
theorem sum_first {n N : ℕ} (hn : n ≤ N) (f : Fin N → EReal) (h : ∀ r : Fin N, n ≤ r.val → f r = 0) :
    ∑ r : Fin N, f r = ∑ r : Fin n, f ⟨r.val, by omega⟩ := by
  obtain ⟨k, rfl⟩ := Nat.exists_eq_add_of_le hn
  rw [Fin.sum_univ_add, Finset.sum_eq_zero (f := fun i : Fin k => f (Fin.natAdd n i)), add_zero]
  · rfl
  · exact fun r _ => h _ (by simp)

/-- The sum of `f` over the queries of the first `n` blocks of 512. -/
def upto (n : ℕ) (f : Fin 16384 → EReal) : EReal :=
  ∑ k ∈ Finset.range (512 * n), if h : k < 16384 then f ⟨k, h⟩ else 0

/-- One more block of 512 queries. -/
theorem upto_succ (m : ℕ) (hm : m < 32) (f : Fin 16384 → EReal) :
    upto (m + 1) f = upto m f + ∑ g : Fin 512, f ⟨512 * m + g.val, by omega⟩ := by
  unfold upto
  rw [show 512 * (m + 1) = 512 * m + 512 by omega, Finset.sum_range_add, Finset.sum_range (n := 512)]
  refine congrArg₂ (· + ·) rfl (Finset.sum_congr rfl fun g _ => ?_)
  rw [dif_pos (by omega)]

/-- All 32 blocks are all the queries. -/
theorem upto_all (f : Fin 16384 → EReal) : upto 32 f = ∑ g : Fin 16384, f g := by
  unfold upto
  rw [show 512 * 32 = 16384 by rfl, Finset.sum_range]
  exact Finset.sum_congr rfl fun g _ => by rw [dif_pos g.isLt]

/-- Blocks whose terms vanish add nothing. -/
theorem upto_zero (n : ℕ) (f : Fin 16384 → EReal) (h : ∀ g : Fin 16384, g.val < 512 * n → f g = 0) : upto n f = 0 := by
  unfold upto
  refine Finset.sum_eq_zero fun k hk => ?_
  have hk' := Finset.mem_range.mp hk
  split
  · exact h _ hk'
  · rfl

/-! ## One block of 512 queries against `n` key rows -/

section Block

variable {n : ℕ} (u : ℕ) (k1 k2 v : Mat n 128) (q1 q2 dO : Mat 512 128) (l D : Mat 1 512)

/-- The probability of key row `r` at query `g` of the block whose first query stands `512 u` after the first key row:
    the exponential of the score less the query's log-sum, zero where the key's chunk of 64 is after the query's. -/
def bp (r : Fin n) (g : Fin 512) : EReal :=
  if r.val / 64 ≤ (g.val + 512 * u) / 64 then
    Ideal.exp (∑ e : Fin 128, k1 (ix2 r e) * q1 (ix2 g e) + ∑ e : Fin 128, k2 (ix2 r e) * q2 (ix2 g e) - l (ix2 0 g))
  else 0

/-- The gradient of the score: the probability times (its own gradient less the query's row sum). -/
def bds (r : Fin n) (g : Fin 512) : EReal :=
  bp u k1 k2 q1 q2 l r g * (∑ e : Fin 128, v (ix2 r e) * dO (ix2 g e) - D (ix2 0 g))

end Block

/-! ## A whole grid point -/

section Point

variable (j : ℕ) (k1 k2 v : Mat 2048 128) (q1 q2 dO : Mat 16384 128) (L D : Fin 16384 → EReal)

/-- The probability of key row `r` of group `j` at query `g`. -/
def P (r : Fin 2048) (g : Fin 16384) : EReal :=
  if (2048 * j + r.val) / 64 ≤ g.val / 64 then
    Ideal.exp (∑ e : Fin 128, k1 (ix2 r e) * q1 (ix2 g e) + ∑ e : Fin 128, k2 (ix2 r e) * q2 (ix2 g e) - L g)
  else 0

/-- The gradient of that score. -/
def DS (r : Fin 2048) (g : Fin 16384) : EReal :=
  P j k1 k2 q1 q2 L r g * (∑ e : Fin 128, v (ix2 r e) * dO (ix2 g e) - D g)

/-- The values' gradient after the blocks before `m`. -/
def dvAt (m : ℕ) : Mat 2048 128 := fun i =>
  upto m fun g => P j k1 k2 q1 q2 L ⟨(i 0).val, (i 0).isLt⟩ g * dO (ix2 g ⟨(i 1).val, (i 1).isLt⟩)

/-- The gradients of both halves of the keys, side by side, after the blocks before `m`. -/
def dkAt (m : ℕ) : Mat 2048 256 := fun i =>
  upto m fun g => DS j k1 k2 v q1 q2 dO L D ⟨(i 0).val, (i 0).isLt⟩ g
    * (if h : (i 1).val < 128 then q1 (ix2 g ⟨(i 1).val, h⟩) else q2 (ix2 g ⟨(i 1).val - 128, by have : (i 1).val < 256 := (i 1).isLt; omega⟩))

/-- The queries' gradient (against the keys' half `kk`) after the blocks before `m`, starting from `y`. -/
def dqAt (kk : Mat 2048 128) (y : Mat 16384 128) (m : ℕ) : Mat 16384 128 := fun i =>
  y i + if (i 0).val < 512 * m then
    ∑ r : Fin 2048, DS j k1 k2 v q1 q2 dO L D r ⟨(i 0).val, (i 0).isLt⟩ * kk (ix2 r ⟨(i 1).val, (i 1).isLt⟩) else 0

variable {j k1 k2 v q1 q2 dO L D}

theorem P_before {r : Fin 2048} {g : Fin 16384} (h : g.val < 2048 * j) : P j k1 k2 q1 q2 L r g = 0 := by
  unfold P; rw [if_neg (by omega)]

theorem DS_of_P {r : Fin 2048} {g : Fin 16384} (h : P j k1 k2 q1 q2 L r g = 0) : DS j k1 k2 v q1 q2 dO L D r g = 0 := by
  unfold DS; rw [h, zero_mul]

/-- Before the first block the values' gradient is zero, -/
theorem dvAt_start : dvAt j k1 k2 q1 q2 dO L (4 * j) = fun _ => 0 := by
  funext i
  exact upto_zero _ _ fun g hg => by rw [P_before (by omega), zero_mul]

/-- so is the keys', -/
theorem dkAt_start : dkAt j k1 k2 v q1 q2 dO L D (4 * j) = fun _ => 0 := by
  funext i
  exact upto_zero _ _ fun g hg => by rw [DS_of_P (P_before (by omega)), zero_mul]

/-- and nothing has been added to the queries'. -/
theorem dqAt_start (kk : Mat 2048 128) (y : Mat 16384 128) : dqAt j k1 k2 v q1 q2 dO L D kk y (4 * j) = y := by
  funext i
  unfold dqAt
  split
  · rename_i h
    rw [Finset.sum_eq_zero, add_zero]
    intro r _
    rw [DS_of_P (P_before (by show (i 0).val < _; omega)), zero_mul]
  · rw [add_zero]

/-- The rows of block `m` are as they were before block `m`. -/
theorem dqAt_at (kk : Mat 2048 128) (y : Mat 16384 128) (m : ℕ) (g : Fin 16384) (d : Fin 128) (h : 512 * m ≤ g.val) :
    dqAt j k1 k2 v q1 q2 dO L D kk y m (ix2 g d) = y (ix2 g d) := by
  show y (ix2 g d) + (if g.val < 512 * m then _ else 0) = _
  rw [if_neg (by omega), add_zero]

/-! ### One block of the point -/

variable {n u m : ℕ} {k1b k2b vb : Mat n 128} {q1b q2b dOb : Mat 512 128} {lb Db : Mat 1 512}

/-- The block's arrays are the rows of the point's arrays: the first `n` key rows and the queries of block `m`, and the
    mask of the block is the mask of the point. -/
structure IsBlock (j : ℕ) (k1 k2 v : Mat 2048 128) (q1 q2 dO : Mat 16384 128) (L D : Fin 16384 → EReal)
    (n u m : ℕ) (k1b k2b vb : Mat n 128) (q1b q2b dOb : Mat 512 128) (lb Db : Mat 1 512) : Prop where
  hn : n ≤ 2048
  hm : m < 32
  mask : ∀ r g : ℕ, r < n → g < 512 → ((2048 * j + r) / 64 ≤ (512 * m + g) / 64 ↔ r / 64 ≤ (g + 512 * u) / 64)
  above : ∀ r g : ℕ, n ≤ r → r < 2048 → g < 512 → ¬ (2048 * j + r) / 64 ≤ (512 * m + g) / 64
  k1 : ∀ (r : Fin n) (e : Fin 128), k1b (ix2 r e) = k1 (ix2 ⟨r.val, by omega⟩ e)
  k2 : ∀ (r : Fin n) (e : Fin 128), k2b (ix2 r e) = k2 (ix2 ⟨r.val, by omega⟩ e)
  v : ∀ (r : Fin n) (e : Fin 128), vb (ix2 r e) = v (ix2 ⟨r.val, by omega⟩ e)
  q1 : ∀ (g : Fin 512) (e : Fin 128), q1b (ix2 g e) = q1 (ix2 ⟨512 * m + g.val, by omega⟩ e)
  q2 : ∀ (g : Fin 512) (e : Fin 128), q2b (ix2 g e) = q2 (ix2 ⟨512 * m + g.val, by omega⟩ e)
  dO : ∀ (g : Fin 512) (e : Fin 128), dOb (ix2 g e) = dO (ix2 ⟨512 * m + g.val, by omega⟩ e)
  l : ∀ g : Fin 512, lb (ix2 0 g) = L ⟨512 * m + g.val, by omega⟩
  D : ∀ g : Fin 512, Db (ix2 0 g) = D ⟨512 * m + g.val, by omega⟩

namespace IsBlock

variable (H : IsBlock j k1 k2 v q1 q2 dO L D n u m k1b k2b vb q1b q2b dOb lb Db)
include H

theorem bp_eq (r : Fin n) (g : Fin 512) :
    bp u k1b k2b q1b q2b lb r g = P j k1 k2 q1 q2 L ⟨r.val, by have := H.hn; omega⟩ ⟨512 * m + g.val, by have := H.hm; omega⟩ := by
  unfold bp P
  simp only [H.k1, H.k2, H.q1, H.q2, H.l, H.mask r.val g.val r.isLt g.isLt]

theorem bds_eq (r : Fin n) (g : Fin 512) :
    bds u k1b k2b vb q1b q2b dOb lb Db r g
      = DS j k1 k2 v q1 q2 dO L D ⟨r.val, by have := H.hn; omega⟩ ⟨512 * m + g.val, by have := H.hm; omega⟩ := by
  unfold bds DS
  rw [H.bp_eq]
  simp only [H.v, H.dO, H.D]

theorem P_above (r : Fin 2048) (hr : n ≤ r.val) (g : Fin 512) :
    P j k1 k2 q1 q2 L r ⟨512 * m + g.val, by have := H.hm; omega⟩ = 0 := by
  unfold P; rw [if_neg (H.above r.val g.val hr r.isLt g.isLt)]

/-- The block's store into the values' gradient takes it from the blocks before `m` to those up to `m`. -/
theorem dv_put (w : Mat n 128)
    (hw : ∀ (r : Fin n) (d : Fin 128), w (ix2 r d)
      = dvAt j k1 k2 q1 q2 dO L m (ix2 ⟨r.val, by have := H.hn; omega⟩ d) + ∑ g : Fin 512, bp u k1b k2b q1b q2b lb r g * dOb (ix2 g d)) :
    VecWindow.put (s := ⟨2, ![2048, 128]⟩) (dvAt j k1 k2 q1 q2 dO L m) ![0, 0] ![n, 128] w = dvAt j k1 k2 q1 q2 dO L (m + 1) := by
  funext i
  obtain ⟨r, d, rfl⟩ := idx_eq i
  have hn := H.hn
  have key : dvAt j k1 k2 q1 q2 dO L (m + 1) (ix2 r d) = dvAt j k1 k2 q1 q2 dO L m (ix2 r d)
      + ∑ g : Fin 512, P j k1 k2 q1 q2 L r ⟨512 * m + g.val, by have := H.hm; omega⟩ * dO (ix2 ⟨512 * m + g.val, by have := H.hm; omega⟩ d) :=
    upto_succ m H.hm _
  rw [key]
  unfold VecWindow.put
  split
  · rename_i h
    have hr : r.val < n := by have := (h 0).2; simpa using this
    refine (congrArg w (?_ : _ = ix2 (⟨r.val, hr⟩ : Fin n) d)).trans ((hw ⟨r.val, hr⟩ d).trans ?_)
    · funext a; apply Fin.ext
      match a with
      | ⟨0, _⟩ => rfl
      | ⟨1, _⟩ => rfl
    · refine congrArg₂ (· + ·) rfl (Finset.sum_congr rfl fun g _ => ?_)
      rw [H.bp_eq, H.dO]
  · rename_i h
    have hr : n ≤ r.val := by
      by_contra hc
      refine h fun a => ?_
      match a with
      | ⟨0, _⟩ => exact ⟨Nat.zero_le _, by show r.val < 0 + n; omega⟩
      | ⟨1, _⟩ => exact ⟨Nat.zero_le _, by show d.val < 0 + 128; omega⟩
    rw [Finset.sum_eq_zero, add_zero]
    intro g _
    rw [H.P_above r hr g, zero_mul]

/-- The same for the keys' gradient. -/
theorem dk_put (w : Mat n 256)
    (hw : ∀ (r : Fin n) (d : Fin 256), w (ix2 r d)
      = dkAt j k1 k2 v q1 q2 dO L D m (ix2 ⟨r.val, by have := H.hn; omega⟩ d)
        + ∑ g : Fin 512, bds u k1b k2b vb q1b q2b dOb lb Db r g
          * (if h : d.val < 128 then q1b (ix2 g ⟨d.val, h⟩) else q2b (ix2 g ⟨d.val - 128, by omega⟩))) :
    VecWindow.put (s := ⟨2, ![2048, 256]⟩) (dkAt j k1 k2 v q1 q2 dO L D m) ![0, 0] ![n, 256] w = dkAt j k1 k2 v q1 q2 dO L D (m + 1) := by
  funext i
  obtain ⟨r, d, rfl⟩ := idx_eq i
  have hn := H.hn
  have key : dkAt j k1 k2 v q1 q2 dO L D (m + 1) (ix2 r d) = dkAt j k1 k2 v q1 q2 dO L D m (ix2 r d)
      + ∑ g : Fin 512, DS j k1 k2 v q1 q2 dO L D r ⟨512 * m + g.val, by have := H.hm; omega⟩
        * (if h : d.val < 128 then q1 (ix2 ⟨512 * m + g.val, by have := H.hm; omega⟩ ⟨d.val, h⟩)
            else q2 (ix2 ⟨512 * m + g.val, by have := H.hm; omega⟩ ⟨d.val - 128, by omega⟩)) :=
    upto_succ m H.hm _
  rw [key]
  unfold VecWindow.put
  split
  · rename_i h
    have hr : r.val < n := by have := (h 0).2; simpa using this
    refine (congrArg w (?_ : _ = ix2 (⟨r.val, hr⟩ : Fin n) d)).trans ((hw ⟨r.val, hr⟩ d).trans ?_)
    · funext a; apply Fin.ext
      match a with
      | ⟨0, _⟩ => rfl
      | ⟨1, _⟩ => rfl
    · refine congrArg₂ (· + ·) rfl (Finset.sum_congr rfl fun g _ => ?_)
      rw [H.bds_eq]
      split
      · rw [H.q1]
      · rw [H.q2]
  · rename_i h
    have hr : n ≤ r.val := by
      by_contra hc
      refine h fun a => ?_
      match a with
      | ⟨0, _⟩ => exact ⟨Nat.zero_le _, by show r.val < 0 + n; omega⟩
      | ⟨1, _⟩ => exact ⟨Nat.zero_le _, by show d.val < 0 + 256; omega⟩
    rw [Finset.sum_eq_zero, add_zero]
    intro g _
    rw [DS_of_P (H.P_above r hr g), zero_mul]

/-- The block's sum over its `n` key rows is the point's over all of them. -/
theorem sum_rows (kb : Mat n 128) (kk : Mat 2048 128) (hk : ∀ (r : Fin n) (e : Fin 128), kb (ix2 r e) = kk (ix2 ⟨r.val, by have := H.hn; omega⟩ e))
    (g : Fin 512) (d : Fin 128) :
    ∑ r : Fin n, bds u k1b k2b vb q1b q2b dOb lb Db r g * kb (ix2 r d)
      = ∑ r : Fin 2048, DS j k1 k2 v q1 q2 dO L D r ⟨512 * m + g.val, by have := H.hm; omega⟩ * kk (ix2 r d) := by
  have hn := H.hn
  have hm := H.hm
  rw [sum_first hn]
  · exact Finset.sum_congr rfl fun r _ => by rw [H.bds_eq, hk]
  · intro r hr
    rw [DS_of_P (H.P_above r hr g), zero_mul]

/-- The block's store into the queries' gradient takes it from the blocks before `m` to those up to `m`. -/
theorem dq_put (kb : Mat n 128) (kk : Mat 2048 128) (hk : ∀ (r : Fin n) (e : Fin 128), kb (ix2 r e) = kk (ix2 ⟨r.val, by have := H.hn; omega⟩ e))
    (y : Mat 16384 128) (w : Mat 512 128)
    (hw : ∀ (g : Fin 512) (d : Fin 128), w (ix2 g d)
      = y (ix2 ⟨512 * m + g.val, by have := H.hm; omega⟩ d) + ∑ r : Fin n, bds u k1b k2b vb q1b q2b dOb lb Db r g * kb (ix2 r d)) :
    VecWindow.put (s := ⟨2, ![16384, 128]⟩) (dqAt j k1 k2 v q1 q2 dO L D kk y m) ![512 * m, 0] ![512, 128] w
      = dqAt j k1 k2 v q1 q2 dO L D kk y (m + 1) := by
  funext i
  obtain ⟨g, d, rfl⟩ := idx_eq i
  have hm := H.hm
  unfold VecWindow.put
  split
  · rename_i h
    have h1 : 512 * m ≤ g.val := (h 0).1
    have h2 : g.val < 512 * m + 512 := (h 0).2
    have hg : g = (⟨512 * m + (g.val - 512 * m), by omega⟩ : Fin 16384) := Fin.ext (by show g.val = 512 * m + (g.val - 512 * m); omega)
    refine (congrArg w (?_ : _ = ix2 (⟨g.val - 512 * m, by omega⟩ : Fin 512) d)).trans ((hw ⟨g.val - 512 * m, by omega⟩ d).trans ?_)
    · funext a; apply Fin.ext
      match a with
      | ⟨0, _⟩ => rfl
      | ⟨1, _⟩ => rfl
    · rw [H.sum_rows kb kk hk]
      show _ = y (ix2 g d) + if g.val < 512 * (m + 1) then ∑ r : Fin 2048, DS j k1 k2 v q1 q2 dO L D r g * kk (ix2 r d) else 0
      rw [if_pos (by omega)]
      simp only [← hg]
  · rename_i h
    have hr : ¬ (512 * m ≤ g.val ∧ g.val < 512 * m + 512) := by
      intro hc
      refine h fun a => ?_
      match a with
      | ⟨0, _⟩ => exact ⟨hc.1, hc.2⟩
      | ⟨1, _⟩ => exact ⟨Nat.zero_le _, by show d.val < 0 + 128; omega⟩
    show y (ix2 g d) + (if g.val < 512 * m then ∑ r : Fin 2048, DS j k1 k2 v q1 q2 dO L D r g * kk (ix2 r d) else 0)
      = y (ix2 g d) + (if g.val < 512 * (m + 1) then ∑ r : Fin 2048, DS j k1 k2 v q1 q2 dO L D r g * kk (ix2 r d) else 0)
    refine congrArg (y (ix2 g d) + ·) (if_congr ⟨fun _ => by omega, fun _ => by omega⟩ rfl rfl)

end IsBlock

end Point

end Cert.Attn

end
-- ==== Proof.Pay.lean ====
module

public import proofs.«01_k».proof.Proof.Gen.KernelIdeal.Skeleton
public import proofs.«01_k».proof.Proof.Spec

/-!
What each store of the kernel's body writes, element by element: the blocks of Spec.lean.
-/

@[expose] public section

set_option maxRecDepth 16384
set_option maxHeartbeats 1000000

noncomputable section

namespace Cert.KernelIdeal.Attn

open Idealize.ShloMosaic
open Cert.KernelIdeal.Gen Cert.Attn

/-- The body's division of a word by 64, rounded down: `x / 64`, less one where the signs differ and a remainder is left. -/
def fd (x : BitVec 32) : BitVec 32 :=
  Scalar.select
      (IntOp.andi
        (IntOp.cmpi CmpIPredicate.ne
          (IntOp.subi (BitVec.setWidth 32 (IntOp.cmpi CmpIPredicate.sgt x 0#32))
            (BitVec.setWidth 32 (IntOp.cmpi CmpIPredicate.slt x 0#32)))
          1#32)
        (IntOp.cmpi CmpIPredicate.ne (IntOp.remsi ArithUnit.vector x 64#32)
          0#32))
      (IntOp.subi (IntOp.divsi ArithUnit.vector x 64#32) 1#32)
      (IntOp.divsi ArithUnit.vector x 64#32)

/-- On the words below 2048 it is the natural division. -/
theorem fd_ofNat : ∀ n : Fin 2048, fd (BitVec.ofNat 32 n.val) = BitVec.ofNat 32 (n.val / 64) := by decide +kernel

theorem fd_nat (n : ℕ) (h : n < 2048) : fd (BitVec.ofNat 32 n) = BitVec.ofNat 32 (n / 64) := fd_ofNat ⟨n, h⟩

/-- The constant of the body's sign comparison. -/
theorem sgn64 : Scalar.subi (Scalar.extui (Scalar.cmpi CmpIPredicate.sgt 64#32 0#32))
            (Scalar.extui (Scalar.cmpi CmpIPredicate.slt 64#32 0#32)) = 1#32 := by decide
theorem sgn64' : Scalar.subi 1#32 (Scalar.extui (Scalar.cmpi CmpIPredicate.slt 64#32 0#32)) = 1#32 := by decide

theorem add_nat (a b : ℕ) : IntOp.addi (BitVec.ofNat 32 a) (BitVec.ofNat 32 b) = BitVec.ofNat 32 (a + b) := by
  show BitVec.ofNat 32 a + BitVec.ofNat 32 b = _
  rw [BitVec.ofNat_add]

/-- A choice by the comparison of two small words is the choice by the comparison of the numbers. -/
theorem sel_sle {α : Type} (a b : ℕ) (ha : a < 64) (hb : b < 64) (x y : α) :
    Scalar.select (IntOp.cmpi CmpIPredicate.sle (BitVec.ofNat 32 a) (BitVec.ofNat 32 b)) x y = if a ≤ b then x else y := by
  have key : ∀ a b : Fin 64, IntOp.cmpi CmpIPredicate.sle (BitVec.ofNat 32 a.val) (BitVec.ofNat 32 b.val) = if a.val ≤ b.val then 1#1 else 0#1 := by
    decide +kernel
  rw [key ⟨a, ha⟩ ⟨b, hb⟩]
  by_cases h : a ≤ b
  · rw [if_pos h, if_pos h]; rfl
  · rw [if_neg h, if_neg h]; rfl

/-- the first diagonal block: the store into the values' gradient. -/
theorem dv_first (q1 q2 dO : Vec Ideal S512x128 .bf16) (k1 k2 v : Vec Ideal S512x128 .bf16) (l D : Vec Ideal S1x512 .f32) (y : Vec Ideal S512x128 .f32) (r : Fin 512) (d : Fin 128) :
    k0_pay25 (k0_pay18 dO) (k0_pay20 (k0_pay17 q1 q2) (k0_pay19 k1 k2) (constant S512x512 .f32 0x00000000#32) l) k0_pay21 (iota .tc S512x512 32 [0] iota_S512x512_d0_w32) 64#32 k0_pay22 k0_pay23 1#32 0#32 y (ix2 r d) = y (ix2 r d) + ∑ g : Fin 512, bp (n := 512) 0 k1 k2 q1 q2 l r g * dO (ix2 g d) := by
  pointwise [k0_pay17, k0_pay18, k0_pay19, k0_pay20, k0_pay21, k0_pay22, k0_pay23, k0_pay24, k0_pay25, k0_pay26, k0_pay27, k0_pay28, k0_pay29, k0_pay30, k0_pay31]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the first diagonal block: the store into the keys' gradient. -/
theorem dk_first (q1 q2 dO : Vec Ideal S512x128 .bf16) (k1 k2 v : Vec Ideal S512x128 .bf16) (l D : Vec Ideal S1x512 .f32) (y : Vec Ideal S512x256 .f32) (r : Fin 512) (d : Fin 256) :
    k0_pay27 (k0_pay17 q1 q2) (k0_pay18 dO) (k0_pay20 (k0_pay17 q1 q2) (k0_pay19 k1 k2) (constant S512x512 .f32 0x00000000#32) l) k0_pay21 (iota .tc S512x512 32 [0] iota_S512x512_d0_w32) 64#32 k0_pay22 k0_pay23 1#32 0#32 v D y (ix2 r d) = y (ix2 r d) + ∑ g : Fin 512, bds (n := 512) 0 k1 k2 v q1 q2 dO l D r g
      * (if h : d.val < 128 then q1 (ix2 g ⟨d.val, h⟩) else q2 (ix2 g ⟨d.val - 128, by omega⟩)) := by
  pointwise [k0_pay17, k0_pay18, k0_pay19, k0_pay20, k0_pay21, k0_pay22, k0_pay23, k0_pay24, k0_pay25, k0_pay26, k0_pay27, k0_pay28, k0_pay29, k0_pay30, k0_pay31]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the first diagonal block: the store into the first half of the queries' gradient, -/
theorem dq1_first (q1 q2 dO : Vec Ideal S512x128 .bf16) (k1 k2 v : Vec Ideal S512x128 .bf16) (l D : Vec Ideal S1x512 .f32) (y : Vec Ideal S512x128 .f32) (g : Fin 512) (d : Fin 128) :
    k0_pay30 (k0_pay19 k1 k2) (k0_pay28 (k0_pay18 dO) (k0_pay20 (k0_pay17 q1 q2) (k0_pay19 k1 k2) (constant S512x512 .f32 0x00000000#32) l) k0_pay21 (iota .tc S512x512 32 [0] iota_S512x512_d0_w32) 64#32 k0_pay22 k0_pay23 1#32 0#32 v D) (constant S512x256 .f32 0x00000000#32) y (ix2 g d) = y (ix2 g d) + ∑ r : Fin 512, bds (n := 512) 0 k1 k2 v q1 q2 dO l D r g * k1 (ix2 r d) := by
  pointwise [k0_pay17, k0_pay18, k0_pay19, k0_pay20, k0_pay21, k0_pay22, k0_pay23, k0_pay24, k0_pay25, k0_pay26, k0_pay27, k0_pay28, k0_pay29, k0_pay30, k0_pay31]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- and into the second. -/
theorem dq2_first (q1 q2 dO : Vec Ideal S512x128 .bf16) (k1 k2 v : Vec Ideal S512x128 .bf16) (l D : Vec Ideal S1x512 .f32) (y : Vec Ideal S512x128 .f32) (g : Fin 512) (d : Fin 128) :
    k0_pay31 (k0_pay19 k1 k2) (k0_pay28 (k0_pay18 dO) (k0_pay20 (k0_pay17 q1 q2) (k0_pay19 k1 k2) (constant S512x512 .f32 0x00000000#32) l) k0_pay21 (iota .tc S512x512 32 [0] iota_S512x512_d0_w32) 64#32 k0_pay22 k0_pay23 1#32 0#32 v D) (constant S512x256 .f32 0x00000000#32) y (ix2 g d) = y (ix2 g d) + ∑ r : Fin 512, bds (n := 512) 0 k1 k2 v q1 q2 dO l D r g * k2 (ix2 r d) := by
  pointwise [k0_pay17, k0_pay18, k0_pay19, k0_pay20, k0_pay21, k0_pay22, k0_pay23, k0_pay24, k0_pay25, k0_pay26, k0_pay27, k0_pay28, k0_pay29, k0_pay30, k0_pay31]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the second diagonal block: the store into the values' gradient. -/
theorem dv_second (q1 q2 dO : Vec Ideal S512x128 .bf16) (k1 k2 v : Vec Ideal S1024x128 .bf16) (l D : Vec Ideal S1x512 .f32) (y : Vec Ideal S1024x128 .f32) (r : Fin 1024) (d : Fin 128) :
    k0_pay41 (k0_pay33 dO) (k0_pay36 (k0_pay35 q1 q2 k1 k2) l) k0_pay37 (iota .tc S1024x512 32 [0] iota_S1024x512_d0_w32) 64#32 k0_pay38 k0_pay39 1#32 y (ix2 r d) = y (ix2 r d) + ∑ g : Fin 512, bp (n := 1024) 1 k1 k2 q1 q2 l r g * dO (ix2 g d) := by
  pointwise [k0_pay32, k0_pay33, k0_pay34, k0_pay35, k0_pay36, k0_pay37, k0_pay38, k0_pay39, k0_pay40, k0_pay41, k0_pay42, k0_pay43, k0_pay44, k0_pay45, k0_pay46]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the second diagonal block: the store into the keys' gradient. -/
theorem dk_second (q1 q2 dO : Vec Ideal S512x128 .bf16) (k1 k2 v : Vec Ideal S1024x128 .bf16) (l D : Vec Ideal S1x512 .f32) (y : Vec Ideal S1024x256 .f32) (r : Fin 1024) (d : Fin 256) :
    k0_pay43 (k0_pay32 q1 q2) (k0_pay33 dO) (k0_pay36 (k0_pay35 q1 q2 k1 k2) l) k0_pay37 (iota .tc S1024x512 32 [0] iota_S1024x512_d0_w32) 64#32 k0_pay38 k0_pay39 1#32 v D y (ix2 r d) = y (ix2 r d) + ∑ g : Fin 512, bds (n := 1024) 1 k1 k2 v q1 q2 dO l D r g
      * (if h : d.val < 128 then q1 (ix2 g ⟨d.val, h⟩) else q2 (ix2 g ⟨d.val - 128, by omega⟩)) := by
  pointwise [k0_pay32, k0_pay33, k0_pay34, k0_pay35, k0_pay36, k0_pay37, k0_pay38, k0_pay39, k0_pay40, k0_pay41, k0_pay42, k0_pay43, k0_pay44, k0_pay45, k0_pay46]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the second diagonal block: the store into the first half of the queries' gradient, -/
theorem dq1_second (q1 q2 dO : Vec Ideal S512x128 .bf16) (k1 k2 v : Vec Ideal S1024x128 .bf16) (l D : Vec Ideal S1x512 .f32) (y : Vec Ideal S512x128 .f32) (g : Fin 512) (d : Fin 128) :
    k0_pay45 (k0_pay44 (k0_pay33 dO) (k0_pay34 k1 k2) (k0_pay36 (k0_pay35 q1 q2 k1 k2) l) k0_pay37 (iota .tc S1024x512 32 [0] iota_S1024x512_d0_w32) 64#32 k0_pay38 k0_pay39 1#32 v D) y (ix2 g d) = y (ix2 g d) + ∑ r : Fin 1024, bds (n := 1024) 1 k1 k2 v q1 q2 dO l D r g * k1 (ix2 r d) := by
  pointwise [k0_pay32, k0_pay33, k0_pay34, k0_pay35, k0_pay36, k0_pay37, k0_pay38, k0_pay39, k0_pay40, k0_pay41, k0_pay42, k0_pay43, k0_pay44, k0_pay45, k0_pay46]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- and into the second. -/
theorem dq2_second (q1 q2 dO : Vec Ideal S512x128 .bf16) (k1 k2 v : Vec Ideal S1024x128 .bf16) (l D : Vec Ideal S1x512 .f32) (y : Vec Ideal S512x128 .f32) (g : Fin 512) (d : Fin 128) :
    k0_pay46 (k0_pay44 (k0_pay33 dO) (k0_pay34 k1 k2) (k0_pay36 (k0_pay35 q1 q2 k1 k2) l) k0_pay37 (iota .tc S1024x512 32 [0] iota_S1024x512_d0_w32) 64#32 k0_pay38 k0_pay39 1#32 v D) y (ix2 g d) = y (ix2 g d) + ∑ r : Fin 1024, bds (n := 1024) 1 k1 k2 v q1 q2 dO l D r g * k2 (ix2 r d) := by
  pointwise [k0_pay32, k0_pay33, k0_pay34, k0_pay35, k0_pay36, k0_pay37, k0_pay38, k0_pay39, k0_pay40, k0_pay41, k0_pay42, k0_pay43, k0_pay44, k0_pay45, k0_pay46]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the third diagonal block: the store into the values' gradient. -/
theorem dv_third (q1 q2 dO : Vec Ideal S512x128 .bf16) (k1 k2 v : Vec Ideal S1536x128 .bf16) (l D : Vec Ideal S1x512 .f32) (y : Vec Ideal S1536x128 .f32) (r : Fin 1536) (d : Fin 128) :
    k0_pay58 (k0_pay48 dO) (k0_pay52 (k0_pay50 q1 q2 k1 k2) (k0_pay51 l)) k0_pay53 (iota .tc S1536x512 32 [0] iota_S1536x512_d0_w32) k0_pay54 k0_pay55 k0_pay56 y (ix2 r d) = y (ix2 r d) + ∑ g : Fin 512, bp (n := 1536) 2 k1 k2 q1 q2 l r g * dO (ix2 g d) := by
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the third diagonal block: the store into the keys' gradient. -/
theorem dk_third (q1 q2 dO : Vec Ideal S512x128 .bf16) (k1 k2 v : Vec Ideal S1536x128 .bf16) (l D : Vec Ideal S1x512 .f32) (y : Vec Ideal S1536x256 .f32) (r : Fin 1536) (d : Fin 256) :
    k0_pay60 (k0_pay47 q1 q2) (k0_pay48 dO) (k0_pay52 (k0_pay50 q1 q2 k1 k2) (k0_pay51 l)) k0_pay53 (iota .tc S1536x512 32 [0] iota_S1536x512_d0_w32) k0_pay54 k0_pay55 k0_pay56 v D y (ix2 r d) = y (ix2 r d) + ∑ g : Fin 512, bds (n := 1536) 2 k1 k2 v q1 q2 dO l D r g
      * (if h : d.val < 128 then q1 (ix2 g ⟨d.val, h⟩) else q2 (ix2 g ⟨d.val - 128, by omega⟩)) := by
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the third diagonal block: the store into the first half of the queries' gradient, -/
theorem dq1_third (q1 q2 dO : Vec Ideal S512x128 .bf16) (k1 k2 v : Vec Ideal S1536x128 .bf16) (l D : Vec Ideal S1x512 .f32) (y : Vec Ideal S512x128 .f32) (g : Fin 512) (d : Fin 128) :
    k0_pay64 (k0_pay62 y) (k0_pay63 (k0_pay48 dO) (k0_pay49 k1 k2) (k0_pay52 (k0_pay50 q1 q2 k1 k2) (k0_pay51 l)) k0_pay53 (iota .tc S1536x512 32 [0] iota_S1536x512_d0_w32) k0_pay54 k0_pay55 k0_pay56 v D) (ix2 g d) = y (ix2 g d) + ∑ r : Fin 1536, bds (n := 1536) 2 k1 k2 v q1 q2 dO l D r g * k1 (ix2 r d) := by
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- and into the second. -/
theorem dq2_third (q1 q2 dO : Vec Ideal S512x128 .bf16) (k1 k2 v : Vec Ideal S1536x128 .bf16) (l D : Vec Ideal S1x512 .f32) (y : Vec Ideal S512x128 .f32) (g : Fin 512) (d : Fin 128) :
    k0_pay65 (k0_pay61 (k0_pay48 dO) (k0_pay49 k1 k2) (k0_pay52 (k0_pay50 q1 q2 k1 k2) (k0_pay51 l)) k0_pay53 (iota .tc S1536x512 32 [0] iota_S1536x512_d0_w32) k0_pay54 k0_pay55 k0_pay56 v D) y (ix2 g d) = y (ix2 g d) + ∑ r : Fin 1536, bds (n := 1536) 2 k1 k2 v q1 q2 dO l D r g * k2 (ix2 r d) := by
  pointwise [k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the fourth diagonal block: the store into the values' gradient. -/
theorem dv_fourth (q1 q2 dO : Vec Ideal S512x128 .bf16) (k1 k2 v : Vec Ideal S2048x128 .bf16) (l D : Vec Ideal S1x512 .f32) (y : Vec Ideal S2048x128 .f32) (r : Fin 2048) (d : Fin 128) :
    k0_pay76 (k0_pay67 dO) (k0_pay69 q1 q2 k1 k2 l) (k0_pay70 (iota .tc S2048x512 32 [1] iota_S2048x512_d1_w32)) k0_pay71 k0_pay72 k0_pay73 k0_pay74 y (ix2 r d) = y (ix2 r d) + ∑ g : Fin 512, bp (n := 2048) 3 k1 k2 q1 q2 l r g * dO (ix2 g d) := by
  pointwise [k0_pay66, k0_pay67, k0_pay68, k0_pay69, k0_pay70, k0_pay71, k0_pay72, k0_pay73, k0_pay74, k0_pay75, k0_pay76, k0_pay77, k0_pay78, k0_pay79, k0_pay80, k0_pay81]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the fourth diagonal block: the store into the keys' gradient. -/
theorem dk_fourth (q1 q2 dO : Vec Ideal S512x128 .bf16) (k1 k2 v : Vec Ideal S2048x128 .bf16) (l D : Vec Ideal S1x512 .f32) (y : Vec Ideal S2048x256 .f32) (r : Fin 2048) (d : Fin 256) :
    k0_pay78 (k0_pay66 q1 q2) (k0_pay67 dO) (k0_pay69 q1 q2 k1 k2 l) (k0_pay70 (iota .tc S2048x512 32 [1] iota_S2048x512_d1_w32)) k0_pay71 k0_pay72 k0_pay73 k0_pay74 v D y (ix2 r d) = y (ix2 r d) + ∑ g : Fin 512, bds (n := 2048) 3 k1 k2 v q1 q2 dO l D r g
      * (if h : d.val < 128 then q1 (ix2 g ⟨d.val, h⟩) else q2 (ix2 g ⟨d.val - 128, by omega⟩)) := by
  pointwise [k0_pay66, k0_pay67, k0_pay68, k0_pay69, k0_pay70, k0_pay71, k0_pay72, k0_pay73, k0_pay74, k0_pay75, k0_pay76, k0_pay77, k0_pay78, k0_pay79, k0_pay80, k0_pay81]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- the fourth diagonal block: the store into the first half of the queries' gradient, -/
theorem dq1_fourth (q1 q2 dO : Vec Ideal S512x128 .bf16) (k1 k2 v : Vec Ideal S2048x128 .bf16) (l D : Vec Ideal S1x512 .f32) (y : Vec Ideal S512x128 .f32) (g : Fin 512) (d : Fin 128) :
    k0_pay80 (k0_pay67 dO) (k0_pay68 k1 k2) (k0_pay69 q1 q2 k1 k2 l) (k0_pay70 (iota .tc S2048x512 32 [1] iota_S2048x512_d1_w32)) k0_pay71 k0_pay72 k0_pay73 k0_pay74 v D y (ix2 g d) = y (ix2 g d) + ∑ r : Fin 2048, bds (n := 2048) 3 k1 k2 v q1 q2 dO l D r g * k1 (ix2 r d) := by
  pointwise [k0_pay66, k0_pay67, k0_pay68, k0_pay69, k0_pay70, k0_pay71, k0_pay72, k0_pay73, k0_pay74, k0_pay75, k0_pay76, k0_pay77, k0_pay78, k0_pay79, k0_pay80, k0_pay81]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- and into the second. -/
theorem dq2_fourth (q1 q2 dO : Vec Ideal S512x128 .bf16) (k1 k2 v : Vec Ideal S2048x128 .bf16) (l D : Vec Ideal S1x512 .f32) (y : Vec Ideal S512x128 .f32) (g : Fin 512) (d : Fin 128) :
    k0_pay81 (k0_pay79 (k0_pay67 dO) (k0_pay68 k1 k2) (k0_pay69 q1 q2 k1 k2 l) (k0_pay70 (iota .tc S2048x512 32 [1] iota_S2048x512_d1_w32)) k0_pay71 k0_pay72 k0_pay73 k0_pay74 v D) y (ix2 g d) = y (ix2 g d) + ∑ r : Fin 2048, bds (n := 2048) 3 k1 k2 v q1 q2 dO l D r g * k2 (ix2 r d) := by
  pointwise [k0_pay66, k0_pay67, k0_pay68, k0_pay69, k0_pay70, k0_pay71, k0_pay72, k0_pay73, k0_pay74, k0_pay75, k0_pay76, k0_pay77, k0_pay78, k0_pay79, k0_pay80, k0_pay81]
  try simp only [sgn64, sgn64']
  simp only [← fd.eq_1, add_nat, Nat.add_zero]
  simp (disch := omega) only [fd_nat, sel_sle]
  simp only [bp, bds, ite_mul, zero_mul, Nat.reduceMul, Nat.mul_zero, Nat.add_zero]

/-- a block past the diagonal: the store into the values' gradient. -/
theorem dv_loop (q1 q2 dO : Vec Ideal S512x128 .bf16) (k1 k2 v : Vec Ideal S2048x128 .bf16) (l D : Vec Ideal S1x512 .f32) (y : Vec Ideal S2048x128 .f32) (r : Fin 2048) (d : Fin 128) :
    k0_pay5 q1 q2 dO k1 k2 l y (ix2 r d) = y (ix2 r d) + ∑ g : Fin 512, bp (n := 2048) 4 k1 k2 q1 q2 l r g * dO (ix2 g d) := by
  pointwise [k0_pay1, k0_pay2, k0_pay3, k0_pay4, k0_pay5, k0_pay6, k0_pay82, k0_pay83, k0_pay84, k0_pay85, k0_pay86]
  have hm : ∀ (r : Fin 2048) (g : Fin 512), (r.val / 64 ≤ (g.val + 512 * 4) / 64) = True := fun r g => eq_true (by omega)
  simp only [bp, bds, hm, if_true]

/-- a block past the diagonal: the store into the keys' gradient. -/
theorem dk_loop (q1 q2 dO : Vec Ideal S512x128 .bf16) (k1 k2 v : Vec Ideal S2048x128 .bf16) (l D : Vec Ideal S1x512 .f32) (y : Vec Ideal S2048x256 .f32) (r : Fin 2048) (d : Fin 256) :
    k0_pay83 (k0_pay1 q1 q2) (k0_pay4 q1 q2 k1 k2 l) (k0_pay6 dO v) D y (ix2 r d) = y (ix2 r d) + ∑ g : Fin 512, bds (n := 2048) 4 k1 k2 v q1 q2 dO l D r g
      * (if h : d.val < 128 then q1 (ix2 g ⟨d.val, h⟩) else q2 (ix2 g ⟨d.val - 128, by omega⟩)) := by
  pointwise [k0_pay1, k0_pay2, k0_pay3, k0_pay4, k0_pay5, k0_pay6, k0_pay82, k0_pay83, k0_pay84, k0_pay85, k0_pay86]
  have hm : ∀ (r : Fin 2048) (g : Fin 512), (r.val / 64 ≤ (g.val + 512 * 4) / 64) = True := fun r g => eq_true (by omega)
  simp only [bp, bds, hm, if_true]

/-- a block past the diagonal: the store into the first half of the queries' gradient, -/
theorem dq1_loop (q1 q2 dO : Vec Ideal S512x128 .bf16) (k1 k2 v : Vec Ideal S2048x128 .bf16) (l D : Vec Ideal S1x512 .f32) (y : Vec Ideal S512x128 .f32) (g : Fin 512) (d : Fin 128) :
    k0_pay85 (k0_pay3 k1 k2) (k0_pay4 q1 q2 k1 k2 l) (k0_pay6 dO v) D y (ix2 g d) = y (ix2 g d) + ∑ r : Fin 2048, bds (n := 2048) 4 k1 k2 v q1 q2 dO l D r g * k1 (ix2 r d) := by
  pointwise [k0_pay1, k0_pay2, k0_pay3, k0_pay4, k0_pay5, k0_pay6, k0_pay82, k0_pay83, k0_pay84, k0_pay85, k0_pay86]
  have hm : ∀ (r : Fin 2048) (g : Fin 512), (r.val / 64 ≤ (g.val + 512 * 4) / 64) = True := fun r g => eq_true (by omega)
  simp only [bp, bds, hm, if_true]

/-- and into the second. -/
theorem dq2_loop (q1 q2 dO : Vec Ideal S512x128 .bf16) (k1 k2 v : Vec Ideal S2048x128 .bf16) (l D : Vec Ideal S1x512 .f32) (y : Vec Ideal S512x128 .f32) (g : Fin 512) (d : Fin 128) :
    k0_pay86 (k0_pay3 k1 k2) (k0_pay4 q1 q2 k1 k2 l) (k0_pay6 dO v) D y (ix2 g d) = y (ix2 g d) + ∑ r : Fin 2048, bds (n := 2048) 4 k1 k2 v q1 q2 dO l D r g * k2 (ix2 r d) := by
  pointwise [k0_pay1, k0_pay2, k0_pay3, k0_pay4, k0_pay5, k0_pay6, k0_pay82, k0_pay83, k0_pay84, k0_pay85, k0_pay86]
  have hm : ∀ (r : Fin 2048) (g : Fin 512), (r.val / 64 ≤ (g.val + 512 * 4) / 64) = True := fun r g => eq_true (by omega)
  simp only [bp, bds, hm, if_true]

end Cert.KernelIdeal.Attn

end
-- ==== Proof.Off.lean ====
module

public import proofs.«01_k».proof.Proof.Gen.KernelIdeal.Frame

/-!
Where the kernel's body loads and stores: the offsets its index words compute, as numbers.
-/

@[expose] public section

set_option maxRecDepth 16384

noncomputable section

namespace Cert.KernelIdeal.Attn

open Idealize.ShloMosaic
open Cert.KernelIdeal.Gen

/-- The query rows of the four diagonal blocks. -/
theorem off1_all : ∀ i : grid0.Coords,
    (k0_off1 i 0#32 = ![512 * (4 * (i 1).val), 0] ∧ k0_off1 i 1#32 = ![512 * (4 * (i 1).val + 1), 0])
    ∧ k0_off1 i 2#32 = ![512 * (4 * (i 1).val + 2), 0] ∧ k0_off1 i 3#32 = ![512 * (4 * (i 1).val + 3), 0] := by decide +kernel

/-- Their rows of the per-query statistics. -/
theorem off2_all : ∀ i : grid0.Coords,
    (k0_off2 i 0#32 = ![((4 * (i 1).val) * 6 + (i 0).val) * 8, 0] ∧ k0_off2 i 1#32 = ![((4 * (i 1).val + 1) * 6 + (i 0).val) * 8, 0])
    ∧ k0_off2 i 2#32 = ![((4 * (i 1).val + 2) * 6 + (i 0).val) * 8, 0] ∧ k0_off2 i 3#32 = ![((4 * (i 1).val + 3) * 6 + (i 0).val) * 8, 0] := by
  decide +kernel

/-- The trips of the loop over the blocks past the diagonal; the second loop has none. -/
theorem trips1 : ∀ i : grid0.Coords, (k0_t1_loop i).trips = 28 - 4 * (i 1).val := by decide +kernel
theorem trips2 : ∀ i : grid0.Coords, (k0_t2_loop i).trips = 0 := by decide +kernel

/-- The query rows and the statistics' rows of a trip of the loop. -/
theorem off3_all : ∀ (i : grid0.Coords) (k : Fin (k0_t1_loop i).trips),
    k0_off3 i k = ![512 * (4 * (i 1).val + 4 + k.val), 0]
    ∧ k0_off4 i k = ![((4 * (i 1).val + 4 + k.val) * 6 + (i 0).val) * 8, 0] := by decide +kernel

end Cert.KernelIdeal.Attn

end
-- ==== Proof.Block.lean ====
module

public import proofs.«01_k».proof.Proof.Gen.KernelIdeal.Frame
public import proofs.«01_k».proof.Proof.Spec
public import Idealize.ShloMosaic.Lib.VecWindow

/-!
The loads of one block of queries are a block of the grid point in the sense of Spec.lean.
-/

@[expose] public section

set_option maxRecDepth 16384

noncomputable section

namespace Cert.KernelIdeal.Attn

open Idealize.ShloMosaic
open Cert.KernelIdeal.Gen Cert.Attn

/-- The statistic of query `g` for head `h`, out of the array that keeps the statistics of the queries' block `g / 512` and
    the head `h` in row `8 (6 (g / 512) + h)`. -/
def statOf (h : Fin 6) (x : Mat 1536 512) : Fin 16384 → EReal := fun g =>
  x (ix2 ⟨((g.val / 512) * 6 + h.val) * 8, by omega⟩ ⟨g.val % 512, by omega⟩)

/-- A load at rows `o, o + 1, …` reads those rows. -/
theorem rd {N K n k o : ℕ} {e : EltTy} (arg : Memref sig .tc .vmem ⟨2, ![N, K]⟩ e) (harg : arg.IsWhole) (x : Vec Ideal ⟨2, ![N, K]⟩ e)
    (off : Fin 2 → ℕ) (hoff : off = ![o, 0]) (inb : ∀ a, off a + (![n, k] : Fin 2 → ℕ) a ≤ (⟨2, ![N, K]⟩ : Shape).size a)
    (r : Fin n) (d : Fin k) (hr : o + n ≤ N) (hk : k ≤ K) :
    View.readAt (Elt Ideal) arg.view (Rect.unit (s := ⟨2, ![N, K]⟩) off ![n, k] inb).toLoadRect (harg.unread x) (ix2 r d)
      = x (ix2 (⟨o + r.val, by omega⟩ : Fin N) (⟨d.val, by omega⟩ : Fin K)) := by
  subst hoff
  refine (congrFun (harg.read_unread x) _).trans (congrArg x ?_)
  funext a; apply Fin.ext
  match a with
  | ⟨0, _⟩ => show o + 1 * r.val = o + r.val; omega
  | ⟨1, _⟩ => show 0 + 1 * d.val = d.val; omega

/-- A load at the first rows. -/
theorem rd0 {N K n k : ℕ} {e : EltTy} (arg : Memref sig .tc .vmem ⟨2, ![N, K]⟩ e) (harg : arg.IsWhole) (x : Vec Ideal ⟨2, ![N, K]⟩ e)
    (inb : ∀ a, (![0, 0] : Fin 2 → ℕ) a + (![n, k] : Fin 2 → ℕ) a ≤ (⟨2, ![N, K]⟩ : Shape).size a)
    (r : Fin n) (d : Fin k) (hr : n ≤ N) (hk : k ≤ K) :
    View.readAt (Elt Ideal) arg.view (Rect.unit (s := ⟨2, ![N, K]⟩) ![0, 0] ![n, k] inb).toLoadRect (harg.unread x) (ix2 r d)
      = x (ix2 (⟨r.val, by omega⟩ : Fin N) (⟨d.val, by omega⟩ : Fin K)) := by
  refine (congrFun (harg.read_unread x) _).trans (congrArg x ?_)
  funext a; apply Fin.ext
  match a with
  | ⟨0, _⟩ => show 0 + 1 * r.val = r.val; omega
  | ⟨1, _⟩ => show 0 + 1 * d.val = d.val; omega

/-- The loads of block `m`. -/
theorem isBlock (h : Fin 6) (j n u m : ℕ) (hn : n ≤ 2048) (hm : m < 32)
    (mask : ∀ r g : ℕ, r < n → g < 512 → ((2048 * j + r) / 64 ≤ (512 * m + g) / 64 ↔ r / 64 ≤ (g + 512 * u) / 64))
    (above : ∀ r g : ℕ, n ≤ r → r < 2048 → g < 512 → ¬ (2048 * j + r) / 64 ≤ (512 * m + g) / 64)
    (offq offs : Fin 2 → ℕ) (hq : offq = ![512 * m, 0]) (hs : offs = ![(m * 6 + h.val) * 8, 0])
    (arg2 : Memref sig .tc .vmem S2048x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S16384x128 .bf16) (harg5 : arg5.IsWhole)
    (arg6 : Memref sig .tc .vmem S16384x128 .bf16) (harg6 : arg6.IsWhole) (arg7 : Memref sig .tc .vmem S16384x128 .bf16) (harg7 : arg7.IsWhole)
    (arg8 : Memref sig .tc .vmem S1536x512 .f32) (harg8 : arg8.IsWhole) (arg9 : Memref sig .tc .vmem S1536x512 .f32) (harg9 : arg9.IsWhole)
    (x2 x3 x4 : Vec Ideal S2048x128 .bf16) (x5 x6 x7 : Vec Ideal S16384x128 .bf16) (x8 x9 : Vec Ideal S1536x512 .f32)
    (inbk : ∀ a, (![0, 0] : Fin 2 → ℕ) a + (![n, 128] : Fin 2 → ℕ) a ≤ S2048x128.size a)
    (inbq : ∀ a, offq a + (![512, 128] : Fin 2 → ℕ) a ≤ S16384x128.size a)
    (inbs : ∀ a, offs a + (![1, 512] : Fin 2 → ℕ) a ≤ S1536x512.size a) :
    IsBlock j x2 x3 x4 x5 x6 x7 (statOf h x8) (statOf h x9) n u m
      (View.readAt (Elt Ideal) arg2.view (Rect.unit (s := S2048x128) ![0, 0] ![n, 128] inbk).toLoadRect (harg2.unread x2))
      (View.readAt (Elt Ideal) arg3.view (Rect.unit (s := S2048x128) ![0, 0] ![n, 128] inbk).toLoadRect (harg3.unread x3))
      (View.readAt (Elt Ideal) arg4.view (Rect.unit (s := S2048x128) ![0, 0] ![n, 128] inbk).toLoadRect (harg4.unread x4))
      (View.readAt (Elt Ideal) arg5.view (Rect.unit (s := S16384x128) offq ![512, 128] inbq).toLoadRect (harg5.unread x5))
      (View.readAt (Elt Ideal) arg6.view (Rect.unit (s := S16384x128) offq ![512, 128] inbq).toLoadRect (harg6.unread x6))
      (View.readAt (Elt Ideal) arg7.view (Rect.unit (s := S16384x128) offq ![512, 128] inbq).toLoadRect (harg7.unread x7))
      (View.readAt (Elt Ideal) arg8.view (Rect.unit (s := S1536x512) offs ![1, 512] inbs).toLoadRect (harg8.unread x8))
      (View.readAt (Elt Ideal) arg9.view (Rect.unit (s := S1536x512) offs ![1, 512] inbs).toLoadRect (harg9.unread x9)) where
  hn := hn
  hm := hm
  mask := mask
  above := above
  k1 r e := rd0 (k := 128) arg2 harg2 x2 inbk r e hn (le_refl _)
  k2 r e := rd0 (k := 128) arg3 harg3 x3 inbk r e hn (le_refl _)
  v r e := rd0 (k := 128) arg4 harg4 x4 inbk r e hn (le_refl _)
  q1 g e := rd (k := 128) arg5 harg5 x5 offq hq inbq g e (by omega) (le_refl _)
  q2 g e := rd (k := 128) arg6 harg6 x6 offq hq inbq g e (by omega) (le_refl _)
  dO g e := rd (k := 128) arg7 harg7 x7 offq hq inbq g e (by omega) (le_refl _)
  l g := (rd (n := 1) (k := 512) arg8 harg8 x8 offs hs inbs 0 g (by omega) (le_refl _)).trans (congrArg x8 (congrArg₂ ix2
    (Fin.ext (by show (m * 6 + h.val) * 8 + 0 = ((512 * m + g.val) / 512 * 6 + h.val) * 8; omega))
    (Fin.ext (by show g.val = (512 * m + g.val) % 512; omega))))
  D g := (rd (n := 1) (k := 512) arg9 harg9 x9 offs hs inbs 0 g (by omega) (le_refl _)).trans (congrArg x9 (congrArg₂ ix2
    (Fin.ext (by show (m * 6 + h.val) * 8 + 0 = ((512 * m + g.val) / 512 * 6 + h.val) * 8; omega))
    (Fin.ext (by show g.val = (512 * m + g.val) % 512; omega))))

end Cert.KernelIdeal.Attn

end
-- ==== Proof.Trip.lean ====
module

public import proofs.«01_k».proof.Proof.Pay
public import proofs.«01_k».proof.Proof.Off
public import proofs.«01_k».proof.Proof.Block

/-!
One trip of the loop over the blocks past the diagonal.
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Attn

local notation "𝕄" => MT nD τ sig Unit (Elt Ideal) ℕ (UR sig nD τ) ℕ

/-- The point of the grid as numbers: its head and its group of key rows. -/
def hd (i : grid0.Coords) : Fin 6 := ⟨(i 0).val, (i 0).isLt⟩
theorem grp_lt (i : grid0.Coords) : (i 1).val < 8 := (i 1).isLt

section States

variable (i : grid0.Coords) (x2 x3 x4 : Vec Ideal S2048x128 .bf16) (x5 x6 x7 : Vec Ideal S16384x128 .bf16) (x8 x9 : Vec Ideal S1536x512 .f32)

/-- What the body's four accumulators hold after the blocks before `m`. -/
def sDv (m : ℕ) : Mat 2048 128 := dvAt (i 1).val x2 x3 x5 x6 x7 (statOf (hd i) x8) m
def sDk (m : ℕ) : Mat 2048 256 := dkAt (i 1).val x2 x3 x4 x5 x6 x7 (statOf (hd i) x8) (statOf (hd i) x9) m
def sDq1 (y : Mat 16384 128) (m : ℕ) : Mat 16384 128 := dqAt (i 1).val x2 x3 x4 x5 x6 x7 (statOf (hd i) x8) (statOf (hd i) x9) x2 y m
def sDq2 (y : Mat 16384 128) (m : ℕ) : Mat 16384 128 := dqAt (i 1).val x2 x3 x4 x5 x6 x7 (statOf (hd i) x8) (statOf (hd i) x9) x3 y m

end States

set_option maxHeartbeats 2000000 in
/-- Trip `k` takes the accumulators past block `4 j + 4 + k`. -/
theorem trip (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1536x512 .f32) (harg8 : arg8.IsWhole) (arg9 : Memref sig .tc .vmem S1536x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S16384x128 .f32) (harg13 : arg13.IsWhole) (arg14 : Memref sig .tc .vmem S16384x128 .f32) (harg14 : arg14.IsWhole) (arg15 : Memref sig .tc .vmem S2048x256 .f32) (harg15 : arg15.IsWhole) (arg16 : Memref sig .tc .vmem S2048x128 .f32) (harg16 : arg16.IsWhole)
    (x2 x3 x4 : Vec Ideal S2048x128 .bf16) (x5 x6 x7 : Vec Ideal S16384x128 .bf16) (x8 x9 : Vec Ideal S1536x512 .f32) (y13 y14 : Vec Ideal S16384x128 .f32)
    (arg0 v508 : BitVec 32) (k : Fin (k0_t1_loop i).trips) (E : Set ℕ) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (sDq1 i x2 x3 x4 x5 x6 x7 x8 x9 y13 (4 * (i 1).val + 4 + k.val)) ∗ owns (c : Thread nD τ) arg14 fullShare (sDq2 i x2 x3 x4 x5 x6 x7 x8 x9 y14 (4 * (i 1).val + 4 + k.val)) ∗ owns (c : Thread nD τ) arg15 fullShare (sDk i x2 x3 x4 x5 x6 x7 x8 x9 (4 * (i 1).val + 4 + k.val)) ∗ owns (c : Thread nD τ) arg16 fullShare (sDv i x2 x3 x5 x6 x7 x8 (4 * (i 1).val + 4 + k.val)))
      ⊢ wp (M := 𝕄) frame (wpE (defs₀ (F := Ideal)) Variants.none c none) E (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v508 k PUnit.unit)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (sDq1 i x2 x3 x4 x5 x6 x7 x8 x9 y13 (4 * (i 1).val + 4 + k.val + 1)) ∗ owns (c : Thread nD τ) arg14 fullShare (sDq2 i x2 x3 x4 x5 x6 x7 x8 x9 y14 (4 * (i 1).val + 4 + k.val + 1)) ∗ owns (c : Thread nD τ) arg15 fullShare (sDk i x2 x3 x4 x5 x6 x7 x8 x9 (4 * (i 1).val + 4 + k.val + 1)) ∗ owns (c : Thread nD τ) arg16 fullShare (sDv i x2 x3 x5 x6 x7 x8 (4 * (i 1).val + 4 + k.val + 1)))) := by
  have hj := grp_lt i
  have hk : k.val < 28 - 4 * (i 1).val := lt_of_lt_of_eq k.isLt (trips1 i)
  have B := isBlock (hd i) (i 1).val 2048 4 (4 * (i 1).val + 4 + k.val) (le_refl _) (by omega) (fun r g hr hg => ⟨fun _ => by omega, fun _ => by omega⟩)
    (fun r g h1 h2 _ => absurd h2 (by omega)) _ _ (off3_all i k).1 (off3_all i k).2
    arg2 harg2 arg3 harg3 arg4 harg4 arg5 harg5 arg6 harg6 arg7 harg7 arg8 harg8 arg9 harg9 x2 x3 x4 x5 x6 x7 x8 x9
    inb_S2048x128_S2048x128_0_0 (k0_off3_inb i k) (k0_off4_inb i k)
  unfold k0_t1_body
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f13, %hf13, H13⟩, ⟨%f14, %hf14, H14⟩, ⟨%f15, %hf15, H15⟩, ⟨%f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H13]
  · iexists _; isplitr; swap; · iexact H13
    ipureintro
    refine (View.read_writes_cons_put _ _ _ _ [] (off3_all i k).1).trans ?_
    rw [View.writes_nil, harg13.read_unread]
    refine B.dq_put _ x2 B.k1 y13 _ fun g d => (dq1_loop _ _ _ _ _ _ _ _ _ g d).trans (congrArg (· + _) ?_)
    refine (rd (k := 128) arg13 harg13 _ _ (off3_all i k).1 _ g d (by omega) (le_refl _)).trans ?_
    exact dqAt_at _ _ _ _ _ (by show 512 * _ ≤ 512 * _ + g.val; omega)
  isplitl [H14]
  · iexists _; isplitr; swap; · iexact H14
    ipureintro
    refine (View.read_writes_cons_put _ _ _ _ [] (off3_all i k).1).trans ?_
    rw [View.writes_nil, harg14.read_unread]
    refine B.dq_put _ x3 B.k2 y14 _ fun g d => (dq2_loop _ _ _ _ _ _ _ _ _ g d).trans (congrArg (· + _) ?_)
    refine (rd (k := 128) arg14 harg14 _ _ (off3_all i k).1 _ g d (by omega) (le_refl _)).trans ?_
    exact dqAt_at _ _ _ _ _ (by show 512 * _ ≤ 512 * _ + g.val; omega)
  isplitl [H15]
  · iexists _; isplitr; swap; · iexact H15
    ipureintro
    refine (View.read_writes_cons_put _ _ _ _ [] rfl).trans ?_
    rw [View.writes_nil, harg15.read_unread]
    exact B.dk_put _ fun r d => (dk_loop _ _ _ _ _ _ _ _ _ r d).trans (congrArg (· + _) (rd0 (n := 2048) (k := 256) arg15 harg15 _ _ r d (le_refl _) (le_refl _)))
  iexists _; isplitr; swap; · iexact H16
  ipureintro
  refine (View.read_writes_cons_put _ _ _ _ [] rfl).trans ?_
  rw [View.writes_nil, harg16.read_unread]
  exact B.dv_put _ fun r d => (dv_loop _ _ _ _ _ (View.readAt (Elt Ideal) arg4.view (Rect.unit (s := S2048x128) ![0, 0] S2048x128.size inb_S2048x128_S2048x128_0_0).toLoadRect (harg4.unread x4)) _ (View.readAt (Elt Ideal) arg9.view (Rect.unit (s := S1536x512) (k0_off4 i k) S1x512.size (k0_off4_inb i k)).toLoadRect (harg9.unread x9)) _ r d).trans (congrArg (· + _) (rd0 (n := 2048) (k := 128) arg16 harg16 _ _ r d (le_refl _) (le_refl _)))

end Cert.KernelIdeal.Attn

end
-- ==== Proof.Step.lean ====
module

public import proofs.«01_k».proof.Proof.Trip
public import Idealize.ShloMosaic.Lib.Pointwise

/-!
The stores of the blocks on the diagonal, one by one.
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Attn

local notation "𝕄" => MT nD τ sig Unit (Elt Ideal) ℕ (UR sig nD τ) ℕ

/-- The offset-free stores into the accumulators of the key side, in a row. -/
theorem step16 {j n u m : ℕ} {k1 k2 v : Mat 2048 128} {q1 q2 dO : Mat 16384 128} {L D : Fin 16384 → EReal}
    {k1b k2b vb : Mat n 128} {q1b q2b dOb : Mat 512 128} {lb Db : Mat 1 512}
    (B : IsBlock j k1 k2 v q1 q2 dO L D n u m k1b k2b vb q1b q2b dOb lb Db)
    (arg : Memref sig .tc .vmem S2048x128 .f32) (f) (W) (inb : ∀ a, (![0, 0] : Fin 2 → ℕ) a + (![n, 128] : Fin 2 → ℕ) a ≤ S2048x128.size a)
    (w : Mat n 128) (prev : arg.view.read (Elt Ideal) (arg.view.writes (Elt Ideal) f W) = dvAt j k1 k2 q1 q2 dO L m)
    (hw : ∀ r d, w (ix2 r d) = View.readAt (Elt Ideal) arg.view (Rect.unit (s := S2048x128) ![0, 0] ![n, 128] inb).toLoadRect (arg.view.writes (Elt Ideal) f W) (ix2 r d)
      + ∑ g : Fin 512, bp u k1b k2b q1b q2b lb r g * dOb (ix2 g d)) :
    arg.view.read (Elt Ideal) (arg.view.writes (Elt Ideal) f (⟨Rect.unit (s := S2048x128) ![0, 0] ![n, 128] inb, w⟩ :: W)) = dvAt j k1 k2 q1 q2 dO L (m + 1) := by
  refine (View.read_writes_cons_put _ _ _ _ W rfl).trans ?_
  rw [prev]
  refine B.dv_put _ fun r d => (hw r d).trans (congrArg (· + _) ?_)
  refine (congrFun prev _).trans (congrArg _ ?_)
  funext a; apply Fin.ext
  match a with
  | ⟨0, _⟩ => show 0 + 1 * r.val = r.val; omega
  | ⟨1, _⟩ => show 0 + 1 * d.val = d.val; omega

theorem step15 {j n u m : ℕ} {k1 k2 v : Mat 2048 128} {q1 q2 dO : Mat 16384 128} {L D : Fin 16384 → EReal}
    {k1b k2b vb : Mat n 128} {q1b q2b dOb : Mat 512 128} {lb Db : Mat 1 512}
    (B : IsBlock j k1 k2 v q1 q2 dO L D n u m k1b k2b vb q1b q2b dOb lb Db)
    (arg : Memref sig .tc .vmem S2048x256 .f32) (f) (W) (inb : ∀ a, (![0, 0] : Fin 2 → ℕ) a + (![n, 256] : Fin 2 → ℕ) a ≤ S2048x256.size a)
    (w : Mat n 256) (prev : arg.view.read (Elt Ideal) (arg.view.writes (Elt Ideal) f W) = dkAt j k1 k2 v q1 q2 dO L D m)
    (hw : ∀ r d, w (ix2 r d) = View.readAt (Elt Ideal) arg.view (Rect.unit (s := S2048x256) ![0, 0] ![n, 256] inb).toLoadRect (arg.view.writes (Elt Ideal) f W) (ix2 r d)
      + ∑ g : Fin 512, bds u k1b k2b vb q1b q2b dOb lb Db r g * (if h : d.val < 128 then q1b (ix2 g ⟨d.val, h⟩) else q2b (ix2 g ⟨d.val - 128, by omega⟩))) :
    arg.view.read (Elt Ideal) (arg.view.writes (Elt Ideal) f (⟨Rect.unit (s := S2048x256) ![0, 0] ![n, 256] inb, w⟩ :: W)) = dkAt j k1 k2 v q1 q2 dO L D (m + 1) := by
  refine (View.read_writes_cons_put _ _ _ _ W rfl).trans ?_
  rw [prev]
  refine B.dk_put _ fun r d => (hw r d).trans (congrArg (· + _) ?_)
  refine (congrFun prev _).trans (congrArg _ ?_)
  funext a; apply Fin.ext
  match a with
  | ⟨0, _⟩ => show 0 + 1 * r.val = r.val; omega
  | ⟨1, _⟩ => show 0 + 1 * d.val = d.val; omega

theorem step13 {j n u m : ℕ} {k1 k2 v : Mat 2048 128} {q1 q2 dO : Mat 16384 128} {L D : Fin 16384 → EReal}
    {k1b k2b vb : Mat n 128} {q1b q2b dOb : Mat 512 128} {lb Db : Mat 1 512}
    (B : IsBlock j k1 k2 v q1 q2 dO L D n u m k1b k2b vb q1b q2b dOb lb Db) (kk : Mat 2048 128) (kb : Mat n 128)
    (hk : ∀ r d, kb (ix2 r d) = kk (ix2 ⟨r.val, lt_of_lt_of_le r.isLt B.hn⟩ d)) (y : Mat 16384 128)
    (arg : Memref sig .tc .vmem S16384x128 .f32) (f) (W) (off : Fin 2 → ℕ) (hoff : off = ![512 * m, 0])
    (inb : ∀ a, off a + (![512, 128] : Fin 2 → ℕ) a ≤ S16384x128.size a)
    (w : Mat 512 128) (prev : arg.view.read (Elt Ideal) (arg.view.writes (Elt Ideal) f W) = dqAt j k1 k2 v q1 q2 dO L D kk y m)
    (hw : ∀ g d, w (ix2 g d) = y (ix2 (⟨512 * m + g.val, by have := B.hm; omega⟩ : Fin 16384) d)
      + ∑ r : Fin n, bds u k1b k2b vb q1b q2b dOb lb Db r g * kb (ix2 r d)) :
    arg.view.read (Elt Ideal) (arg.view.writes (Elt Ideal) f (⟨Rect.unit (s := S16384x128) off ![512, 128] inb, w⟩ :: W)) = dqAt j k1 k2 v q1 q2 dO L D kk y (m + 1) := by
  refine (View.read_writes_cons_put _ _ _ _ W hoff).trans ?_
  rw [prev]
  exact B.dq_put kb kk hk y _ hw

/-- The columns of the two halves of the key gradient. -/
def leftK (x : Mat 2048 256) : Mat 2048 128 := fun i => x (ix2 (⟨(i 0).val, (i 0).isLt⟩ : Fin 2048) (⟨(i 1).val, lt_of_lt_of_le (i 1).isLt (by decide)⟩ : Fin 256))
def rightK (x : Mat 2048 256) : Mat 2048 128 := fun i => x (ix2 (⟨(i 0).val, (i 0).isLt⟩ : Fin 2048) (⟨128 + (i 1).val, by have : (i 1).val < 128 := (i 1).isLt; omega⟩ : Fin 256))

theorem left_load (arg : Memref sig .tc .vmem S2048x256 .f32) (harg : arg.IsWhole) (x : Vec Ideal S2048x256 .f32)
    (inb : ∀ a, (![0, 0] : Fin 2 → ℕ) a + (![2048, 128] : Fin 2 → ℕ) a ≤ S2048x256.size a) :
    View.readAt (Elt Ideal) arg.view (Rect.unit (s := S2048x256) ![0, 0] ![2048, 128] inb).toLoadRect (harg.unread x) = leftK x := by
  funext i
  refine (congrFun (harg.read_unread x) _).trans (congrArg x ?_)
  funext a; apply Fin.ext
  match a with
  | ⟨0, _⟩ => show 0 + 1 * (i 0).val = (i 0).val; omega
  | ⟨1, _⟩ => show 0 + 1 * (i 1).val = (i 1).val; omega
theorem right_load (arg : Memref sig .tc .vmem S2048x256 .f32) (harg : arg.IsWhole) (x : Vec Ideal S2048x256 .f32)
    (inb : ∀ a, (![0, 128] : Fin 2 → ℕ) a + (![2048, 128] : Fin 2 → ℕ) a ≤ S2048x256.size a) :
    View.readAt (Elt Ideal) arg.view (Rect.unit (s := S2048x256) ![0, 128] ![2048, 128] inb).toLoadRect (harg.unread x) = rightK x := by
  funext i
  refine (congrFun (harg.read_unread x) _).trans (congrArg x ?_)
  funext a; apply Fin.ext
  match a with
  | ⟨0, _⟩ => show 0 + 1 * (i 0).val = (i 0).val; omega
  | ⟨1, _⟩ => show 128 + 1 * (i 1).val = 128 + (i 1).val; omega
theorem full_load (arg : Memref sig .tc .vmem S2048x128 .f32) (harg : arg.IsWhole) (x : Vec Ideal S2048x128 .f32)
    (inb : ∀ a, (![0, 0] : Fin 2 → ℕ) a + (![2048, 128] : Fin 2 → ℕ) a ≤ S2048x128.size a) :
    View.readAt (Elt Ideal) arg.view (Rect.unit (s := S2048x128) ![0, 0] ![2048, 128] inb).toLoadRect (harg.unread x) = x := by
  funext i
  refine (congrFun (harg.read_unread x) _).trans (congrArg x ?_)
  funext a; apply Fin.ext
  match a with
  | ⟨0, _⟩ => show 0 + 1 * (i 0).val = (i 0).val; omega
  | ⟨1, _⟩ => show 0 + 1 * (i 1).val = (i 1).val; omega

theorem zero13 : (k0_pay15 (F := Ideal) : Mat 16384 128) = fun _ => 0 := by
  funext i; obtain ⟨r, d, rfl⟩ := idx_eq i; pointwise [k0_pay15]
theorem zero14 : (k0_pay16 (F := Ideal) : Mat 16384 128) = fun _ => 0 := by
  funext i; obtain ⟨r, d, rfl⟩ := idx_eq i; pointwise [k0_pay16]
theorem zero15 : (k0_pay13 (F := Ideal) : Mat 2048 256) = fun _ => 0 := by
  funext i; obtain ⟨r, d, rfl⟩ := idx_eq i; pointwise [k0_pay13]
theorem zero16 : (k0_pay14 (F := Ideal) : Mat 2048 128) = fun _ => 0 := by
  funext i; obtain ⟨r, d, rfl⟩ := idx_eq i; pointwise [k0_pay14]

end Cert.KernelIdeal.Attn

end
-- ==== Proof.BodyA.lean ====
module

public import proofs.«01_k».proof.Proof.Step

/-!
The body at a point of the grid whose group of key rows is the first.
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Attn

local notation "𝕄" => MT nD τ sig Unit (Elt Ideal) ℕ (UR sig nD τ) ℕ

/-- A store of a block of the query gradient whose load goes through the stores before. -/
theorem step13z {j n u m : ℕ} {k1 k2 v : Mat 2048 128} {q1 q2 dO : Mat 16384 128} {L D : Fin 16384 → EReal}
    {k1b k2b vb : Mat n 128} {q1b q2b dOb : Mat 512 128} {lb Db : Mat 1 512}
    (B : IsBlock j k1 k2 v q1 q2 dO L D n u m k1b k2b vb q1b q2b dOb lb Db) (kk : Mat 2048 128) (kb : Mat n 128)
    (hk : ∀ r d, kb (ix2 r d) = kk (ix2 ⟨r.val, lt_of_lt_of_le r.isLt B.hn⟩ d)) (y : Mat 16384 128)
    (arg : Memref sig .tc .vmem S16384x128 .f32) (f) (W) (off : Fin 2 → ℕ) (hoff : off = ![512 * m, 0])
    (inb : ∀ a, off a + (![512, 128] : Fin 2 → ℕ) a ≤ S16384x128.size a)
    (w : Mat 512 128) (prev : arg.view.read (Elt Ideal) (arg.view.writes (Elt Ideal) f W) = dqAt j k1 k2 v q1 q2 dO L D kk y m)
    (hw : ∀ g d, w (ix2 g d) = View.readAt (Elt Ideal) arg.view (Rect.unit (s := S16384x128) off ![512, 128] inb).toLoadRect (arg.view.writes (Elt Ideal) f W) (ix2 g d)
      + ∑ r : Fin n, bds u k1b k2b vb q1b q2b dOb lb Db r g * kb (ix2 r d)) :
    arg.view.read (Elt Ideal) (arg.view.writes (Elt Ideal) f (⟨Rect.unit (s := S16384x128) off ![512, 128] inb, w⟩ :: W)) = dqAt j k1 k2 v q1 q2 dO L D kk y (m + 1) := by
  refine step13 B kk kb hk y arg f W off hoff inb w prev fun g d => (hw g d).trans (congrArg (· + _) ?_)
  subst hoff
  refine (congrFun prev _).trans (Eq.trans (congrArg _ ?_) (dqAt_at _ _ _ _ _ (by show 512 * m ≤ 512 * m + g.val; omega)))
  funext a; apply Fin.ext
  match a with
  | ⟨0, _⟩ => show 512 * m + 1 * g.val = 512 * m + g.val; omega
  | ⟨1, _⟩ => show 0 + 1 * d.val = d.val; omega

set_option maxHeartbeats 2500000 in
/-- The body at a point of the grid, group of key rows zero. -/
theorem bodyA (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1536x512 .f32) (harg8 : arg8.IsWhole) (arg9 : Memref sig .tc .vmem S1536x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S16384x128 .f32) (harg13 : arg13.IsWhole) (arg14 : Memref sig .tc .vmem S16384x128 .f32) (harg14 : arg14.IsWhole) (arg15 : Memref sig .tc .vmem S2048x256 .f32) (harg15 : arg15.IsWhole) (arg16 : Memref sig .tc .vmem S2048x128 .f32) (harg16 : arg16.IsWhole) (hc0 : ((Scalar.cmpi .ne (Scalar.extui (Scalar.cmpi .eq (BitVec.ofNat 32 (i 1).val) 0#32)) 0#32) = 1#1))
    (x2 x3 x4 : Vec Ideal S2048x128 .bf16) (x5 x6 x7 : Vec Ideal S16384x128 .bf16) (x8 x9 : Vec Ideal S1536x512 .f32) (y10 : Vec Ideal S2048x128 .f32) (y11 : Vec Ideal S2048x128 .f32) (y12 : Vec Ideal S2048x128 .f32) (y13 : Vec Ideal S16384x128 .f32) (y14 : Vec Ideal S16384x128 .f32) (y15 : Vec Ideal S2048x256 .f32) (y16 : Vec Ideal S2048x128 .f32) (E : Set ℕ) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16)
      ⊢ wp (M := 𝕄) frame (wpE (defs₀ (F := Ideal)) Variants.none c none) E (cc0_attn_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftK (sDk i x2 x3 x4 x5 x6 x7 x8 x9 32)) ∗ owns (c : Thread nD τ) arg11 fullShare (sDv i x2 x3 x5 x6 x7 x8 32) ∗ owns (c : Thread nD τ) arg12 fullShare (rightK (sDk i x2 x3 x4 x5 x6 x7 x8 x9 32)) ∗ owns (c : Thread nD τ) arg13 fullShare (sDq1 i x2 x3 x4 x5 x6 x7 x8 x9 (fun _ => 0) (32)) ∗ owns (c : Thread nD τ) arg14 fullShare (sDq2 i x2 x3 x4 x5 x6 x7 x8 x9 (fun _ => 0) (32)) ∗ owns (c : Thread nD τ) arg15 fullShare (sDk i x2 x3 x4 x5 x6 x7 x8 x9 (32)) ∗ owns (c : Thread nD τ) arg16 fullShare (sDv i x2 x3 x5 x6 x7 x8 (32)))) := by
  have hj := grp_lt i
  have B0 := isBlock (hd i) (i 1).val 512 0 (4 * (i 1).val) (by omega) (by omega) (fun r g hr hg => ⟨fun _ => by omega, fun _ => by omega⟩)
    (fun r g h1 h2 _ => by omega) _ _ (off1_all i).1.1 (off2_all i).1.1
    arg2 harg2 arg3 harg3 arg4 harg4 arg5 harg5 arg6 harg6 arg7 harg7 arg8 harg8 arg9 harg9 x2 x3 x4 x5 x6 x7 x8 x9
    inb_S2048x128_S512x128_0_0 (k0_off1_inb i 0) (k0_off2_inb i 0)
  have B1 := isBlock (hd i) (i 1).val 1024 1 (4 * (i 1).val + 1) (by omega) (by omega) (fun r g hr hg => ⟨fun _ => by omega, fun _ => by omega⟩)
    (fun r g h1 h2 _ => by omega) _ _ (off1_all i).1.2 (off2_all i).1.2
    arg2 harg2 arg3 harg3 arg4 harg4 arg5 harg5 arg6 harg6 arg7 harg7 arg8 harg8 arg9 harg9 x2 x3 x4 x5 x6 x7 x8 x9
    inb_S2048x128_S1024x128_0_0 (k0_off1_inb i 1) (k0_off2_inb i 1)
  have B2 := isBlock (hd i) (i 1).val 1536 2 (4 * (i 1).val + 2) (by omega) (by omega) (fun r g hr hg => ⟨fun _ => by omega, fun _ => by omega⟩)
    (fun r g h1 h2 _ => by omega) _ _ (off1_all i).2.1 (off2_all i).2.1
    arg2 harg2 arg3 harg3 arg4 harg4 arg5 harg5 arg6 harg6 arg7 harg7 arg8 harg8 arg9 harg9 x2 x3 x4 x5 x6 x7 x8 x9
    inb_S2048x128_S1536x128_0_0 (k0_off1_inb i 2) (k0_off2_inb i 2)
  have B3 := isBlock (hd i) (i 1).val 2048 3 (4 * (i 1).val + 3) (by omega) (by omega) (fun r g hr hg => ⟨fun _ => by omega, fun _ => by omega⟩)
    (fun r g h1 h2 _ => by omega) _ _ (off1_all i).2.2 (off2_all i).2.2
    arg2 harg2 arg3 harg3 arg4 harg4 arg5 harg5 arg6 harg6 arg7 harg7 arg8 harg8 arg9 harg9 x2 x3 x4 x5 x6 x7 x8 x9
    inb_S2048x128_S2048x128_0_0 (k0_off1_inb i 3) (k0_off2_inb i 3)
  simp only [cc0_attn_bwd_eq_skeleton]; unfold cc0_attn_bwd_skel
  simp only [k0_part15_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc0)

  sl_for (fun k (_ : PUnit) => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (sDq1 i x2 x3 x4 x5 x6 x7 x8 x9 (fun _ => 0) (4 * (i 1).val + 4 + k)) ∗ owns (c : Thread nD τ) arg14 fullShare (sDq2 i x2 x3 x4 x5 x6 x7 x8 x9 (fun _ => 0) (4 * (i 1).val + 4 + k)) ∗ owns (c : Thread nD τ) arg15 fullShare (sDk i x2 x3 x4 x5 x6 x7 x8 x9 (4 * (i 1).val + 4 + k)) ∗ owns (c : Thread nD τ) arg16 fullShare (sDv i x2 x3 x5 x6 x7 x8 (4 * (i 1).val + 4 + k)))) $$ [H2 H3 H4 H5 H6 H7 H8 H9 H13 H14 H15 H16]
  · intro k acc
    exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 (fun _ => 0) (fun _ => 0) _ _ k E
  · unfold owns
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]
    · iexists _; isplitr; swap; · iexact H13
      ipureintro
      refine step13z B3 x2 _ B3.k1 (fun _ => 0) arg13 _ _ _ (off1_all i).2.2 _ _ ?_ fun g d => dq1_fourth _ _ _ _ _ _ _ _ _ g d
      refine step13z B2 x2 _ B2.k1 (fun _ => 0) arg13 _ _ _ (off1_all i).2.1 _ _ ?_ fun g d => dq1_third _ _ _ _ _ _ _ _ _ g d
      refine step13z B1 x2 _ B1.k1 (fun _ => 0) arg13 _ _ _ (off1_all i).1.2 _ _ ?_ fun g d => dq1_second _ _ _ _ _ _ _ _ _ g d
      refine step13z B0 x2 _ B0.k1 (fun _ => 0) arg13 _ _ _ (off1_all i).1.1 _ _ ?_ fun g d => dq1_first _ _ _ _ _ _ _ _ _ g d
      refine (View.read_writes_full _ _ _ _ []).trans ?_
      rw [dqAt_start]; exact zero13
    isplitl [H14]
    · iexists _; isplitr; swap; · iexact H14
      ipureintro
      refine step13z B3 x3 _ B3.k2 (fun _ => 0) arg14 _ _ _ (off1_all i).2.2 _ _ ?_ fun g d => dq2_fourth _ _ _ _ _ _ _ _ _ g d
      refine step13z B2 x3 _ B2.k2 (fun _ => 0) arg14 _ _ _ (off1_all i).2.1 _ _ ?_ fun g d => dq2_third _ _ _ _ _ _ _ _ _ g d
      refine step13z B1 x3 _ B1.k2 (fun _ => 0) arg14 _ _ _ (off1_all i).1.2 _ _ ?_ fun g d => dq2_second _ _ _ _ _ _ _ _ _ g d
      refine step13z B0 x3 _ B0.k2 (fun _ => 0) arg14 _ _ _ (off1_all i).1.1 _ _ ?_ fun g d => dq2_first _ _ _ _ _ _ _ _ _ g d
      refine (View.read_writes_full _ _ _ _ []).trans ?_
      rw [dqAt_start]; exact zero14
    isplitl [H15]
    · iexists _; isplitr; swap; · iexact H15
      ipureintro
      refine step15 B3 arg15 _ _ _ _ ?_ fun r d => dk_fourth _ _ _ _ _ _ _ _ _ r d
      refine step15 B2 arg15 _ _ _ _ ?_ fun r d => dk_third _ _ _ _ _ _ _ _ _ r d
      refine step15 B1 arg15 _ _ _ _ ?_ fun r d => dk_second _ _ _ _ _ _ _ _ _ r d
      refine step15 B0 arg15 _ _ _ _ ?_ fun r d => dk_first _ _ _ _ _ _ _ _ _ r d
      refine (View.read_writes_full _ _ _ _ []).trans ?_
      rw [dkAt_start]; exact zero15
    iexists _; isplitr; swap; · iexact H16
    ipureintro
    refine Eq.trans ?_ (congrArg (dvAt (i 1).val x2 x3 x5 x6 x7 (statOf (hd i) x8)) (show 4 * (i 1).val + 3 + 1 = 4 * (i 1).val + 4 + 0 from rfl))
    refine step16 B3 arg16 _ _ _ _ ?_ fun r d => dv_fourth _ _ _ _ _ (View.readAt (Elt Ideal) arg4.view (Rect.unit (s := S2048x128) ![0, 0] S2048x128.size inb_S2048x128_S2048x128_0_0).toLoadRect (harg4.unread x4)) _ (View.readAt (Elt Ideal) arg9.view (Rect.unit (s := S1536x512) (k0_off2 i 3#32) S1x512.size (k0_off2_inb i 3)).toLoadRect (harg9.unread x9)) _ r d
    refine step16 B2 arg16 _ _ _ _ ?_ fun r d => dv_third _ _ _ _ _ (View.readAt (Elt Ideal) arg4.view (Rect.unit (s := S2048x128) ![0, 0] S1536x128.size inb_S2048x128_S1536x128_0_0).toLoadRect (harg4.unread x4)) _ (View.readAt (Elt Ideal) arg9.view (Rect.unit (s := S1536x512) (k0_off2 i 2#32) S1x512.size (k0_off2_inb i 2)).toLoadRect (harg9.unread x9)) _ r d
    refine step16 B1 arg16 _ _ _ _ ?_ fun r d => dv_second _ _ _ _ _ (View.readAt (Elt Ideal) arg4.view (Rect.unit (s := S2048x128) ![0, 0] S1024x128.size inb_S2048x128_S1024x128_0_0).toLoadRect (harg4.unread x4)) _ (View.readAt (Elt Ideal) arg9.view (Rect.unit (s := S1536x512) (k0_off2 i 1#32) S1x512.size (k0_off2_inb i 1)).toLoadRect (harg9.unread x9)) _ r d
    refine step16 B0 arg16 _ _ _ _ ?_ fun r d => dv_first _ _ _ _ _ (View.readAt (Elt Ideal) arg4.view (Rect.unit (s := S2048x128) ![0, 0] S512x128.size inb_S2048x128_S512x128_0_0).toLoadRect (harg4.unread x4)) _ (View.readAt (Elt Ideal) arg9.view (Rect.unit (s := S1536x512) (k0_off2 i 0#32) S1x512.size (k0_off2_inb i 0)).toLoadRect (harg9.unread x9)) _ r d
    refine (View.read_writes_full _ _ _ _ []).trans ?_
    rw [dvAt_start]; exact zero16

  iintro %acc HI
  simp only [trips1 i, show 4 * (i 1).val + 4 + (28 - 4 * (i 1).val) = 32 from by omega]
  unfold owns
  icases HI with ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g13, %hg13, H13⟩, ⟨%g14, %hg14, H14⟩, ⟨%g15, %hg15, H15⟩, ⟨%g16, %hg16, H16⟩⟩
  obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg13.eq_unread hg13; obtain rfl := harg14.eq_unread hg14; obtain rfl := harg15.eq_unread hg15; obtain rfl := harg16.eq_unread hg16
  sl_exec
  sl_for0 (trips2 i)
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; exact (View.read_writes_full _ _ _ _ []).trans (left_load arg15 harg15 _ _)
  isplitl [H11]
  · iexists _; isplitr; swap; · iexact H11
    ipureintro; exact (View.read_writes_full _ _ _ _ []).trans (full_load arg16 harg16 _ _)
  isplitl [H12]
  · iexists _; isplitr; swap; · iexact H12
    ipureintro; exact (View.read_writes_full _ _ _ _ []).trans (right_load arg15 harg15 _ _)
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  iexists _; isplitr; swap; · iexact H16
  ipureintro; exact harg16.read_unread _

end Cert.KernelIdeal.Attn

end
-- ==== Proof.BodyB.lean ====
module

public import proofs.«01_k».proof.Proof.Step

/-!
The body at a point of the grid whose group of key rows is not the first.
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Attn

local notation "𝕄" => MT nD τ sig Unit (Elt Ideal) ℕ (UR sig nD τ) ℕ

set_option maxHeartbeats 2500000 in
/-- The body at a point of the grid, group of key rows past zero. -/
theorem bodyB (c : Dev nD) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S16384x128 .bf16) (harg5 : arg5.IsWhole) (arg6 : Memref sig .tc .vmem S16384x128 .bf16) (harg6 : arg6.IsWhole) (arg7 : Memref sig .tc .vmem S16384x128 .bf16) (harg7 : arg7.IsWhole) (arg8 : Memref sig .tc .vmem S1536x512 .f32) (harg8 : arg8.IsWhole) (arg9 : Memref sig .tc .vmem S1536x512 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S16384x128 .f32) (harg13 : arg13.IsWhole) (arg14 : Memref sig .tc .vmem S16384x128 .f32) (harg14 : arg14.IsWhole) (arg15 : Memref sig .tc .vmem S2048x256 .f32) (harg15 : arg15.IsWhole) (arg16 : Memref sig .tc .vmem S2048x128 .f32) (harg16 : arg16.IsWhole) (hc0 : ¬((Scalar.cmpi .ne (Scalar.extui (Scalar.cmpi .eq (BitVec.ofNat 32 (i 1).val) 0#32)) 0#32) = 1#1))
    (x2 x3 x4 : Vec Ideal S2048x128 .bf16) (x5 x6 x7 : Vec Ideal S16384x128 .bf16) (x8 x9 : Vec Ideal S1536x512 .f32) (y10 : Vec Ideal S2048x128 .f32) (y11 : Vec Ideal S2048x128 .f32) (y12 : Vec Ideal S2048x128 .f32) (y13 : Vec Ideal S16384x128 .f32) (y14 : Vec Ideal S16384x128 .f32) (y15 : Vec Ideal S2048x256 .f32) (y16 : Vec Ideal S2048x128 .f32) (E : Set ℕ) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16)
      ⊢ wp (M := 𝕄) frame (wpE (defs₀ (F := Ideal)) Variants.none c none) E (cc0_attn_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (leftK (sDk i x2 x3 x4 x5 x6 x7 x8 x9 32)) ∗ owns (c : Thread nD τ) arg11 fullShare (sDv i x2 x3 x5 x6 x7 x8 32) ∗ owns (c : Thread nD τ) arg12 fullShare (rightK (sDk i x2 x3 x4 x5 x6 x7 x8 x9 32)) ∗ owns (c : Thread nD τ) arg13 fullShare (sDq1 i x2 x3 x4 x5 x6 x7 x8 x9 y13 (32)) ∗ owns (c : Thread nD τ) arg14 fullShare (sDq2 i x2 x3 x4 x5 x6 x7 x8 x9 y14 (32)) ∗ owns (c : Thread nD τ) arg15 fullShare (sDk i x2 x3 x4 x5 x6 x7 x8 x9 (32)) ∗ owns (c : Thread nD τ) arg16 fullShare (sDv i x2 x3 x5 x6 x7 x8 (32)))) := by
  have hj := grp_lt i
  have B0 := isBlock (hd i) (i 1).val 512 0 (4 * (i 1).val) (by omega) (by omega) (fun r g hr hg => ⟨fun _ => by omega, fun _ => by omega⟩)
    (fun r g h1 h2 _ => by omega) _ _ (off1_all i).1.1 (off2_all i).1.1
    arg2 harg2 arg3 harg3 arg4 harg4 arg5 harg5 arg6 harg6 arg7 harg7 arg8 harg8 arg9 harg9 x2 x3 x4 x5 x6 x7 x8 x9
    inb_S2048x128_S512x128_0_0 (k0_off1_inb i 0) (k0_off2_inb i 0)
  have B1 := isBlock (hd i) (i 1).val 1024 1 (4 * (i 1).val + 1) (by omega) (by omega) (fun r g hr hg => ⟨fun _ => by omega, fun _ => by omega⟩)
    (fun r g h1 h2 _ => by omega) _ _ (off1_all i).1.2 (off2_all i).1.2
    arg2 harg2 arg3 harg3 arg4 harg4 arg5 harg5 arg6 harg6 arg7 harg7 arg8 harg8 arg9 harg9 x2 x3 x4 x5 x6 x7 x8 x9
    inb_S2048x128_S1024x128_0_0 (k0_off1_inb i 1) (k0_off2_inb i 1)
  have B2 := isBlock (hd i) (i 1).val 1536 2 (4 * (i 1).val + 2) (by omega) (by omega) (fun r g hr hg => ⟨fun _ => by omega, fun _ => by omega⟩)
    (fun r g h1 h2 _ => by omega) _ _ (off1_all i).2.1 (off2_all i).2.1
    arg2 harg2 arg3 harg3 arg4 harg4 arg5 harg5 arg6 harg6 arg7 harg7 arg8 harg8 arg9 harg9 x2 x3 x4 x5 x6 x7 x8 x9
    inb_S2048x128_S1536x128_0_0 (k0_off1_inb i 2) (k0_off2_inb i 2)
  have B3 := isBlock (hd i) (i 1).val 2048 3 (4 * (i 1).val + 3) (by omega) (by omega) (fun r g hr hg => ⟨fun _ => by omega, fun _ => by omega⟩)
    (fun r g h1 h2 _ => by omega) _ _ (off1_all i).2.2 (off2_all i).2.2
    arg2 harg2 arg3 harg3 arg4 harg4 arg5 harg5 arg6 harg6 arg7 harg7 arg8 harg8 arg9 harg9 x2 x3 x4 x5 x6 x7 x8 x9
    inb_S2048x128_S2048x128_0_0 (k0_off1_inb i 3) (k0_off2_inb i 3)
  simp only [cc0_attn_bwd_eq_skeleton]; unfold cc0_attn_bwd_skel
  simp only [k0_part15_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc0)

  sl_for (fun k (_ : PUnit) => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg13 fullShare (sDq1 i x2 x3 x4 x5 x6 x7 x8 x9 y13 (4 * (i 1).val + 4 + k)) ∗ owns (c : Thread nD τ) arg14 fullShare (sDq2 i x2 x3 x4 x5 x6 x7 x8 x9 y14 (4 * (i 1).val + 4 + k)) ∗ owns (c : Thread nD τ) arg15 fullShare (sDk i x2 x3 x4 x5 x6 x7 x8 x9 (4 * (i 1).val + 4 + k)) ∗ owns (c : Thread nD τ) arg16 fullShare (sDv i x2 x3 x5 x6 x7 x8 (4 * (i 1).val + 4 + k)))) $$ [H2 H3 H4 H5 H6 H7 H8 H9 H13 H14 H15 H16]
  · intro k acc
    exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 x2 x3 x4 x5 x6 x7 x8 x9 y13 y14 _ _ k E
  · unfold owns
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H13]
    · iexists _; isplitr; swap; · iexact H13
      ipureintro
      refine step13 B3 x2 _ B3.k1 y13 arg13 _ _ _ (off1_all i).2.2 _ _ ?_ fun g d => (dq1_fourth _ _ _ _ _ _ _ _ _ g d).trans (congrArg (· + _) (rd (k := 128) arg13 harg13 _ _ (off1_all i).2.2 _ g d (by omega) (le_refl _)))
      refine step13 B2 x2 _ B2.k1 y13 arg13 _ _ _ (off1_all i).2.1 _ _ ?_ fun g d => (dq1_third _ _ _ _ _ _ _ _ _ g d).trans (congrArg (· + _) (rd (k := 128) arg13 harg13 _ _ (off1_all i).2.1 _ g d (by omega) (le_refl _)))
      refine step13 B1 x2 _ B1.k1 y13 arg13 _ _ _ (off1_all i).1.2 _ _ ?_ fun g d => (dq1_second _ _ _ _ _ _ _ _ _ g d).trans (congrArg (· + _) (rd (k := 128) arg13 harg13 _ _ (off1_all i).1.2 _ g d (by omega) (le_refl _)))
      refine step13 B0 x2 _ B0.k1 y13 arg13 _ _ _ (off1_all i).1.1 _ _ ?_ fun g d => (dq1_first _ _ _ _ _ _ _ _ _ g d).trans (congrArg (· + _) (rd (k := 128) arg13 harg13 _ _ (off1_all i).1.1 _ g d (by omega) (le_refl _)))
      rw [View.writes_nil, harg13.read_unread, dqAt_start]
    isplitl [H14]
    · iexists _; isplitr; swap; · iexact H14
      ipureintro
      refine step13 B3 x3 _ B3.k2 y14 arg14 _ _ _ (off1_all i).2.2 _ _ ?_ fun g d => (dq2_fourth _ _ _ _ _ _ _ _ _ g d).trans (congrArg (· + _) (rd (k := 128) arg14 harg14 _ _ (off1_all i).2.2 _ g d (by omega) (le_refl _)))
      refine step13 B2 x3 _ B2.k2 y14 arg14 _ _ _ (off1_all i).2.1 _ _ ?_ fun g d => (dq2_third _ _ _ _ _ _ _ _ _ g d).trans (congrArg (· + _) (rd (k := 128) arg14 harg14 _ _ (off1_all i).2.1 _ g d (by omega) (le_refl _)))
      refine step13 B1 x3 _ B1.k2 y14 arg14 _ _ _ (off1_all i).1.2 _ _ ?_ fun g d => (dq2_second _ _ _ _ _ _ _ _ _ g d).trans (congrArg (· + _) (rd (k := 128) arg14 harg14 _ _ (off1_all i).1.2 _ g d (by omega) (le_refl _)))
      refine step13 B0 x3 _ B0.k2 y14 arg14 _ _ _ (off1_all i).1.1 _ _ ?_ fun g d => (dq2_first _ _ _ _ _ _ _ _ _ g d).trans (congrArg (· + _) (rd (k := 128) arg14 harg14 _ _ (off1_all i).1.1 _ g d (by omega) (le_refl _)))
      rw [View.writes_nil, harg14.read_unread, dqAt_start]
    isplitl [H15]
    · iexists _; isplitr; swap; · iexact H15
      ipureintro
      refine step15 B3 arg15 _ _ _ _ ?_ fun r d => dk_fourth _ _ _ _ _ _ _ _ _ r d
      refine step15 B2 arg15 _ _ _ _ ?_ fun r d => dk_third _ _ _ _ _ _ _ _ _ r d
      refine step15 B1 arg15 _ _ _ _ ?_ fun r d => dk_second _ _ _ _ _ _ _ _ _ r d
      refine step15 B0 arg15 _ _ _ _ ?_ fun r d => dk_first _ _ _ _ _ _ _ _ _ r d
      refine (View.read_writes_full _ _ _ _ []).trans ?_
      rw [dkAt_start]; exact zero15
    iexists _; isplitr; swap; · iexact H16
    ipureintro
    refine Eq.trans ?_ (congrArg (dvAt (i 1).val x2 x3 x5 x6 x7 (statOf (hd i) x8)) (show 4 * (i 1).val + 3 + 1 = 4 * (i 1).val + 4 + 0 from rfl))
    refine step16 B3 arg16 _ _ _ _ ?_ fun r d => dv_fourth _ _ _ _ _ (View.readAt (Elt Ideal) arg4.view (Rect.unit (s := S2048x128) ![0, 0] S2048x128.size inb_S2048x128_S2048x128_0_0).toLoadRect (harg4.unread x4)) _ (View.readAt (Elt Ideal) arg9.view (Rect.unit (s := S1536x512) (k0_off2 i 3#32) S1x512.size (k0_off2_inb i 3)).toLoadRect (harg9.unread x9)) _ r d
    refine step16 B2 arg16 _ _ _ _ ?_ fun r d => dv_third _ _ _ _ _ (View.readAt (Elt Ideal) arg4.view (Rect.unit (s := S2048x128) ![0, 0] S1536x128.size inb_S2048x128_S1536x128_0_0).toLoadRect (harg4.unread x4)) _ (View.readAt (Elt Ideal) arg9.view (Rect.unit (s := S1536x512) (k0_off2 i 2#32) S1x512.size (k0_off2_inb i 2)).toLoadRect (harg9.unread x9)) _ r d
    refine step16 B1 arg16 _ _ _ _ ?_ fun r d => dv_second _ _ _ _ _ (View.readAt (Elt Ideal) arg4.view (Rect.unit (s := S2048x128) ![0, 0] S1024x128.size inb_S2048x128_S1024x128_0_0).toLoadRect (harg4.unread x4)) _ (View.readAt (Elt Ideal) arg9.view (Rect.unit (s := S1536x512) (k0_off2 i 1#32) S1x512.size (k0_off2_inb i 1)).toLoadRect (harg9.unread x9)) _ r d
    refine step16 B0 arg16 _ _ _ _ ?_ fun r d => dv_first _ _ _ _ _ (View.readAt (Elt Ideal) arg4.view (Rect.unit (s := S2048x128) ![0, 0] S512x128.size inb_S2048x128_S512x128_0_0).toLoadRect (harg4.unread x4)) _ (View.readAt (Elt Ideal) arg9.view (Rect.unit (s := S1536x512) (k0_off2 i 0#32) S1x512.size (k0_off2_inb i 0)).toLoadRect (harg9.unread x9)) _ r d
    refine (View.read_writes_full _ _ _ _ []).trans ?_
    rw [dvAt_start]; exact zero16

  iintro %acc HI
  simp only [trips1 i, show 4 * (i 1).val + 4 + (28 - 4 * (i 1).val) = 32 from by omega]
  unfold owns
  icases HI with ⟨⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g13, %hg13, H13⟩, ⟨%g14, %hg14, H14⟩, ⟨%g15, %hg15, H15⟩, ⟨%g16, %hg16, H16⟩⟩
  obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg13.eq_unread hg13; obtain rfl := harg14.eq_unread hg14; obtain rfl := harg15.eq_unread hg15; obtain rfl := harg16.eq_unread hg16
  sl_exec
  sl_for0 (trips2 i)
  sl_exec
  sl_step
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; exact (View.read_writes_full _ _ _ _ []).trans (left_load arg15 harg15 _ _)
  isplitl [H11]
  · iexists _; isplitr; swap; · iexact H11
    ipureintro; exact (View.read_writes_full _ _ _ _ []).trans (full_load arg16 harg16 _ _)
  isplitl [H12]
  · iexists _; isplitr; swap; · iexact H12
    ipureintro; exact (View.read_writes_full _ _ _ _ []).trans (right_load arg15 harg15 _ _)
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  iexists _; isplitr; swap; · iexact H16
  ipureintro; exact harg16.read_unread _

end Cert.KernelIdeal.Attn

end
-- ==== Proof.Run.lean ====
module

public import proofs.«01_k».proof.Proof.BodyA
public import proofs.«01_k».proof.Proof.BodyB

/-!
The run of the whole kernel: what each point of the grid leaves in its staging buffers, and from there the launch.
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Attn

local notation "𝕄" => MT nD τ sig Unit (Elt Ideal) ℕ (UR sig nD τ) ℕ

variable (m : (ℓ : Loc nD τ sig) → Buf (Elt Ideal) ℓ) (ρ : Dev nD → PrngReg)

/-- What a point leaves of the key side: the gradient of its keys and of its values. -/
def ptK (c : Dev nD) (t : Fin cfg0.N) : Mat 2048 256 := sDk (grid0.coords t) (iblk m c 0 t) (iblk m c 1 t) (iblk m c 2 t) (iblk m c 3 t) (iblk m c 4 t) (iblk m c 5 t) (iblk m c 6 t) (iblk m c 7 t) 32
def ptV (c : Dev nD) (t : Fin cfg0.N) : Mat 2048 128 :=
  sDv (grid0.coords t) (iblk m c 0 t) (iblk m c 1 t) (iblk m c 3 t) (iblk m c 4 t) (iblk m c 5 t) (iblk m c 6 t) 32

/-- What it makes of the two halves of the query gradient it finds. -/
def ptQ1 (c : Dev nD) (t : Fin cfg0.N) (y : Mat 16384 128) : Mat 16384 128 := sDq1 (grid0.coords t) (iblk m c 0 t) (iblk m c 1 t) (iblk m c 2 t) (iblk m c 3 t) (iblk m c 4 t) (iblk m c 5 t) (iblk m c 6 t) (iblk m c 7 t) y 32
def ptQ2 (c : Dev nD) (t : Fin cfg0.N) (y : Mat 16384 128) : Mat 16384 128 := sDq2 (grid0.coords t) (iblk m c 0 t) (iblk m c 1 t) (iblk m c 2 t) (iblk m c 3 t) (iblk m c 4 t) (iblk m c 5 t) (iblk m c 6 t) (iblk m c 7 t) y 32

/-- The point of head `h` and key group `j`. -/
def pt (h : Fin 6) (j : Fin 8) : Fin cfg0.N := ⟨8 * h.val + j.val, by rw [show cfg0.N = 48 from N_0]; omega⟩

/-- The query gradient of head `h` after its first `j` points. -/
def acc1 (c : Dev nD) (h : Fin 6) : ℕ → Mat 16384 128
  | 0 => fun _ => 0
  | j + 1 => if hj : j < 8 then ptQ1 m c (pt h ⟨j, hj⟩) (acc1 c h j) else acc1 c h j
def acc2 (c : Dev nD) (h : Fin 6) : ℕ → Mat 16384 128
  | 0 => fun _ => 0
  | j + 1 => if hj : j < 8 then ptQ2 m c (pt h ⟨j, hj⟩) (acc2 c h j) else acc2 c h j

/-- The head of a point. -/
def hdt (t : Fin cfg0.N) : Fin 6 := ⟨t.val / 8, by have := lt_of_lt_of_eq t.isLt (show cfg0.N = 48 from N_0); omega⟩

theorem pt_hdt (t : Fin cfg0.N) (h) : pt (hdt t) ⟨t.val % 8, h⟩ = t := Fin.ext (by show 8 * (t.val / 8) + t.val % 8 = t.val; omega)

theorem acc1_step (c : Dev nD) (t : Fin cfg0.N) : acc1 m c (hdt t) (t.val % 8 + 1) = ptQ1 m c t (acc1 m c (hdt t) (t.val % 8)) := by
  rw [acc1, dif_pos (show t.val % 8 < 8 by omega), pt_hdt]
theorem acc2_step (c : Dev nD) (t : Fin cfg0.N) : acc2 m c (hdt t) (t.val % 8 + 1) = ptQ2 m c t (acc2 m c (hdt t) (t.val % 8)) := by
  rw [acc2, dif_pos (show t.val % 8 < 8 by omega), pt_hdt]

/-- The pipeline's proof data: the arrays as the region finds them, and what each point's body leaves in each window. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => leftK (ptK m c t)
    | ⟨9, _⟩ => ptV m c t
    | ⟨10, _⟩ => rightK (ptK m c t)
    | ⟨11, _⟩ => acc1 m c (hdt t) (t.val % 8 + 1)
    | ⟨12, _⟩ => acc2 m c (hdt t) (t.val % 8 + 1)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = leftK (ptK m c t) := by dsimp only [dats]
theorem after_9 (c : Dev nD) (t : Fin cfg0.N) : (dats m 0 c).after 9 t = ptV m c t := by dsimp only [dats]
theorem after_10 (c : Dev nD) (t : Fin cfg0.N) : (dats m 0 c).after 10 t = rightK (ptK m c t) := by dsimp only [dats]
theorem after_11 (c : Dev nD) (t : Fin cfg0.N) : (dats m 0 c).after 11 t = acc1 m c (hdt t) (t.val % 8 + 1) := by dsimp only [dats]
theorem after_12 (c : Dev nD) (t : Fin cfg0.N) : (dats m 0 c).after 12 t = acc2 m c (hdt t) (t.val % 8 + 1) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Past a head's first point the window holds what the point before left. -/
theorem before_11 (c : Dev nD) (t : Fin cfg0.N) (ht : t.val % 8 ≠ 0) (d) : (dats m 0 c).before 11 t d = acc1 m c (hdt t) (t.val % 8) := by
  rw [(dats m 0 c).before_out_kept 11 rfl t (by omega) (by rw [← Bool.not_eq_true, flush0_11]; simp only; omega) (fun _ => rfl) (fun _ _ => rfl), after_11]
  refine congrArg₂ (acc1 m c) (Fin.ext ?_) ?_
  · show (t.val - 1) / 8 = t.val / 8; omega
  · show (t.val - 1) % 8 + 1 = t.val % 8; omega

/-- Past a head's first point the window holds what the point before left. -/
theorem before_12 (c : Dev nD) (t : Fin cfg0.N) (ht : t.val % 8 ≠ 0) (d) : (dats m 0 c).before 12 t d = acc2 m c (hdt t) (t.val % 8) := by
  rw [(dats m 0 c).before_out_kept 12 rfl t (by omega) (by rw [← Bool.not_eq_true, flush0_12]; simp only; omega) (fun _ => rfl) (fun _ _ => rfl), after_12]
  refine congrArg₂ (acc2 m c) (Fin.ext ?_) ?_
  · show (t.val - 1) / 8 = t.val / 8; omega
  · show (t.val - 1) % 8 + 1 = t.val % 8; omega
/-- The staging memref of window 0 at a point. -/
abbrev ms_0 (t : Fin cfg0.N) : Memref sig .tc .vmem S2048x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x128 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S16384x128 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S16384x128 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S16384x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1536x512 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1536x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S2048x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S2048x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S2048x128 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S16384x128 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S16384x128 .f32 := win0_12.stage (cfg0.slots t 12)
abbrev hs_12 (t : Fin cfg0.N) : (ms_12 t).IsWhole := hstage0_12 ((cfg0.slots t 12).cast nbuf0_12)

/-- The two accumulators of the key side. -/
abbrev sc_0 : Memref sig .tc .vmem S2048x256 .f32 := Memref.whole cc0_scratch0
abbrev sc_1 : Memref sig .tc .vmem S2048x128 .f32 := Memref.whole cc0_scratch1

theorem rest_eq (c : Dev nD) : (Pipeline.ΦA spec0 c : sProp 𝕄)
    = iprop(iprop((∃ d, owns (c : Thread nD τ) sc_0 fullShare d) ∗ (∃ d, owns (c : Thread nD τ) sc_1 fullShare d)) ∗ (∃ r, prngReg c r)) := by
  unfold Pipeline.ΦA; rw [scopedRest0_eq]; simp only [sc_0, sc_1, owns_whole]; try rfl

/-- The body's branch is taken at a head's first point. -/
theorem branch (t : Fin cfg0.N) : (Scalar.cmpi .ne (Scalar.extui (Scalar.cmpi .eq (BitVec.ofNat 32 (grid0.coords t 1).val) 0#32)) 0#32) = 1#1 ↔ t.val % 8 = 0 := by
  have ht : t.val < 48 := Nat.lt_of_lt_of_eq t.isLt N_0
  have e1 : (grid0.coords t 1).val = t.val / 1 % 8 := Pipeline.Grid.coords_val t 1 (by decide) rfl
  simp only [e1]
  word_cmp

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t))

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, acc1_step, acc2_step]
  rw [show (dats m 0 c).Φ t.castSucc = Pipeline.ΦA spec0 c from rfl, rest_eq]
  by_cases h0 : t.val % 8 = 0
  · rw [h0]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply wp_wand_r
    isplitl [H0 H1 H2 H3 H4 H5 H6 H7 H8 H9 H10 H11 H12 HS0 HS1]
    · iapply (bodyA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) sc_0 (Memref.isWhole_whole _) sc_1 (Memref.isWhole_whole _) ((branch t).mpr h0) (iblk m c 0 t) (iblk m c 1 t) (iblk m c 2 t) (iblk m c 3 t) (iblk m c 4 t) (iblk m c 5 t) (iblk m c 6 t) (iblk m c 7 t) _ _ _ _ _ e0 e1 Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iexact HS1
    iintro %_ ⟨H0, H1, H2, H3, H4, H5, H6, H7, H8, H9, H10, H11, H12, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · simp only [before_11 m c t h0, before_12 m c t h0]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply wp_wand_r
    isplitl [H0 H1 H2 H3 H4 H5 H6 H7 H8 H9 H10 H11 H12 HS0 HS1]
    · iapply (bodyB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) sc_0 (Memref.isWhole_whole _) sc_1 (Memref.isWhole_whole _) (fun h => h0 ((branch t).mp h)) (iblk m c 0 t) (iblk m c 1 t) (iblk m c 2 t) (iblk m c 3 t) (iblk m c 4 t) (iblk m c 5 t) (iblk m c 6 t) (iblk m c 7 t) _ _ _ _ _ e0 e1 Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iexact HS1
    iintro %_ ⟨H0, H1, H2, H3, H4, H5, H6, H7, H8, H9, H10, H11, H12, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs_row]
  exact triple_restated (sound_body m c t) rfl .rfl fun _ => .rfl

set_option backward.isDefEq.respectTransparency.types false in
set_option maxHeartbeats 800000 in
/-- The launch: every execution ends, the arrays of the windows at what the points' writes make of them, the host lines after the
    region run on them, and every counter at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) 0 launch₀0 defs₀ Variants.none m ρ main
    (hbody := fun c => (body_obligation m c).loose) (hq := fun _ _ _ => rfl) (howed := fun _ _ => rfl) (V₀ := V0 m) (opss := [hostOps1])
    sfx_sub sfx_fresh sfx_keeps (hmain := hmain m Variants.none) (hA := A_eq m) (hΦ := fun _ _ => rfl)

end Cert.KernelIdeal.Attn

end
-- ==== Proof.Words.lean ====
module

public import Idealize.ShloMosaic.Lib.Pointwise
public import Idealize.ShloMosaic.Lib.Affine
public import Idealize.ShloMosaic.Lib.Routing.BitFacts
public import Idealize.ShloMosaic.PureOps.Ideal

/-!
The chunk of a token as the host computes it, and the constants of the step as real numbers.
-/

@[expose] public section

set_option maxRecDepth 16384

noncomputable section

namespace Cert.Attn

open Idealize.ShloMosaic

/-- The floor division by 64, as printed, of a token's number is the number of its chunk. -/
theorem floordiv64 (n : ℕ) (hn : n < 16384) : Scalar.select
      (IntOp.andi
        (IntOp.cmpi CmpIPredicate.ne
          (if BitVec.ofNat 32 n = 0 then (0 : BitVec 32) else if (BitVec.ofNat 32 n).msb = true then -1 else 1)
          (if 64#32 = 0 then 0
          else if BitVec.msb (64#32) = true then -1 else 1))
        (IntOp.cmpi CmpIPredicate.ne (IntOp.remsi ArithUnit.host (BitVec.ofNat 32 n) (64#32))
          0#32))
      (IntOp.subi (IntOp.divsi ArithUnit.host (BitVec.ofNat 32 n) (64#32)) 1#32)
      (IntOp.divsi ArithUnit.host (BitVec.ofNat 32 n) (64#32)) =
    BitVec.ofNat 32 (n / 64) := by
  have hd : IntOp.divsi ArithUnit.host (BitVec.ofNat 32 n) (64#32) = BitVec.ofNat 32 (n / 64) := by
    have hc : ¬ IntOp.SDivCorner (BitVec.ofNat 32 n) (64#32) := IntOp.not_corner_of_pos (by decide)
    unfold IntOp.divsi
    rw [if_neg hc, BitVec.sdiv_eq, Routing.msb_ofNat32 (by omega), show (64#32).msb = false by decide]
    exact Routing.udiv_ofNat32 (by omega) (by omega)
  have ht : (BitVec.ofNat 32 n).toNat = n := by rw [BitVec.toNat_ofNat]; omega
  rw [hd]
  have hz : IntOp.andi
        (IntOp.cmpi CmpIPredicate.ne
          (if BitVec.ofNat 32 n = 0 then (0 : BitVec 32) else if (BitVec.ofNat 32 n).msb = true then -1 else 1)
          (if 64#32 = 0 then 0
          else if BitVec.msb (64#32) = true then -1 else 1))
        (IntOp.cmpi CmpIPredicate.ne (IntOp.remsi ArithUnit.host (BitVec.ofNat 32 n) (64#32))
          0#32) ≠ 1#1 := by
    rw [Ne, IntOp.andi_eq_one, IntOp.cmpi_ne, IntOp.cmpi_ne]
    rintro ⟨h1, h2⟩
    by_cases h0 : n = 0
    · subst h0
      exact h2 ((IntOp.remsi_eq_zero_iff ArithUnit.host (by rw [ht]; omega) 64 (by omega) (by omega)).2 (by simp))
    · apply h1
      rw [if_neg, if_neg, if_neg, if_neg]
      · decide
      · decide
      · rw [Routing.msb_ofNat32 (by omega)]; decide
      · intro e
        have := congrArg BitVec.toNat e
        rw [ht] at this
        exact h0 this
  exact if_neg hz

/-- Comparing two small words is comparing their numbers. -/
theorem sle_nat (a b : ℕ) (ha : a < 16384) (hb : b < 16384) :
    IntOp.cmpi CmpIPredicate.sle (BitVec.ofNat 32 a) (BitVec.ofNat 32 b) = if a ≤ b then 1#1 else 0#1 := by
  have ta : (BitVec.ofNat 32 a).toInt = a := by
    rw [BitVec.toInt_eq_toNat_of_lt (by rw [BitVec.toNat_ofNat]; omega), BitVec.toNat_ofNat]; omega
  have tb : (BitVec.ofNat 32 b).toInt = b := by
    rw [BitVec.toInt_eq_toNat_of_lt (by rw [BitVec.toNat_ofNat]; omega), BitVec.toNat_ofNat]; omega
  have h := @IntOp.cmpi_sle 32 (BitVec.ofNat 32 a) (BitVec.ofNat 32 b)
  rw [ta, tb] at h
  by_cases hab : a ≤ b
  · rw [if_pos hab]; exact h.2 (by omega)
  · rw [if_neg hab]
    have : ¬ IntOp.cmpi CmpIPredicate.sle (BitVec.ofNat 32 a) (BitVec.ofNat 32 b) = 1#1 := fun e => hab (by have := h.1 e; omega)
    revert this
    generalize IntOp.cmpi CmpIPredicate.sle (BitVec.ofNat 32 a) (BitVec.ofNat 32 b) = w
    revert w; decide

/-- The word of minus infinity denotes the bottom. -/
theorem bot_word : Ideal.ofBits .f32 0xFF800000#32 = ⊥ := by simp [Ideal.ofBits, Ideal.ieee]

/-- The scale of the scores. -/
abbrev cw : EReal := Ideal.ofBits FTy.f32 0x3D93CD3A#32

/-- The scale of the scores is a real number. -/
theorem cw_real : cw = ((9686330 / 2 ^ 27 : ℝ) : EReal) := by
  simp [cw, Ideal.ofBits, Ideal.ieee, -EReal.coe_mul]
  norm_num

end Cert.Attn
-- ==== Proof.Host.lean ====
module

public import proofs.«01_k».proof.Proof.Gen.KernelIdeal.Frame
public import proofs.«01_k».proof.Proof.Spec
public import proofs.«01_k».proof.Proof.Words
public import Idealize.ShloMosaic.Lib.Pointwise
public import Idealize.ShloMosaic.Lib.StableHlo.RunRead
public import Idealize.ShloMosaic.Lib.Tactic.CleanTypes

@[expose] public section
set_option maxRecDepth 16384
noncomputable section
namespace Cert.KernelIdeal.Attn
open Idealize.ShloMosaic Idealize.ShloMosaic.TcCoe Idealize.ShloMosaic.Tactic
open Idealize.SL.Sem
open Cert.KernelIdeal.Gen Cert.Attn
variable (m : (ℓ : Loc nD τ sig) → Buf (Elt Ideal) ℓ) (c : Dev nD)

abbrev A0 : S16384x6x128.Idx → EReal := m ((c : Thread nD τ).loc main_arg0)
abbrev A1 : S16384x6x64.Idx → EReal := m ((c : Thread nD τ).loc main_arg1)
abbrev A2 : S16384x6x128.Idx → EReal := m ((c : Thread nD τ).loc main_arg2)
abbrev A3 : S16384x64.Idx → EReal := m ((c : Thread nD τ).loc main_arg3)
abbrev A4 : S16384x6x128.Idx → EReal := m ((c : Thread nD τ).loc main_arg4)
abbrev A5 : S16384x768.Idx → EReal := m ((c : Thread nD τ).loc main_arg5)

/-- What the buffer `v7` holds when the launch starts. -/
def W7 : FVec Ideal S16384x1536 .bf16 := V m c main_v7
/-- What the buffer `v11` holds when the launch starts. -/
def W11 : FVec Ideal S16384x1536 .bf16 := V m c main_v11
/-- What the buffer `v14` holds when the launch starts. -/
def W14 : FVec Ideal S16384x128 .bf16 := V m c main_v14
/-- What the buffer `v16` holds when the launch starts. -/
def W16 : S16384.Idx → BitVec 32 := V m c main_v16
/-- What the buffer `v21` holds when the launch starts. -/
def W21 : S16384x16384.Idx → BitVec 1 := V m c main_v21
/-- What the buffer `v28` holds when the launch starts. -/
def W28 : FVec Ideal S6x16384x16384 .f32 := V m c main_v28
/-- What the buffer `v29` holds when the launch starts. -/
def W29 : FVec Ideal S6x16384 .f32 := V m c main_v29
/-- What the buffer `v33` holds when the launch starts. -/
def W33 : FVec Ideal S6x16384x16384 .f32 := V m c main_v33
/-- What the buffer `v34` holds when the launch starts. -/
def W34 : FVec Ideal S6x16384 .f32 := V m c main_v34
/-- What the buffer `v37` holds when the launch starts. -/
def W37 : FVec Ideal S6x16384x1 .f32 := V m c main_v37
/-- What the buffer `v41` holds when the launch starts. -/
def W41 : FVec Ideal S6x16384x128 .f32 := V m c main_v41
/-- What the buffer `v43` holds when the launch starts. -/
def W43 : FVec Ideal S6x16384x128 .f32 := V m c main_v43
/-- What the buffer `v38` holds when the launch starts. -/
def W38 : FVec Ideal S6x16384 .f32 := V m c main_v38
/-- What the buffer `v40` holds when the launch starts. -/
def W40 : FVec Ideal S6x16384x16384 .f32 := V m c main_v40
/-- What the buffer `v45` holds when the launch starts. -/
def W45 : FVec Ideal S6x16384 .f32 := V m c main_v45
/-- What the buffer `v50` holds when the launch starts. -/
def W50 : FVec Ideal S1536x512 .f32 := V m c main_v50
/-- What the buffer `v55` holds when the launch starts. -/
def W55 : FVec Ideal S1536x512 .f32 := V m c main_v55
/-- What the buffer `v56` holds when the launch starts. -/
def W56 : FVec Ideal S16384x768 .bf16 := V m c main_v56

theorem W16_at (k : Fin 16384) : W16 m c (ix1 k) = BitVec.ofNat 32 (k.val / 64) := by
  unfold W16 V V0
  after_reads_simp
  simp only [StableHlo.TRef.ofBuf_toBuf, cast_eq]
  pointwise
  exact floordiv64 k.val k.isLt

theorem W7a (g : Fin 16384) (h : Fin 6) (d : Fin 128) : W7 m c (ix2 g ⟨128*h+d, by omega⟩) = A0 m c (ix3 g h d) * cw := by
  unfold W7 V V0
  after_reads_simp
  pointwise
  rw [dif_pos (by omega)]
  after_reads_simp
  pointwise
theorem W7b (g : Fin 16384) (h : Fin 6) (d : Fin 128) : W7 m c (ix2 g ⟨768+(128*h+d), by omega⟩) = (if h' : d.val < 64 then A1 m c (ix3 g h ⟨d, h'⟩) else 0) * cw := by
  unfold W7 V V0
  after_reads_simp
  pointwise
  after_reads_simp
  pointwise
  by_cases hd : d.val < 64
  · rw [dif_pos hd, dif_pos hd]
    after_reads_simp
  · rw [dif_neg hd, dif_neg hd]
    after_reads_simp
    pointwise
theorem W11a (g : Fin 16384) (h : Fin 6) (d : Fin 128) : W11 m c (ix2 g ⟨128*h+d, by omega⟩) = A2 m c (ix3 g h d) := by
  unfold W11 V V0
  after_reads_simp
  pointwise
  rw [dif_pos (by omega)]
  after_reads_simp
  pointwise
theorem W11b (g : Fin 16384) (h : Fin 6) (d : Fin 128) : W11 m c (ix2 g ⟨768+(128*h+d), by omega⟩) = A4 m c (ix3 g h d) := by
  unfold W11 V V0
  after_reads_simp
  pointwise
  after_reads_simp
  pointwise
theorem W14_at (g : Fin 16384) (d : Fin 128) : W14 m c (ix2 g d) = if h' : d.val < 64 then A3 m c (ix2 g ⟨d, h'⟩) else 0 := by
  unfold W14 V V0
  after_reads_simp
  pointwise
  by_cases hd : d.val < 64
  · rw [dif_pos hd, dif_pos hd]
    after_reads_simp
  · rw [dif_neg hd, dif_neg hd]
    after_reads_simp
    pointwise
theorem W56_at (g : Fin 16384) (x) : W56 m c (ix2 g x) = A5 m c (ix2 g x) := by
  unfold W56 V V0
  after_reads_simp
  pointwise

theorem W21_eq : W21 m c = cmpi .sle (broadcastInDim S16384x16384 ![0, 1] bcast_S1x16384_S16384x16384_0_1 (broadcastInDim S1x16384 ![1] bcast_S16384_S1x16384_1 (W16 m c))) (broadcastInDim S16384x16384 ![0, 1] bcast_S16384x1_S16384x16384_0_1 (broadcastInDim S16384x1 ![0] bcast_S16384_S16384x1_0 (W16 m c))) := by
    unfold W21 W16 V V0
    after_reads_simp
theorem W21_at (q k : Fin 16384) : W21 m c (ix2 q k) = if k.val/64 ≤ q.val/64 then 1#1 else 0#1 := by
  rw [W21_eq]
  pointwise
  rw [W16_at, W16_at]
  exact sle_nat _ _ (by omega) (by omega)
theorem W28_at (h : Fin 6) (q k : Fin 16384) : W28 m c (ix3 h q k) = Scalar.select (W21 m c (ix2 q k)) (((∑ d : Fin 128, A0 m c (ix3 q h d) * A2 m c (ix3 k h d)) + (∑ d : Fin 64, A3 m c (ix2 k d) * A1 m c (ix3 q h d))) * cw) ⊥ := by
  unfold W28 W21 V V0
  after_reads_simp
  simp only [StableHlo.TRef.ofBuf_toBuf, cast_eq]
  generalize cmpi .sle _ _ = T
  pointwise
  show Scalar.select _ _ (Ideal.ofBits .f32 0xFF800000#32) = _
  rw [bot_word]
theorem W29_eq : W29 m c = Host.reduce FloatOps.maximumf (W28 m c : FVec Ideal S6x16384x16384 .f32) (constant S_ .f32 0xFF800000#32) reducesTo_S6x16384x16384_S6x16384_d2 h_S_ := by
    unfold W29 W28 V V0
    after_reads_simp
theorem W29_at (h : Fin 6) (q : Fin 16384): W29 m c (ix2 h q) = Finset.univ.fold max ⊥ (fun k : Fin 16384 => W28 m c (ix3 h q k)) := by
  rw [W29_eq]
  generalize (W28 m c : FVec Ideal S6x16384x16384 .f32) = T
  pointwise
  rw [bot_word]
theorem W33_at (h : Fin 6) (q k : Fin 16384): W33 m c (ix3 h q k) = Ideal.exp (W28 m c (ix3 h q k) - W29 m c (ix2 h q)) := by
  have : W33 m c = Host.exp (subf (W28 m c : FVec Ideal S6x16384x16384 .f32) (broadcastInDim S6x16384x16384 ![0, 1, 2] bcast_S6x16384x1_S6x16384x16384_0_1_2 (broadcastInDim S6x16384x1 ![0, 1] bcast_S6x16384_S6x16384x1_0_1 (W29 m c : FVec Ideal S6x16384 .f32)))) := by
    unfold W33 W29 W28 V V0
    after_reads_simp
  rw [this]
  pointwise
theorem W34_at (h : Fin 6) (q : Fin 16384): W34 m c (ix2 h q) = ∑ k : Fin 16384, W33 m c (ix3 h q k) := by
  have : W34 m c = Host.reduceAdd (W33 m c : FVec Ideal S6x16384x16384 .f32) (constant S_ .f32 0x00000000#32) reducesTo_S6x16384x16384_S6x16384_d2 h_S_ := by
    unfold W34 W33 V V0
    after_reads_simp
  rw [this]
  pointwise
theorem W37_eq : W37 m c = addf (broadcastInDim S6x16384x1 ![0, 1] bcast_S6x16384_S6x16384x1_0_1 (W29 m c : FVec Ideal S6x16384 .f32)) (Host.log (broadcastInDim S6x16384x1 ![0, 1] bcast_S6x16384_S6x16384x1_0_1 (W34 m c : FVec Ideal S6x16384 .f32))) := by
    unfold W37 W34 W29 V V0
    after_reads_simp
theorem W38_at (h : Fin 6) (q : Fin 16384): W38 m c (ix2 h q) = W37 m c (ix3 h q 0) := by
  unfold W38 W37 V V0
  after_reads_simp
  generalize addf (F := Ideal) (s := S6x16384x1) (φ := .f32) _ _ = T
  pointwise
theorem W40_at (h : Fin 6) (q k : Fin 16384): W40 m c (ix3 h q k) = Ideal.div (W33 m c (ix3 h q k)) (W34 m c (ix2 h q)) := by
  have : W40 m c = Host.divf (W33 m c : FVec Ideal S6x16384x16384 .f32) (broadcastInDim S6x16384x16384 ![0, 1, 2] bcast_S6x16384x1_S6x16384x16384_0_1_2 (broadcastInDim S6x16384x1 ![0, 1] bcast_S6x16384_S6x16384x1_0_1 (W34 m c : FVec Ideal S6x16384 .f32))) := by
    unfold W40 W34 W33 V V0
    after_reads_simp
  rw [this]
  pointwise
theorem W41_at (h : Fin 6) (q : Fin 16384) (d : Fin 128) : W41 m c (ix3 h q d) = ∑ k : Fin 16384, W40 m c (ix3 h q k) * A4 m c (ix3 k h d) := by
  have : W41 m c = Host.dotGeneral dot_S6x16384x16384_S16384x6x128_S6x16384x128_2_0_1_2_0_1 none (φ₂ := .f32) (W40 m c : FVec Ideal S6x16384x16384 .f32) (A4 m c) := by
    unfold W41 W40 V V0
    after_reads_simp
  rw [this]
  pointwise
theorem W43_at (h : Fin 6) (q : Fin 16384) (d : Fin 128) : W43 m c (ix3 h q d) = A5 m c (ix2 q ⟨h*128+d, by omega⟩) := by
  unfold W43 V V0
  after_reads_simp
  pointwise
theorem W45_at (h : Fin 6) (q : Fin 16384): W45 m c (ix2 h q) = ∑ d : Fin 128, W41 m c (ix3 h q d) * W43 m c (ix3 h q d) := by
  have : W45 m c = Host.reduceAdd (mulf (W41 m c : FVec Ideal S6x16384x128 .f32) (W43 m c)) (constant S_ .f32 0x00000000#32) reducesTo_S6x16384x128_S6x16384_d2 h_S_ := by
    unfold W45 W41 W43 V V0
    after_reads_simp
  rw [this]
  pointwise
theorem W50_at (b : Fin 32) (h : Fin 6) (r : Fin 8) (l : Fin 512): W50 m c (ix2 ⟨48*b+8*h+r, by omega⟩ l) = W38 m c (ix2 h ⟨b*512+l, by omega⟩) := by
  have : W50 m c = shapeCast S1536x512 (broadcastInDim S32x6x8x512 ![0, 1, 2, 3] bcast_S32x6x1x512_S32x6x8x512_0_1_2_3 (broadcastInDim S32x6x1x512 ![0, 1, 3] bcast_S32x6x512_S32x6x1x512_0_1_3 (transpose S32x6x512 [1, 0, 2] (shapeCast S6x32x512 (W38 m c) shapeCasts_S6x16384_S6x32x512) transposes_S6x32x512_S32x6x512_1_0_2))) shapeCasts_S32x6x8x512_S1536x512 := by
    unfold W50 W38 V V0
    after_reads_simp
    rfl
  rw [this]
  pointwise
theorem W55_at (b : Fin 32) (h : Fin 6) (r : Fin 8) (l : Fin 512): W55 m c (ix2 ⟨48*b+8*h+r, by omega⟩ l) = W45 m c (ix2 h ⟨b*512+l, by omega⟩) := by
  have : W55 m c = shapeCast S1536x512 (broadcastInDim S32x6x8x512 ![0, 1, 2, 3] bcast_S32x6x1x512_S32x6x8x512_0_1_2_3 (broadcastInDim S32x6x1x512 ![0, 1, 3] bcast_S32x6x512_S32x6x1x512_0_1_3 (transpose S32x6x512 [1, 0, 2] (shapeCast S6x32x512 (W45 m c) shapeCasts_S6x16384_S6x32x512) transposes_S6x32x512_S32x6x512_1_0_2))) shapeCasts_S32x6x8x512_S1536x512 := by
    unfold W55 W45 V V0
    after_reads_simp
    rfl
  rw [this]
  pointwise

end Cert.KernelIdeal.Attn
-- ==== Proof.Arr.lean ====
module

public import proofs.«01_k».proof.Proof.Run
public import proofs.«01_k».proof.Proof.Host
public import Idealize.ShloMosaic.Lib.Pipeline.ValueKit

/-!
The arrays of the launch after its last point, and the blocks its points read, entry by entry.
-/

@[expose] public section

set_option maxRecDepth 16384

noncomputable section

namespace Cert.KernelIdeal.Attn

open Idealize.ShloMosaic Idealize.ShloMosaic.TcCoe Idealize.ShloMosaic.Tactic
open Idealize.SL.Sem
open Idealize.ShloMosaic.Pipeline (Dat Cfg Window)
open Cert.KernelIdeal.Gen Cert.Attn

variable (m : (ℓ : Loc nD τ sig) → Buf (Elt Ideal) ℓ) (c : Dev nD)

theorem ix_0 : ∀ t : Fin cfg0.N, win0_0.index t = ![t.val % 8, t.val / 8] := (by decide +kernel : ∀ t : Fin grid0.N, _)
theorem ix_1 : ∀ t : Fin cfg0.N, win0_1.index t = ![t.val % 8, 0] := (by decide +kernel : ∀ t : Fin grid0.N, _)
theorem ix_2 : ∀ t : Fin cfg0.N, win0_2.index t = ![t.val % 8, 6 + t.val / 8] := (by decide +kernel : ∀ t : Fin grid0.N, _)
theorem ix_3 : ∀ t : Fin cfg0.N, win0_3.index t = ![0, t.val / 8] := (by decide +kernel : ∀ t : Fin grid0.N, _)
theorem ix_4 : ∀ t : Fin cfg0.N, win0_4.index t = ![0, 6 + t.val / 8] := (by decide +kernel : ∀ t : Fin grid0.N, _)
theorem ix_5 : ∀ t : Fin cfg0.N, win0_5.index t = ![0, t.val / 8] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![t.val % 8, t.val / 8] := (by decide +kernel : ∀ t : Fin grid0.N, _)
theorem ix_9 : ∀ t : Fin cfg0.N, win0_9.index t = ![t.val % 8, t.val / 8] := (by decide +kernel : ∀ t : Fin grid0.N, _)
theorem ix_10 : ∀ t : Fin cfg0.N, win0_10.index t = ![t.val % 8, t.val / 8] := (by decide +kernel : ∀ t : Fin grid0.N, _)
theorem ix_11 : ∀ t : Fin cfg0.N, win0_11.index t = ![0, t.val / 8] := (by decide +kernel : ∀ t : Fin grid0.N, _)
theorem ix_12 : ∀ t : Fin cfg0.N, win0_12.index t = ![0, t.val / 8] := (by decide +kernel : ∀ t : Fin grid0.N, _)

theorem coord0 : ∀ t : Fin cfg0.N, (grid0.coords t 0).val = t.val / 8 := (by decide +kernel : ∀ t : Fin grid0.N, _)
theorem coord1 : ∀ t : Fin cfg0.N, (grid0.coords t 1).val = t.val % 8 := (by decide +kernel : ∀ t : Fin grid0.N, _)

/-- A point of the grid from its head and its group of keys. -/
theorem pt_of (t : Fin cfg0.N) (h : Fin 6) (j : Fin 8) (eh : h.val = t.val / 8) (ej : j.val = t.val % 8) : pt h j = t :=
  Fin.ext (by show 8 * h.val + j.val = t.val; omega)
theorem pt_div (h : Fin 6) (j : Fin 8) : (pt h j).val / 8 = h.val := by show (8 * h.val + j.val) / 8 = _; omega
theorem pt_mod (h : Fin 6) (j : Fin 8) : (pt h j).val % 8 = j.val := by show (8 * h.val + j.val) % 8 = _; omega

theorem blk_0 (h : Fin 6) (j : Fin 8) (r : Fin 2048) (d : Fin 128) :
    iblk m c 0 (pt h j) (ix2 r d) = W11 m c (ix2 ⟨2048 * j.val + r.val, by omega⟩ ⟨128 * h.val + d.val, by omega⟩) := by
  unfold W11
  blk_simp [iblk]
  congr 1
  blk_ext [ix_0 (pt h j), pt_div, pt_mod]
theorem blk_1 (h : Fin 6) (j : Fin 8) (r : Fin 2048) (d : Fin 128) :
    iblk m c 1 (pt h j) (ix2 r d) = W14 m c (ix2 ⟨2048 * j.val + r.val, by omega⟩ d) := by
  unfold W14
  blk_simp [iblk]
  congr 1
  blk_ext [ix_1 (pt h j), pt_div, pt_mod]
theorem blk_2 (h : Fin 6) (j : Fin 8) (r : Fin 2048) (d : Fin 128) :
    iblk m c 2 (pt h j) (ix2 r d) = W11 m c (ix2 ⟨2048 * j.val + r.val, by omega⟩ ⟨768 + (128 * h.val + d.val), by omega⟩) := by
  unfold W11
  blk_simp [iblk]
  congr 1
  blk_ext [ix_2 (pt h j), pt_div, pt_mod]
theorem blk_3 (h : Fin 6) (j : Fin 8) (g : Fin 16384) (d : Fin 128) :
    iblk m c 3 (pt h j) (ix2 g d) = W7 m c (ix2 g ⟨128 * h.val + d.val, by omega⟩) := by
  unfold W7
  blk_simp [iblk]
  congr 1
  blk_ext [ix_3 (pt h j), pt_div, pt_mod]
theorem blk_4 (h : Fin 6) (j : Fin 8) (g : Fin 16384) (d : Fin 128) :
    iblk m c 4 (pt h j) (ix2 g d) = W7 m c (ix2 g ⟨768 + (128 * h.val + d.val), by omega⟩) := by
  unfold W7
  blk_simp [iblk]
  congr 1
  blk_ext [ix_4 (pt h j), pt_div, pt_mod]
theorem blk_5 (h : Fin 6) (j : Fin 8) (g : Fin 16384) (d : Fin 128) :
    iblk m c 5 (pt h j) (ix2 g d) = W56 m c (ix2 g ⟨128 * h.val + d.val, by omega⟩) := by
  unfold W56
  blk_simp [iblk]
  congr 1
  blk_ext [ix_5 (pt h j), pt_div, pt_mod]
theorem emb_6 (t : Fin cfg0.N) (y : S1536x512.Idx) : (win0_6.blk t).view.emb y = y := by
  funext a
  apply Fin.ext
  fin_cases a
  · blk_simp [ix_6 t]
  · blk_simp [ix_6 t]
theorem blk_6 (t : Fin cfg0.N) (y : S1536x512.Idx) : iblk m c 6 t y = W50 m c y := by
  unfold W50 iblk
  rw [View.read_apply]
  refine (cast_eq _ _).trans ?_
  exact congrArg (V m c main_v50) (emb_6 t y)
theorem emb_7 (t : Fin cfg0.N) (y : S1536x512.Idx) : (win0_7.blk t).view.emb y = y := by
  funext a
  apply Fin.ext
  fin_cases a
  · blk_simp [ix_7 t]
  · blk_simp [ix_7 t]
theorem blk_7 (t : Fin cfg0.N) (y : S1536x512.Idx) : iblk m c 7 t y = W55 m c y := by
  unfold W55 iblk
  rw [View.read_apply]
  refine (cast_eq _ _).trans ?_
  exact congrArg (V m c main_v55) (emb_7 t y)
/-- An array of 16384 rows and six heads, from its blocks of 2048 rows and one head. -/
def tiles (F : Fin cfg0.N → Mat 2048 128) : S16384x768.Idx → EReal := fun i =>
  F (pt ⟨(i 1).val / 128, by have : (i 1).val < 768 := (i 1).isLt; omega⟩ ⟨(i 0).val / 2048, by have : (i 0).val < 16384 := (i 0).isLt; omega⟩)
    (ix2 ⟨(i 0).val % 2048, by omega⟩ ⟨(i 1).val % 128, by omega⟩)
/-- An array of 16384 rows and six heads, from its heads. -/
def strips (F : Fin 6 → Mat 16384 128) : S16384x768.Idx → EReal := fun i =>
  F ⟨(i 1).val / 128, by have : (i 1).val < 768 := (i 1).isLt; omega⟩ (ix2 ⟨(i 0).val, (i 0).isLt⟩ ⟨(i 1).val % 128, by omega⟩)

theorem tiles_at (F : Fin cfg0.N → Mat 2048 128) (t : Fin cfg0.N) (y : (⟨2, ![2048, 128]⟩ : Shape).Idx) (i : S16384x768.Idx)
    (e0 : (i 0).val = (t.val % 8) * 2048 + (y 0).val) (e1 : (i 1).val = (t.val / 8) * 128 + (y 1).val) : F t y = tiles F i := by
  have h0 : (y 0).val < 2048 := (y 0).isLt
  have h1 : (y 1).val < 128 := (y 1).isLt
  unfold tiles
  rw [pt_of t _ _ (show (i 1).val / 128 = _ by omega) (show (i 0).val / 2048 = _ by omega)]
  congr 1
  funext a
  fin_cases a
  · exact Fin.ext (show (y 0).val = (i 0).val % 2048 by omega)
  · exact Fin.ext (show (y 1).val = (i 1).val % 128 by omega)

theorem strips_at (F : Fin 6 → Mat 16384 128) (h : Fin 6) (y : (⟨2, ![16384, 128]⟩ : Shape).Idx) (i : S16384x768.Idx)
    (e0 : (i 0).val = (y 0).val) (e1 : (i 1).val = h.val * 128 + (y 1).val) : F h y = strips F i := by
  have h1 : (y 1).val < 128 := (y 1).isLt
  unfold strips
  congr 1
  · congr 1
    exact Fin.ext (show h.val = (i 1).val / 128 by omega)
  · funext a
    fin_cases a
    · exact Fin.ext (show (y 0).val = (i 0).val by omega)
    · exact Fin.ext (show (y 1).val = (i 1).val % 128 by omega)

theorem final_8 : (dats m 0 c).arrAt 8 cfg0.N = tiles fun t => leftK (ptK m c t) := by
  refine (dats m 0 c).arrAt_eq_of_covers 8 _ (by decide +kernel) fun t hf y => ?_
  blk_simp
  rw [after_8]
  refine tiles_at (fun t => leftK (ptK m c t)) t y _ ?_ ?_
  · blk_simp [ix_8 t]
  · blk_simp [ix_8 t]
theorem final_9 : (dats m 0 c).arrAt 9 cfg0.N = tiles fun t => ptV m c t := by
  refine (dats m 0 c).arrAt_eq_of_covers 9 _ (by decide +kernel) fun t hf y => ?_
  blk_simp
  rw [after_9]
  refine tiles_at (fun t => ptV m c t) t y _ ?_ ?_
  · blk_simp [ix_9 t]
  · blk_simp [ix_9 t]
theorem final_10 : (dats m 0 c).arrAt 10 cfg0.N = tiles fun t => rightK (ptK m c t) := by
  refine (dats m 0 c).arrAt_eq_of_covers 10 _ (by decide +kernel) fun t hf y => ?_
  blk_simp
  rw [after_10]
  refine tiles_at (fun t => rightK (ptK m c t)) t y _ ?_ ?_
  · blk_simp [ix_10 t]
  · blk_simp [ix_10 t]
theorem final_11 : (dats m 0 c).arrAt 11 cfg0.N = strips fun h => acc1 m c h 8 := by
  refine (dats m 0 c).arrAt_eq_of_covers 11 _ (by decide +kernel) fun t hf y => ?_
  blk_simp
  rw [after_11, (flush0_11 t).1 hf]
  refine strips_at (fun h => acc1 m c h 8) (hdt t) y _ ?_ ?_
  · blk_simp [ix_11 t]
  · blk_simp [ix_11 t]; rfl
theorem final_12 : (dats m 0 c).arrAt 12 cfg0.N = strips fun h => acc2 m c h 8 := by
  refine (dats m 0 c).arrAt_eq_of_covers 12 _ (by decide +kernel) fun t hf y => ?_
  blk_simp
  rw [after_12, (flush0_12 t).1 hf]
  refine strips_at (fun h => acc2 m c h 8) (hdt t) y _ ?_ ?_
  · blk_simp [ix_12 t]
  · blk_simp [ix_12 t]; rfl

end Cert.KernelIdeal.Attn
-- ==== Proof.Real.lean ====
module

public import proofs.«01_k».proof.Proof.Spec

/-!
The attention over the real numbers, and what masking and a row's maximum do to it over the extended reals.
-/

@[expose] public section

noncomputable section

namespace Cert.Attn

open Idealize.ShloMosaic

/-- A finite sum of real numbers is their sum over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many entries, each a real number or the bottom and one of them real, is real. -/
theorem fold_real {n : ℕ} (f : Fin n → EReal) (hf : ∀ k, f k ≠ ⊤) (k0 : Fin n) (h0 : f k0 ≠ ⊥) :
    ∃ M : ℝ, Finset.univ.fold max ⊥ f = (M : EReal) := by
  have ht : Finset.univ.fold max ⊥ f ≠ ⊤ := by
    have : ∀ s : Finset (Fin n), s.fold max ⊥ f ≠ ⊤ := by
      intro s
      induction s using Finset.induction_on with
      | empty => simp
      | insert a s ha ih =>
        rw [Finset.fold_insert ha]
        rcases max_choice (f a) (s.fold max ⊥ f) with h | h <;> rw [h]
        · exact hf a
        · exact ih
    exact this _
  have hb : Finset.univ.fold max ⊥ f ≠ ⊥ := by
    intro e
    have : f k0 ≤ Finset.univ.fold max ⊥ f := by
      rw [Finset.le_fold_max]
      exact Or.inr ⟨k0, Finset.mem_univ _, le_rfl⟩
    rw [e, le_bot_iff] at this
    exact h0 this
  exact ⟨_, (EReal.coe_toReal ht hb).symm⟩

/-- The arguments of the gradient as real numbers: the two parts of the queries, of the keys, the values, the cotangent
    of the output, and the scale. -/
structure Args where
  qn : Fin 16384 → Fin 6 → Fin 128 → ℝ
  qr : Fin 16384 → Fin 6 → Fin 64 → ℝ
  kn : Fin 16384 → Fin 6 → Fin 128 → ℝ
  kr : Fin 16384 → Fin 64 → ℝ
  v : Fin 16384 → Fin 6 → Fin 128 → ℝ
  o : Fin 16384 → Fin 6 → Fin 128 → ℝ
  s : ℝ

namespace Args

variable (A : Args)

/-- The score of key `k` at query `q` in head `h`. -/
def sc (h : Fin 6) (q k : Fin 16384) : ℝ := ((∑ d, A.qn q h d * A.kn k h d) + ∑ e, A.kr k e * A.qr q h e) * A.s
/-- Its exponential, zero where the key's chunk of 64 comes after the query's. -/
def ew (h : Fin 6) (q k : Fin 16384) : ℝ := if k.val / 64 ≤ q.val / 64 then Real.exp (A.sc h q k) else 0
/-- The sum of a query's exponentials. -/
def Z (h : Fin 6) (q : Fin 16384) : ℝ := ∑ k, A.ew h q k
/-- The probability. -/
def pr (h : Fin 6) (q k : Fin 16384) : ℝ := A.ew h q k / A.Z h q
/-- The probability's gradient. -/
def dp (h : Fin 6) (q k : Fin 16384) : ℝ := ∑ d, A.o q h d * A.v k h d
/-- The sum over a query's keys of probability times gradient. -/
def dl (h : Fin 6) (q : Fin 16384) : ℝ := ∑ k, A.pr h q k * A.dp h q k
/-- The gradient of the score before the scale. -/
def ds (h : Fin 6) (q k : Fin 16384) : ℝ := A.pr h q k * (A.dp h q k - A.dl h q)

/-- The gradients of the five arguments. -/
def dqn (q : Fin 16384) (h : Fin 6) (d : Fin 128) : ℝ := (∑ k, A.ds h q k * A.kn k h d) * A.s
def dqr (q : Fin 16384) (h : Fin 6) (e : Fin 64) : ℝ := (∑ k, A.ds h q k * A.kr k e) * A.s
def dkn (k : Fin 16384) (h : Fin 6) (d : Fin 128) : ℝ := ∑ q, A.ds h q k * (A.qn q h d * A.s)
def dkr (k : Fin 16384) (e : Fin 64) : ℝ := ∑ h, ∑ q, A.ds h q k * (A.qr q h e * A.s)
def dv (k : Fin 16384) (h : Fin 6) (d : Fin 128) : ℝ := ∑ q, A.pr h q k * A.o q h d

theorem ew_nonneg (h q k) : 0 ≤ A.ew h q k := by
  unfold ew; split
  · exact (Real.exp_pos _).le
  · exact le_rfl

theorem Z_pos (h q) : 0 < A.Z h q :=
  Finset.sum_pos' (fun k _ => A.ew_nonneg h q k) ⟨q, Finset.mem_univ _, by unfold ew; rw [if_pos le_rfl]; exact Real.exp_pos _⟩

/-- The masked scores. -/
def msc (h : Fin 6) (q k : Fin 16384) : EReal := if k.val / 64 ≤ q.val / 64 then (A.sc h q k : EReal) else ⊥

/-- A query's largest masked score is a real number. -/
theorem msc_max (h q) : ∃ M : ℝ, Finset.univ.fold max ⊥ (fun k => A.msc h q k) = (M : EReal) := by
  refine fold_real _ (fun k => ?_) q ?_
  · unfold msc; split
    · exact EReal.coe_ne_top _
    · exact bot_ne_top
  · unfold msc; rw [if_pos le_rfl]; exact EReal.coe_ne_bot _

/-- The exponential of a masked score less any real number. -/
theorem exp_msc (h q k) (M : ℝ) : Ideal.exp (A.msc h q k - (M : EReal)) = ((Real.exp (-M) * A.ew h q k : ℝ) : EReal) := by
  unfold msc ew
  split
  · rw [← EReal.coe_sub, Ideal.exp_coe, ← Real.exp_add, sub_eq_add_neg, add_comm]
  · rw [EReal.bot_sub, Ideal.exp_bot, mul_zero, EReal.coe_zero]

/-- Their sum. -/
theorem sum_msc (h q) (M : ℝ) : ∑ k, ((Real.exp (-M) * A.ew h q k : ℝ) : EReal) = ((Real.exp (-M) * A.Z h q : ℝ) : EReal) := by
  rw [← coe_sum, ← Finset.mul_sum]; rfl

/-- The logarithm of the sum, with the number taken off put back. -/
theorem log_sum (h q) (M : ℝ) :
    (M : EReal) + Ideal.log ((Real.exp (-M) * A.Z h q : ℝ) : EReal) = ((Real.log (A.Z h q) : ℝ) : EReal) := by
  have hz := A.Z_pos h q
  have hp : 0 < Real.exp (-M) * A.Z h q := mul_pos (Real.exp_pos _) hz
  rw [Ideal.log_coe, if_neg (not_le.2 hp), ← EReal.coe_add, Real.log_mul (Real.exp_pos _).ne' hz.ne', Real.log_exp]
  congr 1; ring

/-- The quotient of the two is the probability. -/
theorem quot (h q k) (M : ℝ) : Ideal.div ((Real.exp (-M) * A.ew h q k : ℝ) : EReal) ((Real.exp (-M) * A.Z h q : ℝ) : EReal) = (A.pr h q k : EReal) := by
  have hz := A.Z_pos h q
  have he := Real.exp_pos (-M)
  rw [Ideal.div_coe (mul_pos he hz).ne', ← EReal.coe_mul]
  unfold pr
  congr 1
  field_simp

/-- The exponential of a score less the logarithm of the sum is the probability. -/
theorem exp_lse (h q k) : (if k.val / 64 ≤ q.val / 64 then Ideal.exp ((A.sc h q k : EReal) - ((Real.log (A.Z h q) : ℝ) : EReal)) else 0)
    = (A.pr h q k : EReal) := by
  unfold pr ew
  split
  · rw [← EReal.coe_sub, Ideal.exp_coe, Real.exp_sub, Real.exp_log (A.Z_pos h q)]
  · rw [zero_div, EReal.coe_zero]

/-- The row sum taken lane by lane. -/
theorem dl_lanes (h q) : ∑ d, (∑ k, A.pr h q k * A.v k h d) * A.o q h d = A.dl h q := by
  unfold dl dp
  simp only [Finset.sum_mul, Finset.mul_sum]
  rw [Finset.sum_comm]
  exact Finset.sum_congr rfl fun k _ => Finset.sum_congr rfl fun d _ => by ring

/-- The softmax's gradient as the quotient rule gives it. -/
theorem ds_quot (h q k) (c : ℝ) (hc : 0 < c) :
    (A.dp h q k / (c * A.Z h q) + -(∑ i, A.dp h q i * (1 / (c * A.Z h q * (c * A.Z h q))) * (c * A.ew h q i))) * (c * A.ew h q k) = A.ds h q k := by
  have hz := A.Z_pos h q
  have e1 : ∑ i, A.dp h q i * (1 / (c * A.Z h q * (c * A.Z h q))) * (c * A.ew h q i) = A.dl h q / (c * A.Z h q) := by
    unfold dl pr
    rw [Finset.sum_div]
    refine Finset.sum_congr rfl fun i _ => ?_
    field_simp
  rw [e1]
  unfold ds pr
  field_simp
  ring

/-- Where the key is masked nothing flows. -/
theorem ds_masked (h q k) (hk : ¬ k.val / 64 ≤ q.val / 64) : A.ds h q k = 0 := by
  unfold ds pr ew; rw [if_neg hk, zero_div, zero_mul]

end Args

end Cert.Attn
-- ==== Proof.Grad.lean ====
module

public import proofs.«01_k».proof.Proof.Real

/-!
The blocks a grid point adds, as real numbers, and their sums over the grid.
-/

@[expose] public section

noncomputable section

namespace Cert.Attn

open Idealize.ShloMosaic

/-- Row `r` of the `j`th group of 2048 keys. -/
def key (j : Fin 8) (r : Fin 2048) : Fin 16384 := ⟨2048 * j.val + r.val, by omega⟩

/-- Sixty-four numbers, with zeros behind. -/
def pad (f : Fin 64 → ℝ) (e : Fin 128) : ℝ := if h : e.val < 64 then f ⟨e.val, h⟩ else 0

theorem pad_sum (f g : Fin 64 → ℝ) (s : ℝ) : ∑ e, pad f e * (pad g e * s) = ∑ e, f e * (g e * s) := by
  rw [show (∑ e : Fin 128, pad f e * (pad g e * s)) = ∑ e : Fin (64 + 64), pad f e * (pad g e * s) from rfl, Fin.sum_univ_add]
  have h1 : ∀ e : Fin 64, pad f (Fin.castAdd 64 e) * (pad g (Fin.castAdd 64 e) * s) = f e * (g e * s) := fun e => by
    unfold pad
    rw [dif_pos (show (Fin.castAdd 64 e).val < 64 from e.isLt), dif_pos (show (Fin.castAdd 64 e).val < 64 from e.isLt)]; rfl
  have h2 : ∀ e : Fin 64, pad f (Fin.natAdd 64 e) * (pad g (Fin.natAdd 64 e) * s) = 0 := fun e => by
    unfold pad
    rw [dif_neg (show ¬ (Fin.natAdd 64 e).val < 64 by rw [Fin.val_natAdd]; omega), zero_mul]
  rw [Finset.sum_congr rfl fun e _ => h1 e, Finset.sum_congr rfl fun e _ => h2 e, Finset.sum_const_zero, add_zero]

/-- The sum over the eight groups is the sum over all keys. -/
theorem key_sum (f : Fin 16384 → ℝ) : ∑ j, ∑ r, f (key j r) = ∑ k, f k := by
  rw [← Fintype.sum_prod_type' (f := fun j r => f (key j r))]
  refine Fintype.sum_equiv (finProdFinEquiv (m := 8) (n := 2048)) _ f fun x => ?_
  congr 1
  exact Fin.ext (show 2048 * x.1.val + x.2.val = x.2.val + 2048 * x.1.val by omega)

/-- Adding eight real numbers in turn. -/
theorem eight (a : ℕ → EReal) (F : Fin 8 → ℝ) (h0 : a 0 = 0) (hs : ∀ (j : ℕ) (hj : j < 8), a (j + 1) = a j + (F ⟨j, hj⟩ : EReal)) :
    a 8 = ((∑ j, F j : ℝ) : EReal) := by
  rw [Fin.sum_univ_eight, hs 7 (by omega), hs 6 (by omega), hs 5 (by omega), hs 4 (by omega), hs 3 (by omega), hs 2 (by omega), hs 1 (by omega),
    hs 0 (by omega), h0, zero_add]
  simp only [EReal.coe_add]
  rfl

/-- The blocks of one grid point, head `h` and group `j`, hold the arguments. -/
structure Blk (A : Args) (h : Fin 6) (j : Fin 8) (k1 k2 v : Mat 2048 128) (q1 q2 dO : Mat 16384 128) (L D : Fin 16384 → EReal) : Prop where
  k1 : ∀ r e, k1 (ix2 r e) = (A.kn (key j r) h e : EReal)
  k2 : ∀ r e, k2 (ix2 r e) = (pad (A.kr (key j r)) e : EReal)
  v : ∀ r e, v (ix2 r e) = (A.v (key j r) h e : EReal)
  q1 : ∀ g e, q1 (ix2 g e) = ((A.qn g h e * A.s : ℝ) : EReal)
  q2 : ∀ g e, q2 (ix2 g e) = ((pad (A.qr g h) e * A.s : ℝ) : EReal)
  dO : ∀ g e, dO (ix2 g e) = (A.o g h e : EReal)
  L : ∀ g, L g = ((Real.log (A.Z h g) : ℝ) : EReal)
  D : ∀ g, D g = (A.dl h g : EReal)

namespace Blk

variable {A : Args} {h : Fin 6} {j : Fin 8} {k1 k2 v : Mat 2048 128} {q1 q2 dO : Mat 16384 128} {L D : Fin 16384 → EReal}
  (B : Blk A h j k1 k2 v q1 q2 dO L D)
include B

/-- The recomputed probability. -/
theorem prob (r : Fin 2048) (g : Fin 16384) : P j.val k1 k2 q1 q2 L r g = (A.pr h g (key j r) : EReal) := by
  rw [← A.exp_lse]
  unfold P
  simp only [B.k1, B.k2, B.q1, B.q2, B.L, ← EReal.coe_mul, ← coe_sum, ← EReal.coe_add, pad_sum]
  have : (∑ e, A.kn (key j r) h e * (A.qn g h e * A.s)) + ∑ e, A.kr (key j r) e * (A.qr g h e * A.s) = A.sc h g (key j r) := by
    unfold Args.sc
    rw [add_mul, Finset.sum_mul, Finset.sum_mul]
    congr 1 <;> exact Finset.sum_congr rfl fun _ _ => by ring
  rw [this]
  rfl

/-- The gradient of the score. -/
theorem grad (r : Fin 2048) (g : Fin 16384) : DS j.val k1 k2 v q1 q2 dO L D r g = (A.ds h g (key j r) : EReal) := by
  unfold DS
  rw [B.prob]
  simp only [B.v, B.dO, B.D, ← EReal.coe_mul, ← coe_sum, ← EReal.coe_sub]
  unfold Args.ds Args.dp
  congr 3
  exact Finset.sum_congr rfl fun _ _ => mul_comm _ _

/-- The values' gradient. -/
theorem dv (r : Fin 2048) (d : Fin 128) : dvAt j.val k1 k2 q1 q2 dO L 32 (ix2 r d) = (A.dv (key j r) h d : EReal) := by
  unfold dvAt
  rw [upto_all]
  refine Eq.trans (Finset.sum_congr rfl fun g _ => ?_) (coe_sum Finset.univ fun g => A.pr h g (key j r) * A.o g h d).symm
  rw [EReal.coe_mul, ← B.prob r g, ← B.dO g d]
  rfl

/-- The keys' gradient, first part. -/
theorem dk1 (r : Fin 2048) (x : Fin 256) (d : Fin 128) (hx : x.val = d.val) :
    dkAt j.val k1 k2 v q1 q2 dO L D 32 (ix2 r x) = (A.dkn (key j r) h d : EReal) := by
  unfold dkAt
  rw [upto_all]
  refine Eq.trans (Finset.sum_congr rfl fun g _ => ?_) (coe_sum Finset.univ fun g => A.ds h g (key j r) * (A.qn g h d * A.s)).symm
  rw [EReal.coe_mul, ← B.grad r g, ← B.q1 g d]
  have hlt : (ix2 r x 1).val < 128 := by show x.val < 128; omega
  rw [dif_pos hlt]
  exact congrArg (fun y => _ * q1 (ix2 g y)) (Fin.ext hx)

/-- The keys' gradient, second part: one head's share. -/
theorem dk2 (r : Fin 2048) (x : Fin 256) (e : Fin 64) (hx : x.val = 128 + e.val) :
    dkAt j.val k1 k2 v q1 q2 dO L D 32 (ix2 r x) = ((∑ g, A.ds h g (key j r) * (A.qr g h e * A.s) : ℝ) : EReal) := by
  unfold dkAt
  rw [upto_all]
  refine Eq.trans (Finset.sum_congr rfl fun g _ => ?_) (coe_sum Finset.univ fun g => A.ds h g (key j r) * (A.qr g h e * A.s)).symm
  have hq := B.q2 g ⟨e.val, by omega⟩
  unfold pad at hq
  rw [dif_pos (show e.val < 64 from e.isLt)] at hq
  rw [EReal.coe_mul, ← B.grad r g, ← hq]
  have hlt : ¬ (ix2 r x 1).val < 128 := by show ¬ x.val < 128; omega
  rw [dif_neg hlt]
  exact congrArg (fun y => _ * q2 (ix2 g y)) (Fin.ext (show x.val - 128 = e.val by omega))

/-- What the group adds to the queries' gradient. -/
theorem dq (kk : Mat 2048 128) (y : Mat 16384 128) (f : Fin 2048 → ℝ) (g : Fin 16384) (d : Fin 128) (hk : ∀ r, kk (ix2 r d) = (f r : EReal)) :
    dqAt j.val k1 k2 v q1 q2 dO L D kk y 32 (ix2 g d) = y (ix2 g d) + ((∑ r, A.ds h g (key j r) * f r : ℝ) : EReal) := by
  unfold dqAt
  rw [if_pos (show (ix2 g d 0).val < 512 * 32 from g.isLt)]
  congr 1
  refine Eq.trans (Finset.sum_congr rfl fun r _ => ?_) (coe_sum Finset.univ fun r => A.ds h g (key j r) * f r).symm
  rw [EReal.coe_mul, ← B.grad r g, ← hk r]
  rfl

end Blk

end Cert.Attn
-- ==== Proof.Score.lean ====
module

public import proofs.«01_k».proof.Proof.Gen.ReferenceIdeal.Read
public import proofs.«01_k».proof.Proof.Real
public import proofs.«01_k».proof.Proof.Words
public import Idealize.ShloMosaic.Lib.Pointwise
public import Idealize.ShloMosaic.Lib.Tactic.CleanTypes

/-!
The masked scores the reference computes, as real numbers.
-/

@[expose] public section
set_option maxRecDepth 16384
noncomputable section
namespace Cert.ReferenceIdeal.Attn
open Idealize.ShloMosaic Idealize.ShloMosaic.TcCoe Idealize.ShloMosaic.Tactic
open Cert.ReferenceIdeal Cert.ReferenceIdeal.Gen Cert.ReferenceIdeal.Read Cert.Attn

variable {A : Args} {x0 x2 x4 : FVec Ideal S16384x6x128 .f32} {x1 : FVec Ideal S16384x6x64 .f32} {x3 : FVec Ideal S16384x64 .f32}
  {x5 : FVec Ideal S16384x768 .f32}

/-- The six arguments hold the real numbers of `A`. -/
structure Holds (A : Args) (x0 : FVec Ideal S16384x6x128 .f32) (x1 : FVec Ideal S16384x6x64 .f32) (x2 : FVec Ideal S16384x6x128 .f32)
    (x3 : FVec Ideal S16384x64 .f32) (x4 : FVec Ideal S16384x6x128 .f32) (x5 : FVec Ideal S16384x768 .f32) : Prop where
  qn : ∀ q h d, x0 (ix3 q h d) = (A.qn q h d : EReal)
  qr : ∀ q h d, x1 (ix3 q h d) = (A.qr q h d : EReal)
  kn : ∀ q h d, x2 (ix3 q h d) = (A.kn q h d : EReal)
  kr : ∀ q d, x3 (ix2 q d) = (A.kr q d : EReal)
  v : ∀ q h d, x4 (ix3 q h d) = (A.v q h d : EReal)
  o : ∀ (q : Fin 16384) (h : Fin 6) (d : Fin 128), x5 (ix2 q ⟨h*128+d, by omega⟩) = (A.o q h d : EReal)
  s : cw = (A.s : EReal)

/-- The number of a row's chunk. -/
theorem v1_at (q : Fin 16384) : (val_main_v1 (F := Ideal)) (ix1 q) = BitVec.ofNat 32 (q.val / 64) := by
  rw [← floordiv64 q.val q.isLt]
  rfl

/-- The mask. -/
theorem v12_at (q k : Fin 16384) : (val_main_v12 (F := Ideal)) (ix2 q k) = if k.val / 64 ≤ q.val / 64 then 1#1 else 0#1 := by
  have e : val_main_v12 (F := Ideal) = cmpi .sle (broadcastInDim S16384x16384 ![0, 1] bcast_S1x16384_S16384x16384_0_1 (broadcastInDim S1x16384 ![1] bcast_S16384_S1x16384_1 (val_main_v1 (F := Ideal))))
    (broadcastInDim S16384x16384 ![0, 1] bcast_S16384x1_S16384x16384_0_1 (broadcastInDim S16384x1 ![0] bcast_S16384_S16384x1_0 (val_main_v1 (F := Ideal)))) := rfl
  have h := v1_at
  rw [e]
  generalize val_main_v1 (F := Ideal) = T at h ⊢
  pointwise
  rw [h, h]
  exact sle_nat _ _ (by omega) (by omega)

/-- The scores. -/
theorem v7_at (H : Holds A x0 x1 x2 x3 x4 x5) (h : Fin 6) (q k : Fin 16384) :
    (val_main_v7 (F := Ideal) x0 x1 x2 x3) (ix3 h q k) = (A.sc h q k : EReal) := by
  unfold val_main_v7 val_main_v6 val_main_v5 val_main_v4 val_main_v3 val_main_v2 val_main_cst
  pointwise
  simp only [H.qn, H.qr, H.kn, H.kr]
  show (_ + _) * cw = _
  rw [H.s]
  simp only [← EReal.coe_mul, ← coe_sum, ← EReal.coe_add]
  rfl

/-- The masked scores. -/
theorem v13_at (H : Holds A x0 x1 x2 x3 x4 x5) (h : Fin 6) (q k : Fin 16384) :
    (val_main_v13_0 (F := Ideal) x0 x1 x2 x3) (ix3 h q k) = A.msc h q k := by
  have h1 := v12_at q k
  have h7 := v7_at H h q k
  unfold val_main_v13_0 val_main_v13_1 val_main_call1_v2 val_main_call1_v0 val_main_cst_0
  generalize val_main_v12 (F := Ideal) = T at h1 ⊢
  generalize val_main_v7 (F := Ideal) x0 x1 x2 x3 = T7 at h7 ⊢
  pointwise
  rw [h1, h7]
  show Scalar.select _ _ (Ideal.ofBits .f32 0xFF800000#32) = _
  rw [bot_word]
  unfold Args.msc
  by_cases hk : k.val / 64 ≤ q.val / 64
  · rw [if_pos hk, if_pos hk]; rfl
  · rw [if_neg hk, if_neg hk]; rfl

end Cert.ReferenceIdeal.Attn
-- ==== Proof.Vals.lean ====
module

public import proofs.«01_k».proof.Proof.Arr
public import proofs.«01_k».proof.Proof.Grad
public import proofs.«01_k».proof.Proof.Score

/-!
What the launch leaves in its five arrays, as real numbers.
-/

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

variable (m : (ℓ : Loc nD τ sig) → Buf (Elt Ideal) ℓ) (c : Dev nD)

/-- The program's arguments hold the real numbers of `A`. -/
abbrev ArgsAre (A : Args) : Prop := Cert.ReferenceIdeal.Attn.Holds A (A0 m c) (A1 m c) (A2 m c) (A3 m c) (A4 m c) (A5 m c)

variable {m c} {A : Args} (H : ArgsAre m c A)
include H

/-- The masked scores. -/
theorem W28_real (h : Fin 6) (q k : Fin 16384) : W28 m c (ix3 h q k) = A.msc h q k := by
  rw [W28_at, W21_at]
  simp only [H.qn, H.qr, H.kn, H.kr, ← EReal.coe_mul, ← coe_sum, ← EReal.coe_add]
  rw [H.s, ← EReal.coe_mul]
  unfold Args.msc
  by_cases hk : k.val / 64 ≤ q.val / 64
  · rw [if_pos hk, if_pos hk]; rfl
  · rw [if_neg hk, if_neg hk]; rfl

theorem W29_real (h : Fin 6) (q : Fin 16384) : W29 m c (ix2 h q) = Finset.univ.fold max ⊥ (fun k => A.msc h q k) := by
  rw [W29_at]
  exact congrArg (Finset.fold max ⊥ · Finset.univ) (funext fun k => W28_real H h q k)

theorem W33_real (h : Fin 6) (q k : Fin 16384) {M : ℝ} (hM : Finset.univ.fold max ⊥ (fun k => A.msc h q k) = (M : EReal)) :
    W33 m c (ix3 h q k) = ((Real.exp (-M) * A.ew h q k : ℝ) : EReal) := by
  rw [W33_at, W28_real H, W29_real H, hM, A.exp_msc]

theorem W34_real (h : Fin 6) (q : Fin 16384) {M : ℝ} (hM : Finset.univ.fold max ⊥ (fun k => A.msc h q k) = (M : EReal)) :
    W34 m c (ix2 h q) = ((Real.exp (-M) * A.Z h q : ℝ) : EReal) := by
  rw [W34_at]
  exact (Finset.sum_congr rfl fun k _ => W33_real H h q k hM).trans (A.sum_msc h q M)

omit H in
/-- The largest score plus the logarithm of the sum. -/
theorem lse_at (T T' : FVec Ideal S6x16384 .f32) (h : Fin 6) (q : Fin 16384) :
    addf (broadcastInDim S6x16384x1 ![0, 1] bcast_S6x16384_S6x16384x1_0_1 T) (Host.log (broadcastInDim S6x16384x1 ![0, 1] bcast_S6x16384_S6x16384x1_0_1 T')) (ix3 h q 0)
      = T (ix2 h q) + Ideal.log (T' (ix2 h q)) := by
  pointwise

/-- The logarithm of a query's sum of exponentials. -/
theorem W38_real (h : Fin 6) (q : Fin 16384) : W38 m c (ix2 h q) = ((Real.log (A.Z h q) : ℝ) : EReal) := by
  obtain ⟨M, hM⟩ := A.msc_max h q
  have h29 := W29_real H h q
  have h34 := W34_real H h q hM
  rw [W38_at, W37_eq, lse_at, h29, h34, hM]
  exact A.log_sum h q M

theorem W40_real (h : Fin 6) (q k : Fin 16384) : W40 m c (ix3 h q k) = (A.pr h q k : EReal) := by
  obtain ⟨M, hM⟩ := A.msc_max h q
  rw [W40_at, W33_real H h q k hM, W34_real H h q hM, A.quot]

theorem W41_real (h : Fin 6) (q : Fin 16384) (d : Fin 128) : W41 m c (ix3 h q d) = ((∑ k, A.pr h q k * A.v k h d : ℝ) : EReal) := by
  rw [W41_at, coe_sum]
  exact Finset.sum_congr rfl fun k _ => by rw [W40_real H, H.v, EReal.coe_mul]

/-- The sum over a query's keys of probability times gradient. -/
theorem W45_real (h : Fin 6) (q : Fin 16384) : W45 m c (ix2 h q) = (A.dl h q : EReal) := by
  rw [W45_at, ← A.dl_lanes, coe_sum]
  refine Finset.sum_congr rfl fun d _ => ?_
  rw [W43_at, H.o, EReal.coe_mul, W41_real H]

/-- The blocks of a point hold the arguments. -/
theorem blk (h : Fin 6) (j : Fin 8) :
    Blk A h j (iblk m c 0 (pt h j)) (iblk m c 1 (pt h j)) (iblk m c 2 (pt h j)) (iblk m c 3 (pt h j)) (iblk m c 4 (pt h j)) (iblk m c 5 (pt h j))
      (statOf h (iblk m c 6 (pt h j))) (statOf h (iblk m c 7 (pt h j))) where
  k1 r e := by rw [blk_0, W11a, H.kn]; rfl
  k2 r e := by
    rw [blk_1, W14_at]
    unfold Cert.Attn.pad
    by_cases he : e.val < 64
    · rw [dif_pos he, dif_pos he, H.kr]; rfl
    · rw [dif_neg he, dif_neg he]; rfl
  v r e := by rw [blk_2, W11b, H.v]; rfl
  q1 g e := by rw [blk_3, W7a, H.qn, H.s, EReal.coe_mul]
  q2 g e := by
    rw [blk_4, W7b, H.s, EReal.coe_mul]
    unfold Cert.Attn.pad
    by_cases he : e.val < 64
    · rw [dif_pos he, dif_pos he, H.qr]
    · rw [dif_neg he, dif_neg he]; rfl
  dO g e := by
    rw [blk_5, W56_at, ← H.o]
    exact congrArg (fun x => A5 m c (ix2 g x)) (Fin.ext (by show 128 * h.val + e.val = h.val * 128 + e.val; omega))
  L g := by
    unfold statOf
    rw [blk_6]
    have e1 := W50_at m c ⟨g.val / 512, by omega⟩ h 0 ⟨g.val % 512, by omega⟩
    rw [show (⟨g.val / 512 * 512 + g.val % 512, by omega⟩ : Fin 16384) = g from Fin.ext (by show g.val / 512 * 512 + g.val % 512 = g.val; omega),
      W38_real H] at e1
    rw [← e1]
    exact congrArg (fun x => W50 m c (ix2 x _)) (Fin.ext (by show (g.val / 512 * 6 + h.val) * 8 = 48 * (g.val / 512) + 8 * h.val + 0; omega))
  D g := by
    unfold statOf
    rw [blk_7]
    have e1 := W55_at m c ⟨g.val / 512, by omega⟩ h 0 ⟨g.val % 512, by omega⟩
    rw [show (⟨g.val / 512 * 512 + g.val % 512, by omega⟩ : Fin 16384) = g from Fin.ext (by show g.val / 512 * 512 + g.val % 512 = g.val; omega),
      W45_real H] at e1
    rw [← e1]
    exact congrArg (fun x => W55 m c (ix2 x _)) (Fin.ext (by show (g.val / 512 * 6 + h.val) * 8 = 48 * (g.val / 512) + 8 * h.val + 0; omega))

omit H in
theorem hd_pt (h : Fin 6) (j : Fin 8) : hd (grid0.coords (pt h j)) = h := Fin.ext (by
  show (grid0.coords (pt h j) 0).val = h.val
  rw [coord0, pt_div])
omit H in
theorem grp_pt (h : Fin 6) (j : Fin 8) : (grid0.coords (pt h j) 1).val = j.val := by rw [coord1, pt_mod]

/-- A point's gradients of its keys and values. -/
theorem ptV_real (h : Fin 6) (j : Fin 8) (r : Fin 2048) (d : Fin 128) : ptV m c (pt h j) (ix2 r d) = (A.dv (key j r) h d : EReal) := by
  unfold ptV sDv
  rw [hd_pt, grp_pt]
  exact (blk H h j).dv r d

theorem ptK_left (h : Fin 6) (j : Fin 8) (r : Fin 2048) (d : Fin 128) : leftK (ptK m c (pt h j)) (ix2 r d) = (A.dkn (key j r) h d : EReal) := by
  unfold ptK sDk
  rw [hd_pt, grp_pt]
  exact (blk H h j).dk1 r _ d rfl

theorem ptK_right (h : Fin 6) (j : Fin 8) (r : Fin 2048) (x : Fin 128) (e : Fin 64) (hx : x.val = e.val) :
    rightK (ptK m c (pt h j)) (ix2 r x) = ((∑ g, A.ds h g (key j r) * (A.qr g h e * A.s) : ℝ) : EReal) := by
  unfold ptK sDk
  rw [hd_pt, grp_pt]
  exact (blk H h j).dk2 r _ e (by show 128 + x.val = 128 + e.val; omega)

/-- What a point adds to the two parts of the queries' gradient. -/
theorem ptQ1_real (h : Fin 6) (j : Fin 8) (y : Mat 16384 128) (g : Fin 16384) (d : Fin 128) :
    ptQ1 m c (pt h j) y (ix2 g d) = y (ix2 g d) + ((∑ r, A.ds h g (key j r) * A.kn (key j r) h d : ℝ) : EReal) := by
  unfold ptQ1 sDq1
  rw [hd_pt, grp_pt]
  exact (blk H h j).dq _ y (fun r => A.kn (key j r) h d) g d fun r => (blk H h j).k1 r d

theorem ptQ2_real (h : Fin 6) (j : Fin 8) (y : Mat 16384 128) (g : Fin 16384) (d : Fin 128) :
    ptQ2 m c (pt h j) y (ix2 g d) = y (ix2 g d) + ((∑ r, A.ds h g (key j r) * Cert.Attn.pad (A.kr (key j r)) d : ℝ) : EReal) := by
  unfold ptQ2 sDq2
  rw [hd_pt, grp_pt]
  exact (blk H h j).dq _ y (fun r => Cert.Attn.pad (A.kr (key j r)) d) g d fun r => (blk H h j).k2 r d

/-- The two parts of a head's queries' gradient after its last point. -/
theorem acc1_real (h : Fin 6) (g : Fin 16384) (d : Fin 128) : acc1 m c h 8 (ix2 g d) = ((∑ k, A.ds h g k * A.kn k h d : ℝ) : EReal) := by
  rw [eight (fun n => acc1 m c h n (ix2 g d)) (fun j => ∑ r, A.ds h g (key j r) * A.kn (key j r) h d) rfl fun j hj => by
    show acc1 m c h (j + 1) (ix2 g d) = _
    rw [acc1, dif_pos hj, ptQ1_real H]]
  rw [key_sum fun k => A.ds h g k * A.kn k h d]

theorem acc2_real (h : Fin 6) (g : Fin 16384) (d : Fin 128) : acc2 m c h 8 (ix2 g d) = ((∑ k, A.ds h g k * Cert.Attn.pad (A.kr k) d : ℝ) : EReal) := by
  rw [eight (fun n => acc2 m c h n (ix2 g d)) (fun j => ∑ r, A.ds h g (key j r) * Cert.Attn.pad (A.kr (key j r)) d) rfl fun j hj => by
    show acc2 m c h (j + 1) (ix2 g d) = _
    rw [acc2, dif_pos hj, ptQ2_real H]]
  rw [key_sum fun k => A.ds h g k * Cert.Attn.pad (A.kr k) d]

omit H in
/-- An entry of an array made of tiles. -/
theorem tiles_entry (F : Fin cfg0.N → Mat 2048 128) (k : Fin 16384) (h : Fin 6) (d : Fin 128) (hx) :
    tiles F (ix2 k ⟨h.val * 128 + d.val, hx⟩) = F (pt h ⟨k.val / 2048, by omega⟩) (ix2 ⟨k.val % 2048, by omega⟩ d) :=
  (tiles_at F (pt h ⟨k.val / 2048, by omega⟩) (ix2 ⟨k.val % 2048, by omega⟩ d) (ix2 k ⟨h.val * 128 + d.val, hx⟩)
    (by rw [pt_mod]; show k.val = k.val / 2048 * 2048 + k.val % 2048; omega)
    (by rw [pt_div]; rfl)).symm

omit H in
theorem strips_entry (F : Fin 6 → Mat 16384 128) (g : Fin 16384) (h : Fin 6) (d : Fin 128) (hx) :
    strips F (ix2 g ⟨h.val * 128 + d.val, hx⟩) = F h (ix2 g d) :=
  (strips_at F h (ix2 g d) (ix2 g ⟨h.val * 128 + d.val, hx⟩) rfl rfl).symm

omit H in
theorem key_div (k : Fin 16384) (h1 h2) : key ⟨k.val / 2048, h1⟩ ⟨k.val % 2048, h2⟩ = k :=
  Fin.ext (by show 2048 * (k.val / 2048) + k.val % 2048 = k.val; omega)

end Cert.KernelIdeal.Attn
-- ==== Proof.Tail.lean ====
module

public import proofs.«01_k».proof.Proof.Vals

/-!
The host lines after the launch, and the five results as real numbers.
-/

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

section Lines

variable (W : Valuation τ sig (Elt Ideal))

/-- The buffers after the host lines that follow the launch. -/
abbrev tl (b : Ref sig .tc) := StableHlo.after (List.flatten [hostOps1 (F := Ideal)]) W (Proc.devRef .tc b)

/-- The launch's five arrays. -/
def O0 : FVec Ideal S16384x768 .f32 := W (Proc.devRef .tc main_v57_0)
def O1 : FVec Ideal S16384x768 .f32 := W (Proc.devRef .tc main_v57_1)
def O2 : FVec Ideal S16384x768 .f32 := W (Proc.devRef .tc main_v57_2)
def O3 : FVec Ideal S16384x768 .f32 := W (Proc.devRef .tc main_v57_3)
def O4 : FVec Ideal S16384x768 .f32 := W (Proc.devRef .tc main_v57_4)

/-- The five results. -/
def U60 : FVec Ideal S16384x6x128 .f32 := tl W main_v60
def U64 : FVec Ideal S16384x6x64 .f32 := tl W main_v64
def U65 : FVec Ideal S16384x6x128 .f32 := tl W main_v65
def U68 : FVec Ideal S16384x64 .f32 := tl W main_v68
def U69 : FVec Ideal S16384x6x128 .f32 := tl W main_v69

theorem U60_eq : U60 W = mulf (shapeCast S16384x6x128 (O3 W) shapeCasts_S16384x768_S16384x6x128)
    (broadcastInDim S16384x6x128 ![] bcast_S_S16384x6x128 (constant S_ .f32 0x3D93CD3A#32)) := by
  unfold U60 O3 tl
  after_reads_simp
  rfl
theorem U64_eq : U64 W = mulf (extractStridedSlice S16384x6x64 ![0, 0, 0] (shapeCast S16384x6x128 (O4 W) shapeCasts_S16384x768_S16384x6x128) slices_S16384x6x128_S16384x6x64_0_0_0)
    (broadcastInDim S16384x6x64 ![] bcast_S_S16384x6x64 (constant S_ .f32 0x3D93CD3A#32)) := by
  unfold U64 O4 tl
  after_reads_simp
  rfl
theorem U65_eq : U65 W = shapeCast S16384x6x128 (O0 W) shapeCasts_S16384x768_S16384x6x128 := by
  unfold U65 O0 tl
  after_reads_simp
  rfl
theorem U68_eq : U68 W = Host.reduceAdd (extractStridedSlice S16384x6x64 ![0, 0, 0] (shapeCast S16384x6x128 (O2 W) shapeCasts_S16384x768_S16384x6x128) slices_S16384x6x128_S16384x6x64_0_0_0)
    (constant S_ .f32 0x00000000#32) reducesTo_S16384x6x64_S16384x64_d1 h_S_ := by
  unfold U68 O2 tl
  after_reads_simp
  rfl
theorem U69_eq : U69 W = shapeCast S16384x6x128 (O1 W) shapeCasts_S16384x768_S16384x6x128 := by
  unfold U69 O1 tl
  after_reads_simp
  rfl

/-- Their entries. -/
theorem U60_at (q : Fin 16384) (h : Fin 6) (d : Fin 128) : U60 W (ix3 q h d) = O3 W (ix2 q ⟨h.val * 128 + d.val, by omega⟩) * cw := by
  rw [U60_eq]
  generalize O3 W = T
  pointwise
theorem U64_at (q : Fin 16384) (h : Fin 6) (e : Fin 64) : U64 W (ix3 q h e) = O4 W (ix2 q ⟨h.val * 128 + e.val, by omega⟩) * cw := by
  rw [U64_eq]
  generalize O4 W = T
  pointwise
theorem U65_at (q : Fin 16384) (h : Fin 6) (d : Fin 128) : U65 W (ix3 q h d) = O0 W (ix2 q ⟨h.val * 128 + d.val, by omega⟩) := by
  rw [U65_eq]
  generalize O0 W = T
  pointwise
theorem U68_at (q : Fin 16384) (e : Fin 64) : U68 W (ix2 q e) = ∑ h : Fin 6, O2 W (ix2 q ⟨h.val * 128 + e.val, by omega⟩) := by
  rw [U68_eq]
  generalize O2 W = T
  pointwise
theorem U69_at (q : Fin 16384) (h : Fin 6) (d : Fin 128) : U69 W (ix3 q h d) = O1 W (ix2 q ⟨h.val * 128 + d.val, by omega⟩) := by
  rw [U69_eq]
  generalize O1 W = T
  pointwise

end Lines

variable (m : (ℓ : Loc nD τ sig) → Buf (Elt Ideal) ℓ) (c : Dev nD)

/-- The buffers after the launch. -/
def WA : Valuation τ sig (Elt Ideal) :=
  Pipeline.withArrays (cfgs 0).spec c (V0 m c) fun w => (dats m 0 c).arrAt w (cfgs 0).N

theorem WA_arr (w : Fin (cfgs 0).W) : WA m c (Proc.devRef .tc (Pipeline.arrRef (cfgs 0).spec w)) = (dats m 0 c).arrAt w (cfgs 0).N :=
  Pipeline.withArrays_arr_shared (cfgs 0).spec c (V0 m c) _
    ((dats m 0 c).arrAt_sharedIn sharedIn0 (V0 m c) (A_eq m c) _) w

theorem O0_eq : O0 (WA m c) = tiles fun t => leftK (ptK m c t) :=
  (WA_arr m c 8).trans (final_8 m c)
theorem O1_eq : O1 (WA m c) = tiles fun t => ptV m c t :=
  (WA_arr m c 9).trans (final_9 m c)
theorem O2_eq : O2 (WA m c) = tiles fun t => rightK (ptK m c t) :=
  (WA_arr m c 10).trans (final_10 m c)
theorem O3_eq : O3 (WA m c) = strips fun h => acc1 m c h 8 :=
  (WA_arr m c 11).trans (final_11 m c)
theorem O4_eq : O4 (WA m c) = strips fun h => acc2 m c h 8 :=
  (WA_arr m c 12).trans (final_12 m c)

variable {m c} {A : Args} (H : ArgsAre m c A)
include H

/-- The gradient of the queries' first part. -/
theorem res0 (q : Fin 16384) (h : Fin 6) (d : Fin 128) : U60 (WA m c) (ix3 q h d) = (A.dqn q h d : EReal) := by
  rw [U60_at, O3_eq, strips_entry, acc1_real H, H.s, ← EReal.coe_mul]
  rfl

/-- The gradient of the queries' second part. -/
theorem res1 (q : Fin 16384) (h : Fin 6) (e : Fin 64) : U64 (WA m c) (ix3 q h e) = (A.dqr q h e : EReal) := by
  rw [U64_at, O4_eq]
  refine Eq.trans (congrArg (· * cw) (strips_entry _ q h ⟨e.val, by omega⟩ _)) ?_
  rw [acc2_real H, H.s, ← EReal.coe_mul]
  unfold Args.dqr Cert.Attn.pad
  simp only [dif_pos e.isLt]

/-- The gradient of the keys' first part. -/
theorem res2 (k : Fin 16384) (h : Fin 6) (d : Fin 128) : U65 (WA m c) (ix3 k h d) = (A.dkn k h d : EReal) := by
  rw [U65_at, O0_eq, tiles_entry, ptK_left H, key_div]

/-- The gradient of the keys' second part. -/
theorem res3 (k : Fin 16384) (e : Fin 64) : U68 (WA m c) (ix2 k e) = (A.dkr k e : EReal) := by
  rw [U68_at, O2_eq]
  unfold Args.dkr
  rw [coe_sum]
  refine Finset.sum_congr rfl fun h _ => ?_
  refine Eq.trans (tiles_entry _ k h ⟨e.val, by omega⟩ _) ?_
  rw [ptK_right H h _ _ ⟨e.val, by omega⟩ e rfl, key_div]

/-- The gradient of the values. -/
theorem res4 (k : Fin 16384) (h : Fin 6) (d : Fin 128) : U69 (WA m c) (ix3 k h d) = (A.dv k h d : EReal) := by
  rw [U69_at, O1_eq, tiles_entry, ptV_real H, key_div]

end Cert.KernelIdeal.Attn
-- ==== Proof.Ref.lean ====
module

public import proofs.«01_k».proof.Proof.Score
public import Idealize.ShloMosaic.Lib.Pointwise
public import Idealize.ShloMosaic.Lib.Tactic.CleanTypes

/-!
What the reference computes, as real numbers.
-/

@[expose] public section
set_option maxRecDepth 16384
noncomputable section
namespace Cert.ReferenceIdeal.Attn
open Idealize.ShloMosaic Idealize.ShloMosaic.TcCoe Idealize.ShloMosaic.Tactic
open Cert.ReferenceIdeal Cert.ReferenceIdeal.Gen Cert.ReferenceIdeal.Read Cert.Attn

variable {A : Args} {x0 x2 x4 : FVec Ideal S16384x6x128 .f32} {x1 : FVec Ideal S16384x6x64 .f32} {x3 : FVec Ideal S16384x64 .f32}
  {x5 : FVec Ideal S16384x768 .f32}

/-- A row's largest entry. -/
theorem max_at (T : FVec Ideal S6x16384x16384 .f32) (h : Fin 6) (q : Fin 16384) :
    (Host.reduce FloatOps.maximumf T (constant S_ .f32 0xFF800000#32) reducesTo_S6x16384x16384_S6x16384_d2 h_S_) (ix2 h q)
      = Finset.univ.fold max ⊥ (fun k : Fin 16384 => T (ix3 h q k)) := by
  pointwise
  rw [bot_word]

/-- The largest masked score of a query. -/
theorem v14_at (H : Holds A x0 x1 x2 x3 x4 x5) (h : Fin 6) (q : Fin 16384) :
    (val_main_v14 (F := Ideal) x0 x1 x2 x3) (ix2 h q) = Finset.univ.fold max ⊥ (fun k => A.msc h q k) := by
  have h13 := v13_at H h q
  unfold val_main_v14 val_main_cst_1
  generalize val_main_v13_0 (F := Ideal) x0 x1 x2 x3 = T at h13 ⊢
  refine Eq.trans (max_at T h q) ?_
  exact congrArg (Finset.fold max ⊥ · Finset.univ) (funext h13)

/-- The same, no less than the bottom. -/
theorem v21_at (H : Holds A x0 x1 x2 x3 x4 x5) (h : Fin 6) (q : Fin 16384) :
    (val_main_v21 (F := Ideal) x0 x1 x2 x3) (ix2 h q) = Finset.univ.fold max ⊥ (fun k => A.msc h q k) := by
  rw [val_main_v21_apply, v14_at H h q, val_main_v20_apply, val_main_cst_3_apply]
  refine Eq.trans (congrArg (fun x => max x _) (show FloatOps.ofBits (F := Ideal) .f32 0xFF800000#32 = ⊥ from bot_word)) ?_
  exact max_eq_right bot_le

/-- The exponentials, less the largest score `M`. -/
theorem v34_at (H : Holds A x0 x1 x2 x3 x4 x5) (h : Fin 6) (q k : Fin 16384) {M : ℝ} (hM : Finset.univ.fold max ⊥ (fun k => A.msc h q k) = (M : EReal)) :
    (val_main_v34 (F := Ideal) x0 x1 x2 x3) (ix3 h q k) = ((Real.exp (-M) * A.ew h q k : ℝ) : EReal) := by
  have h13 := v13_at H h q k
  have h21 := v21_at H h q
  unfold val_main_v34 val_main_v33 val_main_v32 val_main_v31
  generalize val_main_v13_0 (F := Ideal) x0 x1 x2 x3 = T at h13 ⊢
  generalize val_main_v21 (F := Ideal) x0 x1 x2 x3 = T' at h21 ⊢
  pointwise
  rw [h13, h21, hM]
  exact A.exp_msc h q k M

/-- Their sum. -/
theorem v35_at (H : Holds A x0 x1 x2 x3 x4 x5) (h : Fin 6) (q : Fin 16384) {M : ℝ} (hM : Finset.univ.fold max ⊥ (fun k => A.msc h q k) = (M : EReal)) :
    (val_main_v35 (F := Ideal) x0 x1 x2 x3) (ix2 h q) = ((Real.exp (-M) * A.Z h q : ℝ) : EReal) := by
  have h34 := fun k => v34_at H h q k hM
  unfold val_main_v35 val_main_cst_9
  generalize val_main_v34 (F := Ideal) x0 x1 x2 x3 = T at h34 ⊢
  pointwise
  simp only [h34]
  exact A.sum_msc h q M

/-- The probabilities. -/
theorem v38_at (H : Holds A x0 x1 x2 x3 x4 x5) (h : Fin 6) (q k : Fin 16384) :
    (val_main_v38 (F := Ideal) x0 x1 x2 x3) (ix3 h q k) = (A.pr h q k : EReal) := by
  obtain ⟨M, hM⟩ := A.msc_max h q
  have h34 := v34_at H h q k hM
  have h35 := v35_at H h q hM
  unfold val_main_v38 val_main_v37 val_main_v36
  generalize val_main_v34 (F := Ideal) x0 x1 x2 x3 = T at h34 ⊢
  generalize val_main_v35 (F := Ideal) x0 x1 x2 x3 = T' at h35 ⊢
  pointwise
  rw [h34, h35]
  exact A.quot h q k M

/-- The gradients of the probabilities. -/
theorem v47_at (H : Holds A x0 x1 x2 x3 x4 x5) (h : Fin 6) (q k : Fin 16384) :
    (val_main_v47 (F := Ideal) x4 x5) (ix3 h q k) = (A.dp h q k : EReal) := by
  unfold val_main_v47 val_main_v46 val_main_v45
  pointwise
  simp only [H.o, H.v, ← EReal.coe_mul, ← coe_sum]
  rfl

/-- The gradient of the values. -/
theorem v49_at (H : Holds A x0 x1 x2 x3 x4 x5) (k : Fin 16384) (h : Fin 6) (d : Fin 128) :
    (val_main_v49 (F := Ideal) x0 x1 x2 x3 x5) (ix3 k h d) = (A.dv k h d : EReal) := by
  have h38 := fun q => v38_at H h q k
  unfold val_main_v49 val_main_v48 val_main_v46 val_main_v45
  generalize val_main_v38 (F := Ideal) x0 x1 x2 x3 = T at h38 ⊢
  pointwise
  simp only [H.o, h38, ← EReal.coe_mul, ← coe_sum]
  unfold Args.dv
  exact congrArg _ (Finset.sum_congr rfl fun _ _ => mul_comm _ _)

/-- The quotient rule's correction: minus the sum over the row. -/
theorem v58_at (H : Holds A x0 x1 x2 x3 x4 x5) (h : Fin 6) (q : Fin 16384) {M : ℝ} (hM : Finset.univ.fold max ⊥ (fun k => A.msc h q k) = (M : EReal)) :
    (val_main_v58 (F := Ideal) x0 x1 x2 x3 x4 x5) (ix2 h q)
      = ((-(∑ i, A.dp h q i * (1 / (Real.exp (-M) * A.Z h q * (Real.exp (-M) * A.Z h q))) * (Real.exp (-M) * A.ew h q i)) : ℝ) : EReal) := by
  have h34 := fun k => v34_at H h q k hM
  have h35 := v35_at H h q hM
  have h47 := fun k => v47_at H h q k
  have hz : Real.exp (-M) * A.Z h q * (Real.exp (-M) * A.Z h q) ≠ 0 :=
    (mul_pos (mul_pos (Real.exp_pos _) (A.Z_pos h q)) (mul_pos (Real.exp_pos _) (A.Z_pos h q))).ne'
  unfold val_main_v58 val_main_v55 val_main_v54 val_main_v53 val_main_v52 val_main_v51 val_main_v50 val_main_v41 val_main_v40 val_main_v39 val_main_v36
    val_main_cst_10 val_main_cst_11 val_main_cst_12
  generalize val_main_v34 (F := Ideal) x0 x1 x2 x3 = T at h34 ⊢
  generalize val_main_v35 (F := Ideal) x0 x1 x2 x3 = T' at h35 ⊢
  generalize val_main_v47 (F := Ideal) x4 x5 = T'' at h47 ⊢
  pointwise
  simp only [h34, h35, h47]
  rw [Fin.sum_univ_one]
  simp only [← EReal.coe_mul, Ideal.div_coe hz, one_mul, ← coe_sum, ← EReal.coe_neg]

/-- The gradient of the scaled scores. -/
theorem v62_at (H : Holds A x0 x1 x2 x3 x4 x5) (h : Fin 6) (q k : Fin 16384) :
    (val_main_v62 (F := Ideal) x0 x1 x2 x3 x4 x5) (ix3 h q k) = (A.ds h q k : EReal) := by
  obtain ⟨M, hM⟩ := A.msc_max h q
  have h12 := v12_at q k
  have h34 := v34_at H h q k hM
  have h35 := v35_at H h q hM
  have h47 := v47_at H h q k
  have h58 := v58_at H h q hM
  have hz : Real.exp (-M) * A.Z h q ≠ 0 := (mul_pos (Real.exp_pos _) (A.Z_pos h q)).ne'
  unfold val_main_v62 val_main_v61 val_main_v60 val_main_v59 val_main_v57 val_main_v56 val_main_v36 val_main_v13_1 val_main_call2_v0 val_main_call2_cst
  generalize val_main_v12 (F := Ideal) = T1 at h12 ⊢
  generalize val_main_v34 (F := Ideal) x0 x1 x2 x3 = T at h34 ⊢
  generalize val_main_v35 (F := Ideal) x0 x1 x2 x3 = T' at h35 ⊢
  generalize val_main_v47 (F := Ideal) x4 x5 = T'' at h47 ⊢
  generalize val_main_v58 (F := Ideal) x0 x1 x2 x3 x4 x5 = T3 at h58 ⊢
  pointwise
  rw [h12, h34, h35, h47, h58, Ideal.div_coe hz, ← EReal.coe_mul, ← EReal.coe_add, ← EReal.coe_mul, mul_one_div, A.ds_quot h q k _ (Real.exp_pos _)]
  by_cases hk : k.val / 64 ≤ q.val / 64
  · rw [if_pos hk]; rfl
  · rw [if_neg hk, A.ds_masked h q k hk]; rfl

/-- The gradient of the scores. -/
theorem v64_at (H : Holds A x0 x1 x2 x3 x4 x5) (h : Fin 6) (q k : Fin 16384) :
    (val_main_v64 (F := Ideal) x0 x1 x2 x3 x4 x5) (ix3 h q k) = ((A.ds h q k * A.s : ℝ) : EReal) := by
  have h62 := v62_at H h q k
  unfold val_main_v64 val_main_v63 val_main_cst_13
  generalize val_main_v62 (F := Ideal) x0 x1 x2 x3 x4 x5 = T at h62 ⊢
  pointwise
  rw [h62]
  show _ * cw = _
  rw [H.s, EReal.coe_mul]

/-- The gradient of the queries' first part. -/
theorem v71_at (H : Holds A x0 x1 x2 x3 x4 x5) (q : Fin 16384) (h : Fin 6) (d : Fin 128) :
    (val_main_v71 (F := Ideal) x0 x1 x2 x3 x4 x5) (ix3 q h d) = (A.dqn q h d : EReal) := by
  have h64 := fun k => v64_at H h q k
  unfold val_main_v71 val_main_v70
  generalize val_main_v64 (F := Ideal) x0 x1 x2 x3 x4 x5 = T at h64 ⊢
  pointwise
  simp only [h64, H.kn, ← EReal.coe_mul, ← coe_sum]
  unfold Args.dqn
  rw [Finset.sum_mul]
  exact congrArg _ (Finset.sum_congr rfl fun _ _ => by ring)

/-- The gradient of the queries' second part. -/
theorem v66_at (H : Holds A x0 x1 x2 x3 x4 x5) (q : Fin 16384) (h : Fin 6) (e : Fin 64) :
    (val_main_v66 (F := Ideal) x0 x1 x2 x3 x4 x5) (ix3 q h e) = (A.dqr q h e : EReal) := by
  have h64 := fun k => v64_at H h q k
  unfold val_main_v66 val_main_v65
  generalize val_main_v64 (F := Ideal) x0 x1 x2 x3 x4 x5 = T at h64 ⊢
  pointwise
  simp only [h64, H.kr, ← EReal.coe_mul, ← coe_sum]
  unfold Args.dqr
  rw [Finset.sum_mul]
  exact congrArg _ (Finset.sum_congr rfl fun _ _ => by ring)

/-- The gradient of the keys' first part. -/
theorem v69_at (H : Holds A x0 x1 x2 x3 x4 x5) (k : Fin 16384) (h : Fin 6) (d : Fin 128) :
    (val_main_v69 (F := Ideal) x0 x1 x2 x3 x4 x5) (ix3 k h d) = (A.dkn k h d : EReal) := by
  have h64 := fun q => v64_at H h q k
  unfold val_main_v69 val_main_v68
  generalize val_main_v64 (F := Ideal) x0 x1 x2 x3 x4 x5 = T at h64 ⊢
  pointwise
  simp only [h64, H.qn, ← EReal.coe_mul, ← coe_sum]
  unfold Args.dkn
  exact congrArg _ (Finset.sum_congr rfl fun _ _ => by ring)

/-- The gradient of the keys' second part. -/
theorem v67_at (H : Holds A x0 x1 x2 x3 x4 x5) (k : Fin 16384) (e : Fin 64) :
    (val_main_v67 (F := Ideal) x0 x1 x2 x3 x4 x5) (ix2 k e) = (A.dkr k e : EReal) := by
  have h64 := fun h q => v64_at H h q k
  unfold val_main_v67 val_main_v65
  generalize val_main_v64 (F := Ideal) x0 x1 x2 x3 x4 x5 = T at h64 ⊢
  pointwise
  simp only [h64, H.qr, ← EReal.coe_mul, ← coe_sum]
  rw [Finset.sum_comm]
  unfold Args.dkr
  exact congrArg _ (Finset.sum_congr rfl fun _ _ => Finset.sum_congr rfl fun _ _ => by ring)

end Cert.ReferenceIdeal.Attn
-- ==== Proof.Inputs.lean ====
module

public import proofs.«01_k».proof.Proof.Score
public import proofs.«01_k».proof.Proof.Gen.Pre_finite
public import proofs.«01_k».proof.Pre_finite

/-!
Arguments that are all finite are real numbers.
-/

@[expose] public section

set_option maxRecDepth 16384

noncomputable section

namespace Cert.Attn

open Idealize.ShloMosaic Cert.ReferenceIdeal

/-- The word of positive infinity. -/
theorem top_word : Ideal.ofBits .f32 0x7F800000#32 = ⊤ := by simp [Ideal.ofBits, Ideal.ieee]

/-- An array each of whose entries is below infinity in absolute value holds real numbers. -/
theorem real_of {s : Shape} (b : S_.BroadcastsInDim s (![] : Fin 0 → Fin s.rank)) (x : FVec Ideal s .f32)
    (h : cmpf .olt (Host.absf x) (broadcastInDim s ![] b (constant S_ .f32 0x7F800000#32)) = fun _ => 1#1) (i : s.Idx) :
    x i = (((x i).toReal : ℝ) : EReal) := by
  have h1 : Ideal.cmp .olt (max (x i) (-(x i))) (Ideal.ofBits .f32 0x7F800000#32) = 1#1 := congrFun h i
  rw [top_word] at h1
  have h2 : max (x i) (-(x i)) < (⊤ : EReal) := by
    by_contra hn
    simp [Ideal.cmp, hn] at h1
  refine (EReal.coe_toReal (fun e => ?_) (fun e => ?_)).symm
  · rw [e] at h2; simp at h2
  · rw [e] at h2; simp at h2

/-- The real numbers six arrays hold. -/
def argsOf (x0 : FVec Ideal S16384x6x128 .f32) (x1 : FVec Ideal S16384x6x64 .f32) (x2 : FVec Ideal S16384x6x128 .f32)
    (x3 : FVec Ideal S16384x64 .f32) (x4 : FVec Ideal S16384x6x128 .f32) (x5 : FVec Ideal S16384x768 .f32) : Args where
  qn q h d := (x0 (ix3 q h d)).toReal
  qr q h d := (x1 (ix3 q h d)).toReal
  kn q h d := (x2 (ix3 q h d)).toReal
  kr q d := (x3 (ix2 q d)).toReal
  v q h d := (x4 (ix3 q h d)).toReal
  o q h d := (x5 (ix2 q ⟨h.val * 128 + d.val, by omega⟩)).toReal
  s := 9686330 / 2 ^ 27

/-- They do hold them, if all entries are finite. -/
theorem holds_of (x0 : FVec Ideal S16384x6x128 .f32) (x1 : FVec Ideal S16384x6x64 .f32) (x2 : FVec Ideal S16384x6x128 .f32)
    (x3 : FVec Ideal S16384x64 .f32) (x4 : FVec Ideal S16384x6x128 .f32) (x5 : FVec Ideal S16384x768 .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) :
    Cert.ReferenceIdeal.Attn.Holds (argsOf x0 x1 x2 x3 x4 x5) x0 x1 x2 x3 x4 x5 := by
  dsimp only [Cert.Pre_finite.fn] at h
  obtain ⟨h0, h1, h2, h3, h4, h5⟩ := h
  exact {
    qn := fun q h d => real_of _ x0 h0 _
    qr := fun q h d => real_of _ x1 h1 _
    kn := fun q h d => real_of _ x2 h2 _
    kr := fun q d => real_of _ x3 h3 _
    v := fun q h d => real_of _ x4 h4 _
    o := fun q h d => real_of _ x5 h5 _
    s := cw_real }

end Cert.Attn
-- ==== Proof.NormSpec.lean ====
module

public import proofs.«01_k».proof.Proof.Spec

/-!
The gradient of a row under `x ↦ (x, (x · rsqrt(mean x² + ε) · gain) @ w)`, written with plain sums.

`x` is the row, `g` the gain, `v` the gradient of the normalised row times the gain, `y` the gradient that reaches the row
beside the norm.  The three words are 1024, ε and -1/2.
-/

@[expose] public section

noncomputable section

namespace Cert.Norm

open Idealize.ShloMosaic

/-- A row's mean square, with ε. -/
def ms (x : Fin 1024 → EReal) : EReal :=
  Ideal.div (∑ e, x e * x e) (Ideal.ofBits .f32 0x44800000#32) + Ideal.ofBits .f32 0x358637BD#32

/-- One over its square root. -/
def inv (x : Fin 1024 → EReal) : EReal := Ideal.rsqrt (ms x)

/-- The derivative of `inv` in the mean square. -/
def slope (x : Fin 1024 → EReal) : EReal := Ideal.ofBits .f32 0xBF000000#32 * Ideal.div (inv x) (ms x)

/-- What the norm gives back to each square of the row. -/
def pull (v g x : Fin 1024 → EReal) : EReal :=
  ∑ _a : Fin 1, Ideal.div ((∑ e, x e * (v e * g e)) * slope x) (Ideal.ofBits .f32 0x44800000#32)

/-- The gradient of the row. -/
def dx (v g x y : Fin 1024 → EReal) (d : Fin 1024) : EReal :=
  v d * g d * inv x + x d * pull v g x + pull v g x * x d + y d

/-- What the row adds to the gradient of the gain. -/
def dg (v x : Fin 1024 → EReal) (d : Fin 1024) : EReal := x d * inv x * v d

/-- A sum of 5632 terms is the sum of its four parts of 1408. -/
theorem sum_parts (f : Fin 5632 → EReal) :
    ∑ e, f e = ∑ e : Fin 1408, f ⟨e.val, by omega⟩ + ∑ e : Fin 1408, f ⟨1408 + e.val, by omega⟩
      + ∑ e : Fin 1408, f ⟨2816 + e.val, by omega⟩ + ∑ e : Fin 1408, f ⟨4224 + e.val, by omega⟩ := by
  rw [show (∑ e : Fin 5632, f e) = ∑ e : Fin (1408 + 1408 + 1408 + 1408), f e from rfl, Fin.sum_univ_add, Fin.sum_univ_add, Fin.sum_univ_add]
  rfl

end Cert.Norm

end
-- ==== Proof.NormTile.lean ====
module

public import proofs.«01_k».proof.Proof.Gen.Kernel2Ideal.Frame
public import proofs.«01_k».proof.Proof.NormSpec
public import Idealize.ShloMosaic.Lib.Pipeline.ValueKit

/-!
What one grid point of the kernel leaves in its two blocks of results, entry by entry.
-/

@[expose] public section

set_option maxRecDepth 16384
set_option maxHeartbeats 1000000

noncomputable section

namespace Cert.Kernel2Ideal.Norm

open Idealize.ShloMosaic Idealize.ShloMosaic.TcCoe Idealize.ShloMosaic.Tactic
open Cert.Kernel2Ideal.Gen Cert.Attn Cert.Norm

theorem hz : (![0, 0] : Fin 2 → ℕ) = fun _ => 0 := funext fun a => by fin_cases a <;> rfl
theorem hz3 : (![0, 0, 0] : Fin 3 → ℕ) = fun _ => 0 := funext fun a => by fin_cases a <;> rfl

/-- The gradient of the normalised rows times the gain: the four partial products. -/
theorem four_at (a0 a1 a2 a3 : Vec Ideal S512x1408 .bf16) (w0 w1 w2 w3 : Vec Ideal S1x1024x1408 .bf16) (r : Fin 512) (d : Fin 1024) :
    k0_pay2 a0 w0 a1 w1 a2 w2 a3 w3 (ix2 r d)
      = ∑ e, a0 (ix2 r e) * w0 (ix3 0 d e) + ∑ e, a1 (ix2 r e) * w1 (ix3 0 d e)
        + ∑ e, a2 (ix2 r e) * w2 (ix3 0 d e) + ∑ e, a3 (ix2 r e) * w3 (ix3 0 d e) := by
  pointwise [k0_pay2]

/-- The gradient of the rows. -/
theorem dx_at (v : FVec Ideal S512x1024 .f32) (x : Vec Ideal S512x1024 .f32) (g : Vec Ideal S1x1024 .f32) (y : Vec Ideal S512x1024 .f32)
    (r : Fin 512) (d : Fin 1024) :
    k0_pay5 v x g y (ix2 r d) = dx (fun e => v (ix2 r e)) (fun e => g (ix2 0 e)) (fun e => x (ix2 r e)) (fun e => y (ix2 r e)) d := by
  pointwise [k0_pay5, k0_pay4, k0_pay3]
  rfl

/-- The gradient of the gain, on top of what is there. -/
theorem dg_at (v : FVec Ideal S512x1024 .f32) (x : Vec Ideal S512x1024 .f32) (p : Vec Ideal S1x1024 .f32) (d : Fin 1024) :
    k0_pay6 v x p (ix2 0 d) = p (ix2 0 d) + ∑ r : Fin 512, dg (fun e => v (ix2 r e)) (fun e => x (ix2 r e)) d := by
  pointwise [k0_pay6, k0_pay4, k0_pay3]
  rfl

theorem zero_at (d : Fin 1024) : k0_pay1 (F := Ideal) (ix2 0 d) = 0 := by
  pointwise [k0_pay1]

/-- The columns `o, o + 1, …` of a block of 2816. -/
def half (o : ℕ) (ho : o + 1408 ≤ 2816) (x : Mat 512 2816) : Mat 512 1408 := fun i =>
  x (ix2 ⟨(i 0).val, (i 0).isLt⟩ ⟨o + (i 1).val, by have : (i 1).val < 1408 := (i 1).isLt; omega⟩)

/-- The gradient of the normalised rows times the gain, from the blocks. -/
def four (x0 x1 : Vec Ideal S512x2816 .bf16) (x2 x3 x4 x5 : Vec Ideal S1x1024x1408 .bf16) : FVec Ideal S512x1024 .f32 :=
  k0_pay2 (half 0 (by omega) x0) x2 (half 1408 (by omega) x0) x3 (half 0 (by omega) x1) x4 (half 1408 (by omega) x1) x5

/-- A load of 1408 columns from column `o` on. -/
theorem ld_half {o : ℕ} (ho : o + 1408 ≤ 2816) (arg : Memref sig .tc .vmem S512x2816 .bf16) (harg : arg.IsWhole) (x : Vec Ideal S512x2816 .bf16)
    (inb : ∀ a, (![0, o] : Fin 2 → ℕ) a + S512x1408.size a ≤ S512x2816.size a) :
    View.readAt (Elt Ideal) arg.view (Rect.unit (s := S512x2816) ![0, o] S512x1408.size inb).toLoadRect (harg.unread x) = half o ho x := by
  funext i
  refine (congrFun (harg.read_unread x) _).trans (congrArg x ?_)
  funext a; apply Fin.ext
  match a with
  | ⟨0, _⟩ => show 0 + 1 * (i 0).val = (i 0).val; omega
  | ⟨1, _⟩ => show o + 1 * (i 1).val = o + (i 1).val; omega

/-- A load of a whole matrix. -/
theorem ld_mat {a b : ℕ} {e : EltTy} (arg : Memref sig .tc .vmem ⟨2, ![a, b]⟩ e) (harg : arg.IsWhole) (x : Vec Ideal ⟨2, ![a, b]⟩ e)
    (inb : ∀ d, (![0, 0] : Fin 2 → ℕ) d + (![a, b] : Fin 2 → ℕ) d ≤ (⟨2, ![a, b]⟩ : Shape).size d) :
    View.readAt (Elt Ideal) arg.view (Rect.unit (s := ⟨2, ![a, b]⟩) ![0, 0] ![a, b] inb).toLoadRect (harg.unread x) = x := by
  funext i
  refine (congrFun (harg.read_unread x) _).trans (congrArg x ?_)
  funext d; apply Fin.ext
  match d with
  | ⟨0, _⟩ => show 0 + 1 * (i 0).val = (i 0).val; omega
  | ⟨1, _⟩ => show 0 + 1 * (i 1).val = (i 1).val; omega

/-- A load of a whole block of the matrix of weights. -/
theorem ld_w (arg : Memref sig .tc .vmem S1x1024x1408 .bf16) (harg : arg.IsWhole) (x : Vec Ideal S1x1024x1408 .bf16)
    (inb : ∀ d, (![0, 0, 0] : Fin 3 → ℕ) d + S1x1024x1408.size d ≤ S1x1024x1408.size d) :
    View.readAt (Elt Ideal) arg.view (Rect.unit (s := S1x1024x1408) ![0, 0, 0] S1x1024x1408.size inb).toLoadRect (harg.unread x) = x := by
  funext i
  refine (congrFun (harg.read_unread x) _).trans (congrArg x ?_)
  funext d; apply Fin.ext
  match d with
  | ⟨0, _⟩ => show 0 + 1 * (i 0).val = (i 0).val; omega
  | ⟨1, _⟩ => show 0 + 1 * (i 1).val = (i 1).val; omega
  | ⟨2, _⟩ => show 0 + 1 * (i 2).val = (i 2).val; omega

section
variable (c : Dev nD) (i : grid0.Coords) (a1 : Memref sig .tc .vmem S512x2816 .bf16) (h1 : a1.IsWhole) (a2 : Memref sig .tc .vmem S512x2816 .bf16) (h2 : a2.IsWhole)
  (a3 : Memref sig .tc .vmem S1x1024x1408 .bf16) (h3 : a3.IsWhole) (a4 : Memref sig .tc .vmem S1x1024x1408 .bf16) (h4 : a4.IsWhole)
  (a5 : Memref sig .tc .vmem S1x1024x1408 .bf16) (h5 : a5.IsWhole) (a6 : Memref sig .tc .vmem S1x1024x1408 .bf16) (h6 : a6.IsWhole)
  (a7 : Memref sig .tc .vmem S512x1024 .f32) (h7 : a7.IsWhole) (a8 : Memref sig .tc .vmem S512x1024 .f32) (h8 : a8.IsWhole)
  (a9 : Memref sig .tc .vmem S1x1024 .f32) (h9 : a9.IsWhole) (a10 : Memref sig .tc .vmem S512x1024 .f32) (h10 : a10.IsWhole)
  (a11 : Memref sig .tc .vmem S1x1024 .f32) (h11 : a11.IsWhole)
  (x0 x1 : Vec Ideal S512x2816 .bf16) (x2 x3 x4 x5 : Vec Ideal S1x1024x1408 .bf16) (x6 x7 : Vec Ideal S512x1024 .f32) (x8 p : Vec Ideal S1x1024 .f32)

/-- A later point leaves the gradient of its rows. -/
theorem out_B_9 (hc : ¬cond0_0 i) :
    out0_B_9 c i a1 h1 a2 h2 a3 h3 a4 h4 a5 h5 a6 h6 a7 h7 a8 h8 a9 h9 a10 h10 a11 h11 hc x0 x1 x2 x3 x4 x5 x6 x7 x8 p = k0_pay5 (four x0 x1 x2 x3 x4 x5) x6 x8 x7 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 x8 p)]
  unfold kernelRun0_B
  dsimp only
  sl_unfold_words
  rw [View.canon_unit_zero hz]
  exact congr (congr (congr (congrArg k0_pay5 (congr (congr (congr (congr (congr (congr (congrArg₂ k0_pay2 (ld_half (by omega) a1 h1 x0 _) (ld_w a3 h3 x2 _)) (ld_half (by omega) a1 h1 x0 _)) (ld_w a4 h4 x3 _))
    (ld_half (by omega) a2 h2 x1 _)) (ld_w a5 h5 x4 _)) (ld_half (by omega) a2 h2 x1 _)) (ld_w a6 h6 x5 _))) (ld_mat a7 h7 x6 _)) (ld_mat a9 h9 x8 _)) (ld_mat a8 h8 x7 _)
/-- It adds to the gradient of the gain. -/
theorem out_B_10 (hc : ¬cond0_0 i) :
    out0_B_10 c i a1 h1 a2 h2 a3 h3 a4 h4 a5 h5 a6 h6 a7 h7 a8 h8 a9 h9 a10 h10 a11 h11 hc x0 x1 x2 x3 x4 x5 x6 x7 x8 p = k0_pay6 (four x0 x1 x2 x3 x4 x5) x6 p := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 x8 p)]
  unfold kernelRun0_B
  dsimp only
  sl_unfold_words
  rw [View.canon_unit_zero hz]
  exact congr (congrArg₂ k0_pay6 (congr (congr (congr (congr (congr (congr (congrArg₂ k0_pay2 (ld_half (by omega) a1 h1 x0 _) (ld_w a3 h3 x2 _)) (ld_half (by omega) a1 h1 x0 _)) (ld_w a4 h4 x3 _))
    (ld_half (by omega) a2 h2 x1 _)) (ld_w a5 h5 x4 _)) (ld_half (by omega) a2 h2 x1 _)) (ld_w a6 h6 x5 _)) (ld_mat a7 h7 x6 _)) (ld_mat a11 h11 p _)
/-- The first point leaves the gradient of its rows. -/
theorem out_A_9 (hc : cond0_0 i) :
    out0_A_9 c i a1 h1 a2 h2 a3 h3 a4 h4 a5 h5 a6 h6 a7 h7 a8 h8 a9 h9 a10 h10 a11 h11 hc x0 x1 x2 x3 x4 x5 x6 x7 x8 = k0_pay5 (four x0 x1 x2 x3 x4 x5) x6 x8 x7 := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_unit_zero hz]
  exact congr (congr (congr (congrArg k0_pay5 (congr (congr (congr (congr (congr (congr (congrArg₂ k0_pay2 (ld_half (by omega) a1 h1 x0 _) (ld_w a3 h3 x2 _)) (ld_half (by omega) a1 h1 x0 _)) (ld_w a4 h4 x3 _))
    (ld_half (by omega) a2 h2 x1 _)) (ld_w a5 h5 x4 _)) (ld_half (by omega) a2 h2 x1 _)) (ld_w a6 h6 x5 _))) (ld_mat a7 h7 x6 _)) (ld_mat a9 h9 x8 _)) (ld_mat a8 h8 x7 _)
/-- It starts the gradient of the gain. -/
theorem out_A_10 (hc : cond0_0 i) :
    out0_A_10 c i a1 h1 a2 h2 a3 h3 a4 h4 a5 h5 a6 h6 a7 h7 a8 h8 a9 h9 a10 h10 a11 h11 hc x0 x1 x2 x3 x4 x5 x6 x7 x8 = k0_pay6 (four x0 x1 x2 x3 x4 x5) x6 (k0_pay1 (F := Ideal)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1024) hz, View.readCov_unit_zero (S := S1x1024) _ hz]
  exact congr (congrArg₂ k0_pay6 (congr (congr (congr (congr (congr (congr (congrArg₂ k0_pay2 (ld_half (by omega) a1 h1 x0 _) (ld_w a3 h3 x2 _)) (ld_half (by omega) a1 h1 x0 _)) (ld_w a4 h4 x3 _))
    (ld_half (by omega) a2 h2 x1 _)) (ld_w a5 h5 x4 _)) (ld_half (by omega) a2 h2 x1 _)) (ld_w a6 h6 x5 _)) (ld_mat a7 h7 x6 _)) rfl
end

end Cert.Kernel2Ideal.Norm

end
-- ==== Proof.NormArr.lean ====
module

public import proofs.«01_k».proof.Proof.NormTile
public import Idealize.ShloMosaic.Lib.StableHlo.RunRead
public import Idealize.ShloMosaic.Lib.Tactic.CleanTypes

/-!
The kernel's two results, entry by entry: what the launch finds, the blocks its points read, what each point leaves, and
the arrays after the last point.
-/

@[expose] public section

set_option maxRecDepth 16384
set_option maxHeartbeats 1000000

noncomputable section

namespace Cert.Kernel2Ideal.Norm

open Idealize.ShloMosaic Idealize.ShloMosaic.TcCoe Idealize.ShloMosaic.Tactic
open Idealize.SL.Sem
open Cert.Kernel2Ideal.Gen Cert.Attn Cert.Norm

variable (m : (ℓ : Loc nD τ sig) → Buf (Elt Ideal) ℓ) (c : Dev nD)

/-! The arguments: the rows, the gain, the weights, the gradient of the rows, the gradient of the products. -/

abbrev X0 : S16384x1024.Idx → EReal := m ((c : Thread nD τ).loc main_arg0)
abbrev X1 : S1024.Idx → EReal := m ((c : Thread nD τ).loc main_arg1)
abbrev X2 : S1024x5632.Idx → EReal := m ((c : Thread nD τ).loc main_arg2)
abbrev X3 : S16384x1024.Idx → EReal := m ((c : Thread nD τ).loc main_arg3)
abbrev X4 : S16384x5632.Idx → EReal := m ((c : Thread nD τ).loc main_arg4)

/-! What the launch finds. -/

def W2 : FVec Ideal S16384x2816 .bf16 := V m c main_v2
def W3 : FVec Ideal S16384x2816 .bf16 := V m c main_v3
def W6 : FVec Ideal S4x1024x1408 .bf16 := V m c main_v6
def W7 : FVec Ideal S1x1024 .f32 := V m c main_v7

theorem W2_at (s : Fin 16384) (e : Fin 2816) : W2 m c (ix2 s e) = X4 m c (ix2 s ⟨e.val, by omega⟩) := by
  unfold W2 V
  after_reads_simp
  pointwise
theorem W3_at (s : Fin 16384) (e : Fin 2816) : W3 m c (ix2 s e) = X4 m c (ix2 s ⟨2816 + e.val, by omega⟩) := by
  unfold W3 V
  after_reads_simp
  pointwise
theorem W6_at (k : Fin 4) (d : Fin 1024) (e : Fin 1408) : W6 m c (ix3 k d e) = X2 m c (ix2 d ⟨1408 * k.val + e.val, by omega⟩) := by
  unfold W6 V
  after_reads_simp
  pointwise
  refine congrArg (X2 m c) (congrArg (ix2 d) (Fin.ext ?_))
  show k.val * 1408 + e.val = 1408 * k.val + e.val
  omega
theorem W7_at (d : Fin 1024) : W7 m c (ix2 0 d) = X1 m c (ix1 d) := by
  unfold W7 V
  after_reads_simp
  pointwise

/-! The blocks a point reads. -/

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![1, 0, 0] := (by decide +kernel : ∀ t : Fin grid0.N, _)
theorem ix_4 : ∀ t : Fin cfg0.N, win0_4.index t = ![2, 0, 0] := (by decide +kernel : ∀ t : Fin grid0.N, _)
theorem ix_5 : ∀ t : Fin cfg0.N, win0_5.index t = ![3, 0, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![t.val, 0] := (by decide +kernel : ∀ t : Fin grid0.N, _)
theorem ix_10 : ∀ t : Fin cfg0.N, win0_10.index t = ![0, 0] := (by decide +kernel : ∀ t : Fin grid0.N, _)

theorem lt32 (t : Fin cfg0.N) : t.val < 32 := t.isLt

/-- Row `r` of point `t`. -/
def row (t : Fin cfg0.N) (r : Fin 512) : Fin 16384 := ⟨512 * t.val + r.val, by have := lt32 t; omega⟩

theorem blk_0 (t : Fin cfg0.N) (r : Fin 512) (e : Fin 2816) : iblk m c 0 t (ix2 r e) = W2 m c (ix2 (row t r) e) := by
  unfold W2 row
  blk_simp [iblk]
  congr 1
  blk_ext [ix_0 t]
theorem blk_1 (t : Fin cfg0.N) (r : Fin 512) (e : Fin 2816) : iblk m c 1 t (ix2 r e) = W3 m c (ix2 (row t r) e) := by
  unfold W3 row
  blk_simp [iblk]
  congr 1
  blk_ext [ix_1 t]
theorem blk_2 (t : Fin cfg0.N) (d : Fin 1024) (e : Fin 1408) : iblk m c 2 t (ix3 0 d e) = W6 m c (ix3 0 d e) := by
  unfold W6
  blk_simp [iblk]
  congr 1
  blk_ext [ix_2 t]
theorem blk_3 (t : Fin cfg0.N) (d : Fin 1024) (e : Fin 1408) : iblk m c 3 t (ix3 0 d e) = W6 m c (ix3 1 d e) := by
  unfold W6
  blk_simp [iblk]
  congr 1
  blk_ext [ix_3 t]
theorem blk_4 (t : Fin cfg0.N) (d : Fin 1024) (e : Fin 1408) : iblk m c 4 t (ix3 0 d e) = W6 m c (ix3 2 d e) := by
  unfold W6
  blk_simp [iblk]
  congr 1
  blk_ext [ix_4 t]
theorem blk_5 (t : Fin cfg0.N) (d : Fin 1024) (e : Fin 1408) : iblk m c 5 t (ix3 0 d e) = W6 m c (ix3 3 d e) := by
  unfold W6
  blk_simp [iblk]
  congr 1
  blk_ext [ix_5 t]
theorem blk_6 (t : Fin cfg0.N) (r : Fin 512) (d : Fin 1024) : iblk m c 6 t (ix2 r d) = X0 m c (ix2 (row t r) d) := by
  unfold row
  refine Eq.trans ?_ (congrFun (V_main_arg0 m c) _)
  blk_simp [iblk]
  congr 1
  blk_ext [ix_6 t]
theorem blk_7 (t : Fin cfg0.N) (r : Fin 512) (d : Fin 1024) : iblk m c 7 t (ix2 r d) = X3 m c (ix2 (row t r) d) := by
  unfold row
  refine Eq.trans ?_ (congrFun (V_main_arg3 m c) _)
  blk_simp [iblk]
  congr 1
  blk_ext [ix_7 t]
theorem blk_8 (t : Fin cfg0.N) (d : Fin 1024) : iblk m c 8 t (ix2 0 d) = W7 m c (ix2 0 d) := by
  unfold W7
  blk_simp [iblk]
  congr 1
  blk_ext [ix_8 t]

/-! What a point leaves. -/

/-- The gradient of row `s` of the normalised rows times the gain. -/
def v (s : Fin 16384) (d : Fin 1024) : EReal := ∑ e : Fin 5632, X4 m c (ix2 s e) * X2 m c (ix2 d e)
/-- Row `s`. -/
def x (s : Fin 16384) (d : Fin 1024) : EReal := X0 m c (ix2 s d)
/-- The gradient that reaches row `s` beside the norm. -/
def y (s : Fin 16384) (d : Fin 1024) : EReal := X3 m c (ix2 s d)
/-- The gain. -/
def g (d : Fin 1024) : EReal := X1 m c (ix1 d)

/-- The products of point `t`. -/
abbrev vt (t : Fin cfg0.N) : FVec Ideal S512x1024 .f32 :=
  four (iblk m c 0 t) (iblk m c 1 t) (iblk m c 2 t) (iblk m c 3 t) (iblk m c 4 t) (iblk m c 5 t)

theorem vt_at (t : Fin cfg0.N) (r : Fin 512) (d : Fin 1024) : vt m c t (ix2 r d) = v m c (row t r) d := by
  unfold vt four v
  rw [four_at, sum_parts]
  refine congrArg₂ (· + ·) (congrArg₂ (· + ·) (congrArg₂ (· + ·) ?_ ?_) ?_) ?_ <;> refine Finset.sum_congr rfl fun e _ => congrArg₂ (· * ·) ?_ ?_
  · refine ((blk_0 m c t r ⟨0 + e.val, by omega⟩).trans (W2_at m c _ _)).trans (congrArg (X4 m c) (congrArg (ix2 _) (Fin.ext ?_)))
    show 0 + e.val = e.val; omega
  · refine ((blk_2 m c t d e).trans (W6_at m c _ _ _)).trans (congrArg (X2 m c) (congrArg (ix2 _) (Fin.ext ?_)))
    show 1408 * 0 + e.val = e.val; omega
  · refine ((blk_0 m c t r ⟨1408 + e.val, by omega⟩).trans (W2_at m c _ _))
  · refine ((blk_3 m c t d e).trans (W6_at m c _ _ _)).trans (congrArg (X2 m c) (congrArg (ix2 _) (Fin.ext ?_)))
    show 1408 * 1 + e.val = 1408 + e.val; omega
  · refine ((blk_1 m c t r ⟨0 + e.val, by omega⟩).trans (W3_at m c _ _)).trans (congrArg (X4 m c) (congrArg (ix2 _) (Fin.ext ?_)))
    show 2816 + (0 + e.val) = 2816 + e.val; omega
  · refine ((blk_4 m c t d e).trans (W6_at m c _ _ _)).trans (congrArg (X2 m c) (congrArg (ix2 _) (Fin.ext ?_)))
    show 1408 * 2 + e.val = 2816 + e.val; omega
  · refine ((blk_1 m c t r ⟨1408 + e.val, by omega⟩).trans (W3_at m c _ _)).trans (congrArg (X4 m c) (congrArg (ix2 _) (Fin.ext ?_)))
    show 2816 + (1408 + e.val) = 4224 + e.val; omega
  · refine ((blk_5 m c t d e).trans (W6_at m c _ _ _)).trans (congrArg (X2 m c) (congrArg (ix2 _) (Fin.ext ?_)))
    show 1408 * 3 + e.val = 4224 + e.val; omega

theorem row_v (t : Fin cfg0.N) (r : Fin 512) : (fun e => vt m c t (ix2 r e)) = v m c (row t r) := funext fun e => vt_at m c t r e
theorem row_x (t : Fin cfg0.N) (r : Fin 512) : (fun e => (iblk m c 6 t : Vec Ideal S512x1024 .f32) (ix2 r e)) = x m c (row t r) := funext fun e => blk_6 m c t r e
theorem row_y (t : Fin cfg0.N) (r : Fin 512) : (fun e => (iblk m c 7 t : Vec Ideal S512x1024 .f32) (ix2 r e)) = y m c (row t r) := funext fun e => blk_7 m c t r e
theorem row_g (t : Fin cfg0.N) : (fun e => (iblk m c 8 t : Vec Ideal S1x1024 .f32) (ix2 0 e)) = g m c := funext fun e => (blk_8 m c t e).trans (W7_at m c e)

/-- Whatever the case, a point leaves the gradient of its rows. -/
theorem outs_1 (t : Fin cfg0.N) : (outsAt0 m c t.val t.isLt).1 = k0_pay5 (vt m c t) (iblk m c 6 t) (iblk m c 8 t) (iblk m c 7 t) := by
  by_cases h : t.val % 32 = 0
  · simp only [outsAt0_A m c t h]
    rw [out_A_9]
  · simp only [outsAt0_B m c t h]
    rw [out_B_9]

theorem outs_1_at (t : Fin cfg0.N) (r : Fin 512) (d : Fin 1024) :
    (outsAt0 m c t.val t.isLt).1 (ix2 r d) = dx (v m c (row t r)) (g m c) (x m c (row t r)) (y m c (row t r)) d := by
  rw [outs_1, dx_at, row_v, row_x, row_y, row_g]

theorem outs_2_A (t : Fin cfg0.N) (h : t.val % 32 = 0) :
    (outsAt0 m c t.val t.isLt).2 = k0_pay6 (vt m c t) (iblk m c 6 t) (k0_pay1 (F := Ideal)) := by
  simp only [outsAt0_A m c t h]
  rw [out_A_10]

theorem outs_2_B (t : Fin cfg0.N) (h : ¬ t.val % 32 = 0) :
    (outsAt0 m c t.val t.isLt).2 = k0_pay6 (vt m c t) (iblk m c 6 t) (outsAt0 m c (t.val - 1) (Nat.lt_of_le_of_lt (Nat.sub_le _ _) t.isLt)).2 := by
  simp only [outsAt0_B m c t h]
  rw [out_B_10]

/-- Point `t` adds its rows to the gradient of the gain. -/
theorem adds (t : Fin cfg0.N) (p : Vec Ideal S1x1024 .f32) (d : Fin 1024) :
    k0_pay6 (vt m c t) (iblk m c 6 t) p (ix2 0 d) = p (ix2 0 d) + ∑ r : Fin 512, dg (v m c (row t r)) (x m c (row t r)) d := by
  rw [dg_at]
  simp only [row_v, row_x]

/-- After point `n` the gradient of the gain has the rows of the points up to `n`. -/
theorem outs_2_at (d : Fin 1024) : ∀ (n : ℕ) (hn : n < cfg0.N),
    (outsAt0 m c n hn).2 (ix2 0 d) = upto (n + 1) fun s => dg (v m c s) (x m c s) d
  | 0, hn => by
    rw [upto_succ 0 (by omega)]
    refine (congrFun (outs_2_A m c ⟨0, hn⟩ rfl) _).trans ((adds m c ⟨0, hn⟩ _ d).trans (congrArg₂ (· + ·) ((zero_at d).trans ?_) rfl))
    unfold upto; simp
  | n + 1, hn => by
    have h32 : n + 1 < 32 := hn
    rw [upto_succ (n + 1) h32]
    exact (congrFun (outs_2_B m c ⟨n + 1, hn⟩ (show ¬ (n + 1) % 32 = 0 by omega)) _).trans
      ((adds m c ⟨n + 1, hn⟩ _ d).trans (congrArg₂ (· + ·) (outs_2_at d n (Nat.lt_of_succ_lt hn)) rfl))

/-! The arrays after the last point. -/

/-- The gradient of the rows. -/
def R0 : S16384x1024.Idx → EReal := fun i =>
  dx (v m c ⟨(i 0).val, (i 0).isLt⟩) (g m c) (x m c ⟨(i 0).val, (i 0).isLt⟩) (y m c ⟨(i 0).val, (i 0).isLt⟩) ⟨(i 1).val, (i 1).isLt⟩
/-- The gradient of the gain. -/
def R1 : S1x1024.Idx → EReal := fun i => ∑ s, dg (v m c s) (x m c s) ⟨(i 1).val, (i 1).isLt⟩

theorem final_9 : (dats m 0 c).arrAt 9 cfg0.N = R0 m c := by
  refine (dats m 0 c).arrAt_eq_of_covers 9 _ (by decide +kernel) fun t hf z => ?_
  blk_simp
  rw [after0_9]
  obtain ⟨r, d, rfl⟩ := idx_eq (n := 512) (k := 1024) z
  refine (outs_1_at m c t r d).trans ?_
  unfold R0
  have e0 : row t r = ⟨((win0_9.blk t).view.emb (ix2 r d) 0).val, ((win0_9.blk t).view.emb (ix2 r d) 0).isLt⟩ := by
    apply Fin.ext
    blk_simp [ix_9 t]
    show 512 * t.val + r.val = t.val * 512 + r.val
    omega
  have e1 : d = ⟨((win0_9.blk t).view.emb (ix2 r d) 1).val, ((win0_9.blk t).view.emb (ix2 r d) 1).isLt⟩ := by
    apply Fin.ext
    blk_simp [ix_9 t]
  rw [e0]
  exact congrArg _ e1

theorem final_10 : (dats m 0 c).arrAt 10 cfg0.N = R1 m c := by
  refine (dats m 0 c).arrAt_eq_of_covers 10 _ (by decide +kernel) fun t hf z => ?_
  blk_simp
  rw [after0_10]
  have ht := (flush0_10 t).1 hf
  have h32 := lt32 t
  obtain ⟨r, d, rfl⟩ := idx_eq (n := 1) (k := 1024) z
  obtain rfl : r = 0 := Subsingleton.elim _ _
  refine (outs_2_at m c d t.val t.isLt).trans ?_
  rw [show t.val + 1 = 32 by omega, upto_all]
  unfold R1
  have e1 : d = ⟨((win0_10.blk t).view.emb (ix2 0 d) 1).val, ((win0_10.blk t).view.emb (ix2 0 d) 1).isLt⟩ := by
    apply Fin.ext
    blk_simp [ix_10 t]
  exact Finset.sum_congr rfl fun s _ => congrArg _ e1

end Cert.Kernel2Ideal.Norm

end
-- ==== Proof.NormRef.lean ====
module

public import proofs.«01_k».proof.Proof.NormSpec
public import proofs.«01_k».proof.Proof.Gen.Reference2Ideal.Read
public import Idealize.ShloMosaic.Lib.Tactic.CleanTypes

/-!
The reference's two results, entry by entry.
-/

@[expose] public section

set_option maxRecDepth 16384
set_option maxHeartbeats 1000000

noncomputable section

namespace Cert.Reference2Ideal.Norm

open Idealize.ShloMosaic Idealize.ShloMosaic.TcCoe Idealize.ShloMosaic.Tactic
open Cert.Reference2Ideal Cert.Reference2Ideal.Gen Cert.Reference2Ideal.Read Cert.Attn Cert.Norm

variable (x0 x3 : FVec Ideal S16384x1024 .f32) (x1 : FVec Ideal S1024 .f32) (x2 : FVec Ideal S1024x5632 .f32) (x4 : FVec Ideal S16384x5632 .f32)

/-- The mean squares. -/
theorem v6_at (s : Fin 16384) : (val_main_v6 (F := Ideal) x0) (ix2 s 0) = ms fun e => x0 (ix2 s e) := by
  unfold val_main_v6 val_main_v5 val_main_v4 val_main_v3 val_main_v2 val_main_v1 val_main_v0 val_main_cst val_main_cst_0 val_main_cst_1
  pointwise
  rfl

/-- One over their roots. -/
theorem v7_at (s : Fin 16384) : (val_main_v7 (F := Ideal) x0) (ix2 s 0) = inv fun e => x0 (ix2 s e) := by
  have h := v6_at x0 s
  unfold val_main_v7
  generalize val_main_v6 (F := Ideal) x0 = T at h ⊢
  pointwise
  rw [h]; rfl

theorem v10_at (s : Fin 16384) : (val_main_v10 (F := Ideal) x0) (ix2 s 0) = slope fun e => x0 (ix2 s e) := by
  have h := v6_at x0 s
  have h' := v7_at x0 s
  unfold val_main_v10 val_main_v9 val_main_v8 val_main_cst_2
  generalize val_main_v6 (F := Ideal) x0 = T at h ⊢
  generalize val_main_v7 (F := Ideal) x0 = T' at h' ⊢
  pointwise
  rw [h, h']; rfl

/-- The gradient of the normalised rows times the gain. -/
theorem v17_at (s : Fin 16384) (d : Fin 1024) : (val_main_v17 (F := Ideal) x2 x4) (ix2 s d) = ∑ e, x4 (ix2 s e) * x2 (ix2 d e) := by
  unfold val_main_v17
  pointwise

/-- The gradient of the gain. -/
theorem v39_at (d : Fin 1024) : (val_main_v39 (F := Ideal) x0 x2 x4) (ix2 0 d)
    = ∑ s, dg (fun d => ∑ e, x4 (ix2 s e) * x2 (ix2 d e)) (fun e => x0 (ix2 s e)) d := by
  have h := v7_at x0
  have h' := v17_at x2 x4
  unfold val_main_v39 val_main_v23 val_main_v20 val_main_v19 val_main_v18 val_main_v12 val_main_v11 val_main_cst_3 val_main_cst_4
  generalize val_main_v7 (F := Ideal) x0 = T at h ⊢
  generalize val_main_v17 (F := Ideal) x2 x4 = T' at h' ⊢
  pointwise
  rw [Fin.sum_univ_one]
  refine Finset.sum_congr rfl fun s _ => ?_
  rw [h, h']; rfl

/-- The gradient of a row. -/
theorem v38_at (s : Fin 16384) (d : Fin 1024) : (val_main_v38 (F := Ideal) x0 x1 x2 x3 x4) (ix2 s d)
    = dx (fun d => ∑ e, x4 (ix2 s e) * x2 (ix2 d e)) (fun e => x1 (ix1 e)) (fun e => x0 (ix2 s e)) (fun e => x3 (ix2 s e)) d := by
  have h := v7_at x0 s
  have h' := v17_at x2 x4
  have h'' := v10_at x0 s
  unfold val_main_v38 val_main_v37 val_main_v36 val_main_v35 val_main_v34 val_main_v33 val_main_v32 val_main_v31 val_main_v30 val_main_v29 val_main_v28 val_main_v27 val_main_v26 val_main_v25 val_main_v24 val_main_v22 val_main_v21 val_main_v13 val_main_cst_5 val_main_cst_6 val_main_cst_7
  generalize val_main_v7 (F := Ideal) x0 = T at h ⊢
  generalize val_main_v17 (F := Ideal) x2 x4 = T' at h' ⊢
  generalize val_main_v10 (F := Ideal) x0 = T'' at h'' ⊢
  pointwise
  have hp : (∑ k : Fin 1, Ideal.div ((∑ e, x0 (ix2 s e) * (T' (ix2 s e) * x1 (ix1 e))) * T'' (ix2 s k)) (Ideal.ofBits .f32 0x44800000#32))
      = pull (fun d => ∑ e, x4 (ix2 s e) * x2 (ix2 d e)) (fun e => x1 (ix1 e)) (fun e => x0 (ix2 s e)) := by
    unfold pull
    refine Finset.sum_congr rfl fun k _ => ?_
    obtain rfl : k = 0 := Subsingleton.elim _ _
    rw [h'']
    simp only [h']
  rw [hp, h, h']
  unfold dx
  rw [add_assoc, add_assoc, add_comm (x3 (ix2 s d)), add_assoc]
  abel_nf

end Cert.Reference2Ideal.Norm

end
-- ==== Proof.WgtSpec.lean ====
module

public import proofs.«01_k».proof.Proof.Spec

/-!
The sums of the weights' gradients: over the tokens, 1024 at a time.
-/

@[expose] public section

noncomputable section

namespace Cert.Wgt

open Idealize.ShloMosaic

/-- The sum of `f` over the tokens of the first `n` blocks of 1024. -/
def part (n : ℕ) (f : Fin 16384 → EReal) : EReal :=
  ∑ k ∈ Finset.range (1024 * n), if h : k < 16384 then f ⟨k, h⟩ else 0

theorem part_zero (f : Fin 16384 → EReal) : part 0 f = 0 := by
  unfold part; simp

/-- One more block of 1024. -/
theorem part_succ (m : ℕ) (hm : m < 16) (f : Fin 16384 → EReal) :
    part (m + 1) f = part m f + ∑ g : Fin 1024, f ⟨1024 * m + g.val, by omega⟩ := by
  unfold part
  rw [show 1024 * (m + 1) = 1024 * m + 1024 by omega, Finset.sum_range_add, Finset.sum_range (n := 1024)]
  refine congrArg₂ (· + ·) rfl (Finset.sum_congr rfl fun g _ => ?_)
  rw [dif_pos (by omega)]

/-- All 16 blocks are all the tokens. -/
theorem part_all (f : Fin 16384 → EReal) : part 16 f = ∑ g : Fin 16384, f g := by
  unfold part
  rw [show 1024 * 16 = 16384 by rfl, Finset.sum_range]
  exact Finset.sum_congr rfl fun g _ => by rw [dif_pos g.isLt]

/-- A half, as the programs write it. -/
def half : EReal := Ideal.ofBits .f32 0x3F000000#32

/-- A half of a sum is the sum of the halves. -/
theorem sum_half {n : ℕ} (f : Fin n → EReal) : (∑ r, f r) * half = ∑ r, f r * half := by
  have hr : half = ((1 / 2 : ℝ) : EReal) := by
    simp [half, Ideal.ofBits, Ideal.ieee, -EReal.coe_mul]
    norm_num
  have h0 : (0 : EReal) ≤ half := by rw [hr]; exact_mod_cast (by norm_num : (0 : ℝ) ≤ 1 / 2)
  have ht : half ≠ ⊤ := by rw [hr]; exact EReal.coe_ne_top _
  induction n with
  | zero => simp
  | succ k ih => rw [Fin.sum_univ_castSucc, Fin.sum_univ_castSucc, EReal.right_distrib_of_nonneg_of_ne_top h0 ht, ih]

end Cert.Wgt

end
-- ==== Proof.WgtG.lean ====
module

public import proofs.«01_k».proof.Proof.Gen.Kernel3Ideal.Frame
public import proofs.«01_k».proof.Proof.WgtSpec
public import Idealize.ShloMosaic.Lib.Pipeline.ValueKit
public import Idealize.ShloMosaic.Lib.StableHlo.RunRead
public import Idealize.ShloMosaic.Lib.Tactic.CleanTypes

/-!
The gradient of the weights of the gate, entry by entry: what the launch finds, what each grid point adds to its block of columns, and the
array after the last point.
-/

@[expose] public section

set_option maxRecDepth 16384
set_option maxHeartbeats 1000000

noncomputable section

namespace Cert.Kernel3Ideal.Wgt

open Idealize.ShloMosaic Idealize.ShloMosaic.TcCoe Idealize.ShloMosaic.Tactic
open Idealize.SL.Sem
open Cert.Kernel3Ideal.Gen Cert.Attn Cert.Wgt

theorem hz4 : (![0, 0, 0, 0] : Fin 4 → ℕ) = fun _ => 0 := funext fun a => by fin_cases a <;> rfl

/-! One grid point. -/

/-- A point adds the products of its rows. -/
theorem adds_at (p : Vec Ideal S1x1x1024x1408 .f32) (x : Vec Ideal S1024x1024 .bf16) (y : Vec Ideal S1024x1408 .bf16) (d : Fin 1024) (e : Fin 1408) :
    k0_pay2 p x y (ix4 0 0 d e) = p (ix4 0 0 d e) + ∑ r : Fin 1024, x (ix2 r d) * y (ix2 r e) := by
  pointwise [k0_pay2]

theorem clear_at (d : Fin 1024) (e : Fin 1408) : k0_pay1 (F := Ideal) (ix4 0 0 d e) = 0 := by
  pointwise [k0_pay1]

/-- A load of a whole matrix. -/
theorem ld_mat {a b : ℕ} {e : EltTy} (arg : Memref sig .tc .vmem ⟨2, ![a, b]⟩ e) (harg : arg.IsWhole) (x : Vec Ideal ⟨2, ![a, b]⟩ e)
    (inb : ∀ d, (![0, 0] : Fin 2 → ℕ) d + (![a, b] : Fin 2 → ℕ) d ≤ (⟨2, ![a, b]⟩ : Shape).size d) :
    View.readAt (Elt Ideal) arg.view (Rect.unit (s := ⟨2, ![a, b]⟩) ![0, 0] ![a, b] inb).toLoadRect (harg.unread x) = x := by
  funext i
  refine (congrFun (harg.read_unread x) _).trans (congrArg x ?_)
  funext d; apply Fin.ext
  match d with
  | ⟨0, _⟩ => show 0 + 1 * (i 0).val = (i 0).val; omega
  | ⟨1, _⟩ => show 0 + 1 * (i 1).val = (i 1).val; omega

/-- A load of the whole block of the gradient. -/
theorem ld_acc (arg : Memref sig .tc .vmem S1x1x1024x1408 .f32) (harg : arg.IsWhole) (x : Vec Ideal S1x1x1024x1408 .f32)
    (inb : ∀ d, (![0, 0, 0, 0] : Fin 4 → ℕ) d + S1x1x1024x1408.size d ≤ S1x1x1024x1408.size d) :
    View.readAt (Elt Ideal) arg.view (Rect.unit (s := S1x1x1024x1408) ![0, 0, 0, 0] S1x1x1024x1408.size inb).toLoadRect (harg.unread x) = x := by
  funext i
  refine (congrFun (harg.read_unread x) _).trans (congrArg x ?_)
  funext d; apply Fin.ext
  match d with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

section
variable (c : Dev nD) (i : grid0.Coords) (a1 : Memref sig .tc .vmem S1024x1024 .bf16) (h1 : a1.IsWhole) (a2 : Memref sig .tc .vmem S1024x1408 .bf16)
  (h2 : a2.IsWhole) (a3 : Memref sig .tc .vmem S1x1x1024x1408 .f32) (h3 : a3.IsWhole)
  (x0 : Vec Ideal S1024x1024 .bf16) (x1 : Vec Ideal S1024x1408 .bf16) (p : Vec Ideal S1x1x1024x1408 .f32)

/-- A later point adds to its block. -/
theorem out_B (hc : ¬cond0_0 i) : out0_B_2 c i a1 h1 a2 h2 a3 h3 hc x0 x1 p = k0_pay2 p x0 x1 := by
  unfold out0_B_2
  rw [View.read_writes_eq_canon _ _ _ (cover0_B_2 c i a1 h1 a2 h2 a3 h3 hc x0 x1 p)]
  unfold kernelRun0_B
  dsimp only
  sl_unfold_words
  rw [View.canon_unit_zero hz4]
  exact congr (congrArg₂ k0_pay2 (ld_acc a3 h3 p _) (ld_mat a1 h1 x0 _)) (ld_mat a2 h2 x1 _)

/-- The first point of a block of columns starts from nothing. -/
theorem out_A (hc : cond0_0 i) : out0_A_2 c i a1 h1 a2 h2 a3 h3 hc x0 x1 = k0_pay2 (k0_pay1 (F := Ideal)) x0 x1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1x1024x1408) hz4, View.readCov_unit_zero (S := S1x1x1024x1408) _ hz4]
  exact congr (congrArg₂ k0_pay2 rfl (ld_mat a1 h1 x0 _)) (ld_mat a2 h2 x1 _)
end

/-! The launch. -/

variable (m : (ℓ : Loc nD τ sig) → Buf (Elt Ideal) ℓ) (c : Dev nD)

/-- The rows the weights multiply. -/
abbrev X0 : S16384x1024.Idx → EReal := m ((c : Thread nD τ).loc main_arg0)
/-- The gradient of the products. -/
abbrev X1 : S16384x2816.Idx → EReal := m ((c : Thread nD τ).loc main_arg1)

def W1 : FVec Ideal S16384x1024 .bf16 := V m c main_v1
def W2 : FVec Ideal S16384x2816 .bf16 := V m c main_v2
def W3 : FVec Ideal S4x1x1024x1408 .f32 := V m c main_v3

theorem W1_at (s : Fin 16384) (d : Fin 1024) : W1 m c (ix2 s d) = X0 m c (ix2 s d) := by
  unfold W1 V
  after_reads_simp
  pointwise
theorem W2_at (s : Fin 16384) (e : Fin 2816) : W2 m c (ix2 s e) = X1 m c (ix2 s e) := by
  unfold W2 V
  after_reads_simp
  pointwise
theorem W3_at (k : Fin 4) (d : Fin 1024) (e : Fin 1408) : W3 m c (ix4 k 0 d e) = 0 := by
  unfold W3 V
  after_reads_simp
  simp only [id]
  pointwise

theorem ix_0 : ∀ t : Fin cfg0.N, win0_0.index t = ![t.val % 16, 0] := (by decide +kernel : ∀ t : Fin grid0.N, _)
theorem ix_1 : ∀ t : Fin cfg0.N, win0_1.index t = ![t.val % 16, t.val / 16] := (by decide +kernel : ∀ t : Fin grid0.N, _)
theorem ix_2 : ∀ t : Fin cfg0.N, win0_2.index t = ![0 + t.val / 16, 0, 0, 0] := (by decide +kernel : ∀ t : Fin grid0.N, _)

theorem lt32 (t : Fin cfg0.N) : t.val < 32 := t.isLt

/-- Row `r` of point `t`. -/
def row (t : Fin cfg0.N) (r : Fin 1024) : Fin 16384 := ⟨1024 * (t.val % 16) + r.val, by omega⟩
/-- Column `e` of point `t`. -/
def col (t : Fin cfg0.N) (e : Fin 1408) : Fin 2816 := ⟨1408 * (t.val / 16) + e.val, by have := lt32 t; omega⟩

theorem blk_0 (t : Fin cfg0.N) (r : Fin 1024) (d : Fin 1024) : iblk m c 0 t (ix2 r d) = X0 m c (ix2 (row t r) d) := by
  refine Eq.trans ?_ (W1_at m c _ _)
  unfold W1 row
  blk_simp [iblk]
  congr 1
  blk_ext [ix_0 t]
theorem blk_1 (t : Fin cfg0.N) (r : Fin 1024) (e : Fin 1408) : iblk m c 1 t (ix2 r e) = X1 m c (ix2 (row t r) (col t e)) := by
  refine Eq.trans ?_ (W2_at m c _ _)
  unfold W2 row col
  blk_simp [iblk]
  congr 1
  blk_ext [ix_1 t]

theorem outs_A (t : Fin cfg0.N) (h : t.val % 16 = 0) :
    outsAt0 m c t.val t.isLt = k0_pay2 (k0_pay1 (F := Ideal)) (iblk m c 0 t) (iblk m c 1 t) := by
  simp only [outsAt0_A m c t h]
  rw [out_A]
theorem outs_B (t : Fin cfg0.N) (h : ¬ t.val % 16 = 0) :
    outsAt0 m c t.val t.isLt = k0_pay2 (outsAt0 m c (t.val - 1) (Nat.lt_of_le_of_lt (Nat.sub_le _ _) t.isLt)) (iblk m c 0 t) (iblk m c 1 t) := by
  simp only [outsAt0_B m c t h]
  rw [out_B]

/-- The term of token `s` in the gradient of the weight of row `d` and column `e` of the `j`-th block of columns. -/
def term (j : Fin 2) (d : Fin 1024) (e : Fin 1408) (s : Fin 16384) : EReal :=
  X0 m c (ix2 s d) * X1 m c (ix2 s ⟨1408 * j.val + e.val, by omega⟩)

/-- Point `t` adds the terms of its rows. -/
theorem adds (t : Fin cfg0.N) (p : Vec Ideal S1x1x1024x1408 .f32) (d : Fin 1024) (e : Fin 1408) :
    k0_pay2 p (iblk m c 0 t) (iblk m c 1 t) (ix4 0 0 d e)
      = p (ix4 0 0 d e) + ∑ r : Fin 1024, term m c ⟨t.val / 16, by have := lt32 t; omega⟩ d e (row t r) := by
  rw [adds_at]
  refine congrArg₂ (· + ·) rfl (Finset.sum_congr rfl fun r _ => ?_)
  exact congrArg₂ (· * ·) (blk_0 m c t r d) (blk_1 m c t r e)

/-- After point `n` its block has the tokens of the points of the block up to `n`. -/
theorem outs_at (d : Fin 1024) (e : Fin 1408) : ∀ (n : ℕ) (hn : n < cfg0.N),
    outsAt0 m c n hn (ix4 0 0 d e) = part (n % 16 + 1) (term m c ⟨n / 16, by have : n < 32 := hn; omega⟩ d e) := by
  intro n
  induction n with
  | zero =>
    intro hn
    rw [part_succ _ (by omega)]
    refine (congrFun (outs_A m c ⟨0, hn⟩ rfl) _).trans ((adds m c ⟨0, hn⟩ _ d e).trans (congrArg₂ (· + ·) ((clear_at d e).trans ?_) rfl))
    exact (part_zero _).symm
  | succ n ih =>
    intro hn
    have h32 : n + 1 < 32 := hn
    rw [part_succ _ (by omega)]
    by_cases h : (n + 1) % 16 = 0
    · refine (congrFun (outs_A m c ⟨n + 1, hn⟩ h) _).trans ((adds m c ⟨n + 1, hn⟩ _ d e).trans (congrArg₂ (· + ·) ((clear_at d e).trans ?_) rfl))
      rw [h]
      exact (part_zero _).symm
    · refine (congrFun (outs_B m c ⟨n + 1, hn⟩ h) _).trans ((adds m c ⟨n + 1, hn⟩ _ d e).trans (congrArg₂ (· + ·) ?_ rfl))
      refine (ih (Nat.lt_of_succ_lt hn)).trans ?_
      have e1 : n % 16 + 1 = (n + 1) % 16 := by omega
      have e2 : (⟨n / 16, by omega⟩ : Fin 2) = ⟨(n + 1) / 16, by omega⟩ := Fin.ext (show n / 16 = (n + 1) / 16 by omega)
      rw [e1, e2]

/-- An index of a point's block is a row and a column. -/
theorem idx_blk (z : S1x1x1024x1408.Idx) : ∃ (d : Fin 1024) (e : Fin 1408), z = ix4 0 0 d e :=
  ⟨⟨(z 2).val, (z 2).isLt⟩, ⟨(z 3).val, (z 3).isLt⟩, by
    funext a; apply Fin.ext
    match a with
    | ⟨0, _⟩ => have h : (z 0).val < 1 := (z 0).isLt; show (z 0).val = 0; omega
    | ⟨1, _⟩ => have h : (z 1).val < 1 := (z 1).isLt; show (z 1).val = 0; omega
    | ⟨2, _⟩ => rfl
    | ⟨3, _⟩ => rfl⟩

/-- The entry of the result. -/
def entry (k : Fin 4) (d : Fin 1024) (e : Fin 1408) : EReal :=
  if h : 0 ≤ k.val ∧ k.val < 0 + 2 then ∑ s, term m c ⟨k.val - 0, by omega⟩ d e s else 0

/-- The result. -/
def R : S4x1x1024x1408.Idx → EReal := fun i => entry m c ⟨(i 0).val, (i 0).isLt⟩ ⟨(i 2).val, (i 2).isLt⟩ ⟨(i 3).val, (i 3).isLt⟩

theorem final : (dats m 0 c).arrAt 2 cfg0.N = R m c := by
  refine (dats m 0 c).arrAt_eq_of_coversWhere_of_agree 2 _ (fun β => 0 ≤ β 0 ∧ β 0 < 0 + 2) (by decide +kernel) (fun t hf z => ?_) (fun j hj => ?_)
  · blk_simp
    rw [after0_2]
    have ht := (flush0_2 t).1 hf
    have h32 := lt32 t
    obtain ⟨d, e, rfl⟩ := idx_blk z
    refine (outs_at m c d e t.val t.isLt).trans ?_
    rw [ht, part_all]
    unfold R
    have e0 : (⟨((win0_2.blk t).view.emb (ix4 0 0 d e) 0).val, ((win0_2.blk t).view.emb (ix4 0 0 d e) 0).isLt⟩ : Fin 4) = ⟨0 + t.val / 16, by omega⟩ := by
      apply Fin.ext
      blk_simp [ix_2 t]
      rfl
    have e2 : (⟨((win0_2.blk t).view.emb (ix4 0 0 d e) 2).val, ((win0_2.blk t).view.emb (ix4 0 0 d e) 2).isLt⟩ : Fin 1024) = d := by
      apply Fin.ext
      blk_simp [ix_2 t]
    have e3 : (⟨((win0_2.blk t).view.emb (ix4 0 0 d e) 3).val, ((win0_2.blk t).view.emb (ix4 0 0 d e) 3).isLt⟩ : Fin 1408) = e := by
      apply Fin.ext
      blk_simp [ix_2 t]
    refine Eq.trans ?_ (congr (congr (congrArg (entry m c) e0) e2) e3).symm
    unfold entry
    rw [dif_pos (show 0 ≤ 0 + t.val / 16 ∧ 0 + t.val / 16 < 0 + 2 by omega)]
    refine Finset.sum_congr rfl fun s _ => ?_
    exact congrArg (fun k => term m c k d e s) (Fin.ext (show t.val / 16 = 0 + t.val / 16 - 0 by omega))
  · have h0 : (cfg0.win 2).cell j 0 = (j 0).val := Nat.div_one _
    rw [h0] at hj
    refine Eq.trans ?_ (dif_neg hj).symm
    have hz : (j 1).val < 1 := (j 1).isLt
    have hj' : j = ix4 ⟨(j 0).val, (j 0).isLt⟩ 0 ⟨(j 2).val, (j 2).isLt⟩ ⟨(j 3).val, (j 3).isLt⟩ := by
      funext a; apply Fin.ext
      match a with
      | ⟨0, _⟩ => rfl
      | ⟨1, _⟩ => show (j 1).val = 0; omega
      | ⟨2, _⟩ => rfl
      | ⟨3, _⟩ => rfl
    refine (congrFun (A_eq m c 2) _).trans ?_
    refine Eq.trans ?_ (W3_at m c ⟨(j 0).val, (j 0).isLt⟩ ⟨(j 2).val, (j 2).isLt⟩ ⟨(j 3).val, (j 3).isLt⟩)
    exact congrArg (W3 m c) hj'

end Cert.Kernel3Ideal.Wgt

end
-- ==== Proof.WgtU.lean ====
module

public import proofs.«01_k».proof.Proof.Gen.Kernel4Ideal.Frame
public import proofs.«01_k».proof.Proof.WgtSpec
public import Idealize.ShloMosaic.Lib.Pipeline.ValueKit
public import Idealize.ShloMosaic.Lib.StableHlo.RunRead
public import Idealize.ShloMosaic.Lib.Tactic.CleanTypes

/-!
The gradient of the weights of the gate's other factor, entry by entry: what the launch finds, what each grid point adds to its block of columns, and the
array after the last point.
-/

@[expose] public section

set_option maxRecDepth 16384
set_option maxHeartbeats 1000000

noncomputable section

namespace Cert.Kernel4Ideal.Wgt

open Idealize.ShloMosaic Idealize.ShloMosaic.TcCoe Idealize.ShloMosaic.Tactic
open Idealize.SL.Sem
open Cert.Kernel4Ideal.Gen Cert.Attn Cert.Wgt

theorem hz4 : (![0, 0, 0, 0] : Fin 4 → ℕ) = fun _ => 0 := funext fun a => by fin_cases a <;> rfl

/-! One grid point. -/

/-- A point adds the products of its rows. -/
theorem adds_at (p : Vec Ideal S1x1x1024x1408 .f32) (x : Vec Ideal S1024x1024 .bf16) (y : Vec Ideal S1024x1408 .bf16) (d : Fin 1024) (e : Fin 1408) :
    k0_pay2 p x y (ix4 0 0 d e) = p (ix4 0 0 d e) + ∑ r : Fin 1024, x (ix2 r d) * y (ix2 r e) := by
  pointwise [k0_pay2]

theorem clear_at (d : Fin 1024) (e : Fin 1408) : k0_pay1 (F := Ideal) (ix4 0 0 d e) = 0 := by
  pointwise [k0_pay1]

/-- A load of a whole matrix. -/
theorem ld_mat {a b : ℕ} {e : EltTy} (arg : Memref sig .tc .vmem ⟨2, ![a, b]⟩ e) (harg : arg.IsWhole) (x : Vec Ideal ⟨2, ![a, b]⟩ e)
    (inb : ∀ d, (![0, 0] : Fin 2 → ℕ) d + (![a, b] : Fin 2 → ℕ) d ≤ (⟨2, ![a, b]⟩ : Shape).size d) :
    View.readAt (Elt Ideal) arg.view (Rect.unit (s := ⟨2, ![a, b]⟩) ![0, 0] ![a, b] inb).toLoadRect (harg.unread x) = x := by
  funext i
  refine (congrFun (harg.read_unread x) _).trans (congrArg x ?_)
  funext d; apply Fin.ext
  match d with
  | ⟨0, _⟩ => show 0 + 1 * (i 0).val = (i 0).val; omega
  | ⟨1, _⟩ => show 0 + 1 * (i 1).val = (i 1).val; omega

/-- A load of the whole block of the gradient. -/
theorem ld_acc (arg : Memref sig .tc .vmem S1x1x1024x1408 .f32) (harg : arg.IsWhole) (x : Vec Ideal S1x1x1024x1408 .f32)
    (inb : ∀ d, (![0, 0, 0, 0] : Fin 4 → ℕ) d + S1x1x1024x1408.size d ≤ S1x1x1024x1408.size d) :
    View.readAt (Elt Ideal) arg.view (Rect.unit (s := S1x1x1024x1408) ![0, 0, 0, 0] S1x1x1024x1408.size inb).toLoadRect (harg.unread x) = x := by
  funext i
  refine (congrFun (harg.read_unread x) _).trans (congrArg x ?_)
  funext d; apply Fin.ext
  match d with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

section
variable (c : Dev nD) (i : grid0.Coords) (a1 : Memref sig .tc .vmem S1024x1024 .bf16) (h1 : a1.IsWhole) (a2 : Memref sig .tc .vmem S1024x1408 .bf16)
  (h2 : a2.IsWhole) (a3 : Memref sig .tc .vmem S1x1x1024x1408 .f32) (h3 : a3.IsWhole)
  (x0 : Vec Ideal S1024x1024 .bf16) (x1 : Vec Ideal S1024x1408 .bf16) (p : Vec Ideal S1x1x1024x1408 .f32)

/-- A later point adds to its block. -/
theorem out_B (hc : ¬cond0_0 i) : out0_B_2 c i a1 h1 a2 h2 a3 h3 hc x0 x1 p = k0_pay2 p x0 x1 := by
  unfold out0_B_2
  rw [View.read_writes_eq_canon _ _ _ (cover0_B_2 c i a1 h1 a2 h2 a3 h3 hc x0 x1 p)]
  unfold kernelRun0_B
  dsimp only
  sl_unfold_words
  rw [View.canon_unit_zero hz4]
  exact congr (congrArg₂ k0_pay2 (ld_acc a3 h3 p _) (ld_mat a1 h1 x0 _)) (ld_mat a2 h2 x1 _)

/-- The first point of a block of columns starts from nothing. -/
theorem out_A (hc : cond0_0 i) : out0_A_2 c i a1 h1 a2 h2 a3 h3 hc x0 x1 = k0_pay2 (k0_pay1 (F := Ideal)) x0 x1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1x1024x1408) hz4, View.readCov_unit_zero (S := S1x1x1024x1408) _ hz4]
  exact congr (congrArg₂ k0_pay2 rfl (ld_mat a1 h1 x0 _)) (ld_mat a2 h2 x1 _)
end

/-! The launch. -/

variable (m : (ℓ : Loc nD τ sig) → Buf (Elt Ideal) ℓ) (c : Dev nD)

/-- The rows the weights multiply. -/
abbrev X0 : S16384x1024.Idx → EReal := m ((c : Thread nD τ).loc main_arg0)
/-- The gradient of the products. -/
abbrev X1 : S16384x2816.Idx → EReal := m ((c : Thread nD τ).loc main_arg1)

def W1 : FVec Ideal S16384x1024 .bf16 := V m c main_v1
def W2 : FVec Ideal S16384x2816 .bf16 := V m c main_v2
def W3 : FVec Ideal S4x1x1024x1408 .f32 := V m c main_v3

theorem W1_at (s : Fin 16384) (d : Fin 1024) : W1 m c (ix2 s d) = X0 m c (ix2 s d) := by
  unfold W1 V
  after_reads_simp
  pointwise
theorem W2_at (s : Fin 16384) (e : Fin 2816) : W2 m c (ix2 s e) = X1 m c (ix2 s e) := by
  unfold W2 V
  after_reads_simp
  pointwise
theorem W3_at (k : Fin 4) (d : Fin 1024) (e : Fin 1408) : W3 m c (ix4 k 0 d e) = 0 := by
  unfold W3 V
  after_reads_simp
  simp only [id]
  pointwise

theorem ix_0 : ∀ t : Fin cfg0.N, win0_0.index t = ![t.val % 16, 0] := (by decide +kernel : ∀ t : Fin grid0.N, _)
theorem ix_1 : ∀ t : Fin cfg0.N, win0_1.index t = ![t.val % 16, t.val / 16] := (by decide +kernel : ∀ t : Fin grid0.N, _)
theorem ix_2 : ∀ t : Fin cfg0.N, win0_2.index t = ![2 + t.val / 16, 0, 0, 0] := (by decide +kernel : ∀ t : Fin grid0.N, _)

theorem lt32 (t : Fin cfg0.N) : t.val < 32 := t.isLt

/-- Row `r` of point `t`. -/
def row (t : Fin cfg0.N) (r : Fin 1024) : Fin 16384 := ⟨1024 * (t.val % 16) + r.val, by omega⟩
/-- Column `e` of point `t`. -/
def col (t : Fin cfg0.N) (e : Fin 1408) : Fin 2816 := ⟨1408 * (t.val / 16) + e.val, by have := lt32 t; omega⟩

theorem blk_0 (t : Fin cfg0.N) (r : Fin 1024) (d : Fin 1024) : iblk m c 0 t (ix2 r d) = X0 m c (ix2 (row t r) d) := by
  refine Eq.trans ?_ (W1_at m c _ _)
  unfold W1 row
  blk_simp [iblk]
  congr 1
  blk_ext [ix_0 t]
theorem blk_1 (t : Fin cfg0.N) (r : Fin 1024) (e : Fin 1408) : iblk m c 1 t (ix2 r e) = X1 m c (ix2 (row t r) (col t e)) := by
  refine Eq.trans ?_ (W2_at m c _ _)
  unfold W2 row col
  blk_simp [iblk]
  congr 1
  blk_ext [ix_1 t]

theorem outs_A (t : Fin cfg0.N) (h : t.val % 16 = 0) :
    outsAt0 m c t.val t.isLt = k0_pay2 (k0_pay1 (F := Ideal)) (iblk m c 0 t) (iblk m c 1 t) := by
  simp only [outsAt0_A m c t h]
  rw [out_A]
theorem outs_B (t : Fin cfg0.N) (h : ¬ t.val % 16 = 0) :
    outsAt0 m c t.val t.isLt = k0_pay2 (outsAt0 m c (t.val - 1) (Nat.lt_of_le_of_lt (Nat.sub_le _ _) t.isLt)) (iblk m c 0 t) (iblk m c 1 t) := by
  simp only [outsAt0_B m c t h]
  rw [out_B]

/-- The term of token `s` in the gradient of the weight of row `d` and column `e` of the `j`-th block of columns. -/
def term (j : Fin 2) (d : Fin 1024) (e : Fin 1408) (s : Fin 16384) : EReal :=
  X0 m c (ix2 s d) * X1 m c (ix2 s ⟨1408 * j.val + e.val, by omega⟩)

/-- Point `t` adds the terms of its rows. -/
theorem adds (t : Fin cfg0.N) (p : Vec Ideal S1x1x1024x1408 .f32) (d : Fin 1024) (e : Fin 1408) :
    k0_pay2 p (iblk m c 0 t) (iblk m c 1 t) (ix4 0 0 d e)
      = p (ix4 0 0 d e) + ∑ r : Fin 1024, term m c ⟨t.val / 16, by have := lt32 t; omega⟩ d e (row t r) := by
  rw [adds_at]
  refine congrArg₂ (· + ·) rfl (Finset.sum_congr rfl fun r _ => ?_)
  exact congrArg₂ (· * ·) (blk_0 m c t r d) (blk_1 m c t r e)

/-- After point `n` its block has the tokens of the points of the block up to `n`. -/
theorem outs_at (d : Fin 1024) (e : Fin 1408) : ∀ (n : ℕ) (hn : n < cfg0.N),
    outsAt0 m c n hn (ix4 0 0 d e) = part (n % 16 + 1) (term m c ⟨n / 16, by have : n < 32 := hn; omega⟩ d e) := by
  intro n
  induction n with
  | zero =>
    intro hn
    rw [part_succ _ (by omega)]
    refine (congrFun (outs_A m c ⟨0, hn⟩ rfl) _).trans ((adds m c ⟨0, hn⟩ _ d e).trans (congrArg₂ (· + ·) ((clear_at d e).trans ?_) rfl))
    exact (part_zero _).symm
  | succ n ih =>
    intro hn
    have h32 : n + 1 < 32 := hn
    rw [part_succ _ (by omega)]
    by_cases h : (n + 1) % 16 = 0
    · refine (congrFun (outs_A m c ⟨n + 1, hn⟩ h) _).trans ((adds m c ⟨n + 1, hn⟩ _ d e).trans (congrArg₂ (· + ·) ((clear_at d e).trans ?_) rfl))
      rw [h]
      exact (part_zero _).symm
    · refine (congrFun (outs_B m c ⟨n + 1, hn⟩ h) _).trans ((adds m c ⟨n + 1, hn⟩ _ d e).trans (congrArg₂ (· + ·) ?_ rfl))
      refine (ih (Nat.lt_of_succ_lt hn)).trans ?_
      have e1 : n % 16 + 1 = (n + 1) % 16 := by omega
      have e2 : (⟨n / 16, by omega⟩ : Fin 2) = ⟨(n + 1) / 16, by omega⟩ := Fin.ext (show n / 16 = (n + 1) / 16 by omega)
      rw [e1, e2]

/-- An index of a point's block is a row and a column. -/
theorem idx_blk (z : S1x1x1024x1408.Idx) : ∃ (d : Fin 1024) (e : Fin 1408), z = ix4 0 0 d e :=
  ⟨⟨(z 2).val, (z 2).isLt⟩, ⟨(z 3).val, (z 3).isLt⟩, by
    funext a; apply Fin.ext
    match a with
    | ⟨0, _⟩ => have h : (z 0).val < 1 := (z 0).isLt; show (z 0).val = 0; omega
    | ⟨1, _⟩ => have h : (z 1).val < 1 := (z 1).isLt; show (z 1).val = 0; omega
    | ⟨2, _⟩ => rfl
    | ⟨3, _⟩ => rfl⟩

/-- The entry of the result. -/
def entry (k : Fin 4) (d : Fin 1024) (e : Fin 1408) : EReal :=
  if h : 2 ≤ k.val ∧ k.val < 2 + 2 then ∑ s, term m c ⟨k.val - 2, by omega⟩ d e s else 0

/-- The result. -/
def R : S4x1x1024x1408.Idx → EReal := fun i => entry m c ⟨(i 0).val, (i 0).isLt⟩ ⟨(i 2).val, (i 2).isLt⟩ ⟨(i 3).val, (i 3).isLt⟩

theorem final : (dats m 0 c).arrAt 2 cfg0.N = R m c := by
  refine (dats m 0 c).arrAt_eq_of_coversWhere_of_agree 2 _ (fun β => 2 ≤ β 0 ∧ β 0 < 2 + 2) (by decide +kernel) (fun t hf z => ?_) (fun j hj => ?_)
  · blk_simp
    rw [after0_2]
    have ht := (flush0_2 t).1 hf
    have h32 := lt32 t
    obtain ⟨d, e, rfl⟩ := idx_blk z
    refine (outs_at m c d e t.val t.isLt).trans ?_
    rw [ht, part_all]
    unfold R
    have e0 : (⟨((win0_2.blk t).view.emb (ix4 0 0 d e) 0).val, ((win0_2.blk t).view.emb (ix4 0 0 d e) 0).isLt⟩ : Fin 4) = ⟨2 + t.val / 16, by omega⟩ := by
      apply Fin.ext
      blk_simp [ix_2 t]
      rfl
    have e2 : (⟨((win0_2.blk t).view.emb (ix4 0 0 d e) 2).val, ((win0_2.blk t).view.emb (ix4 0 0 d e) 2).isLt⟩ : Fin 1024) = d := by
      apply Fin.ext
      blk_simp [ix_2 t]
    have e3 : (⟨((win0_2.blk t).view.emb (ix4 0 0 d e) 3).val, ((win0_2.blk t).view.emb (ix4 0 0 d e) 3).isLt⟩ : Fin 1408) = e := by
      apply Fin.ext
      blk_simp [ix_2 t]
    refine Eq.trans ?_ (congr (congr (congrArg (entry m c) e0) e2) e3).symm
    unfold entry
    rw [dif_pos (show 2 ≤ 2 + t.val / 16 ∧ 2 + t.val / 16 < 2 + 2 by omega)]
    refine Finset.sum_congr rfl fun s _ => ?_
    exact congrArg (fun k => term m c k d e s) (Fin.ext (show t.val / 16 = 2 + t.val / 16 - 2 by omega))
  · have h0 : (cfg0.win 2).cell j 0 = (j 0).val := Nat.div_one _
    rw [h0] at hj
    refine Eq.trans ?_ (dif_neg hj).symm
    have hz : (j 1).val < 1 := (j 1).isLt
    have hj' : j = ix4 ⟨(j 0).val, (j 0).isLt⟩ 0 ⟨(j 2).val, (j 2).isLt⟩ ⟨(j 3).val, (j 3).isLt⟩ := by
      funext a; apply Fin.ext
      match a with
      | ⟨0, _⟩ => rfl
      | ⟨1, _⟩ => show (j 1).val = 0; omega
      | ⟨2, _⟩ => rfl
      | ⟨3, _⟩ => rfl
    refine (congrFun (A_eq m c 2) _).trans ?_
    refine Eq.trans ?_ (W3_at m c ⟨(j 0).val, (j 0).isLt⟩ ⟨(j 2).val, (j 2).isLt⟩ ⟨(j 3).val, (j 3).isLt⟩)
    exact congrArg (W3 m c) hj'

end Cert.Kernel4Ideal.Wgt

end
-- ==== Proof.WgtD.lean ====
module

public import proofs.«01_k».proof.Proof.Gen.Kernel5Ideal.Frame
public import proofs.«01_k».proof.Proof.WgtSpec
public import Idealize.ShloMosaic.Lib.Pipeline.ValueKit
public import Idealize.ShloMosaic.Lib.StableHlo.RunRead
public import Idealize.ShloMosaic.Lib.Tactic.CleanTypes

/-!
The gradient of the weights of the last product, entry by entry: what the launch finds, what each grid point adds to its two blocks of rows,
and the array after the last point.
-/

@[expose] public section

set_option maxRecDepth 16384
set_option maxHeartbeats 1000000

noncomputable section

namespace Cert.Kernel5Ideal.Wgt

open Idealize.ShloMosaic Idealize.ShloMosaic.TcCoe Idealize.ShloMosaic.Tactic
open Idealize.SL.Sem
open Cert.Kernel5Ideal.Gen Cert.Attn Cert.Wgt

theorem hz4 : (![0, 0, 0, 0] : Fin 4 → ℕ) = fun _ => 0 := funext fun a => by fin_cases a <;> rfl

/-! One grid point. -/

/-- The first block of rows. -/
theorem adds0_at (p : Vec Ideal S1x1x704x1024 .f32) (x : Vec Ideal S1024x1408 .bf16) (y : Vec Ideal S1024x1024 .f32) (e : Fin 704) (d : Fin 1024) :
    k0_pay3 x y p (ix4 0 0 e d) = p (ix4 0 0 e d) + (∑ r : Fin 1024, x (ix2 r ⟨e.val, by omega⟩) * y (ix2 r d)) * half := by
  pointwise [k0_pay3, k0_pay2]
  rfl

/-- The second block of rows. -/
theorem adds1_at (p : Vec Ideal S1x1x704x1024 .f32) (x : Vec Ideal S1024x1408 .bf16) (y : Vec Ideal S1024x1024 .f32) (e : Fin 704) (d : Fin 1024) :
    k0_pay4 x y p (ix4 0 0 e d) = p (ix4 0 0 e d) + (∑ r : Fin 1024, x (ix2 r ⟨704 + e.val, by omega⟩) * y (ix2 r d)) * half := by
  pointwise [k0_pay4, k0_pay2]
  rfl

theorem clear_at (k : Fin 2) (e : Fin 704) (d : Fin 1024) : k0_pay1 (F := Ideal) (ix4 k 0 e d) = 0 := by
  pointwise [k0_pay1]

/-- A load of a whole matrix. -/
theorem ld_mat {a b : ℕ} {e : EltTy} (arg : Memref sig .tc .vmem ⟨2, ![a, b]⟩ e) (harg : arg.IsWhole) (x : Vec Ideal ⟨2, ![a, b]⟩ e)
    (inb : ∀ d, (![0, 0] : Fin 2 → ℕ) d + (![a, b] : Fin 2 → ℕ) d ≤ (⟨2, ![a, b]⟩ : Shape).size d) :
    View.readAt (Elt Ideal) arg.view (Rect.unit (s := ⟨2, ![a, b]⟩) ![0, 0] ![a, b] inb).toLoadRect (harg.unread x) = x := by
  funext i
  refine (congrFun (harg.read_unread x) _).trans (congrArg x ?_)
  funext d; apply Fin.ext
  match d with
  | ⟨0, _⟩ => show 0 + 1 * (i 0).val = (i 0).val; omega
  | ⟨1, _⟩ => show 0 + 1 * (i 1).val = (i 1).val; omega

/-- The first and the second half of a point's block. -/
abbrev h0 : Rect S2x1x704x1024 := Rect.unit (s := S2x1x704x1024) ![0, 0, 0, 0] S1x1x704x1024.size inb_S2x1x704x1024_S1x1x704x1024_0_0_0_0
abbrev h1 : Rect S2x1x704x1024 := Rect.unit (s := S2x1x704x1024) ![1, 0, 0, 0] S1x1x704x1024.size inb_S2x1x704x1024_S1x1x704x1024_1_0_0_0

theorem emb0 (e : Fin 704) (d : Fin 1024) : h0.emb (ix4 0 0 e d) = ix4 0 0 e d := by
  funext a; apply Fin.ext
  match a with
  | ⟨0, _⟩ => rfl
  | ⟨1, _⟩ => rfl
  | ⟨2, _⟩ => show 0 + 1 * e.val = e.val; omega
  | ⟨3, _⟩ => show 0 + 1 * d.val = d.val; omega
theorem emb1 (e : Fin 704) (d : Fin 1024) : h1.emb (ix4 0 0 e d) = ix4 1 0 e d := by
  funext a; apply Fin.ext
  match a with
  | ⟨0, _⟩ => rfl
  | ⟨1, _⟩ => rfl
  | ⟨2, _⟩ => show 0 + 1 * e.val = e.val; omega
  | ⟨3, _⟩ => show 0 + 1 * d.val = d.val; omega

theorem out0 (e : Fin 704) (d : Fin 1024) : (ix4 1 0 e d : S2x1x704x1024.Idx) ∉ h0.set := fun h => by
  obtain ⟨x, hx⟩ := h0.exists_idx_of_mem h
  have h1 : 0 + 1 * (x 0).val = 1 := congrArg (fun i : S2x1x704x1024.Idx => (i 0).val) hx
  have h2 : (x 0).val < 1 := (x 0).isLt
  omega
theorem out1 (e : Fin 704) (d : Fin 1024) : (ix4 0 0 e d : S2x1x704x1024.Idx) ∉ h1.set := fun h => by
  obtain ⟨x, hx⟩ := h1.exists_idx_of_mem h
  have h1 : 1 + 1 * (x 0).val = 0 := congrArg (fun i : S2x1x704x1024.Idx => (i 0).val) hx
  omega

/-- What the stores of the two halves leave. -/
theorem two_0 (w0 w1 : Vec Ideal S1x1x704x1024 .f32) (L : List (View.Piece (Elt Ideal) S2x1x704x1024 .f32)) (e : Fin 704) (d : Fin 1024) :
    View.canon (⟨h1, w1⟩ :: ⟨h0, w0⟩ :: L) (ix4 0 0 e d) = w0 (ix4 0 0 e d) := by
  refine (View.canon_cons_of_not_mem (⟨h1, w1⟩ : View.Piece (Elt Ideal) S2x1x704x1024 .f32) (⟨h0, w0⟩ :: L) (y := ix4 0 0 e d) (out1 e d)).trans ?_
  exact (congrArg (View.canon (⟨h0, w0⟩ :: L)) (emb0 e d).symm).trans (View.canon_cons_emb h0 w0 L (ix4 0 0 e d))
/-- Off the first half, what was there before. -/
theorem off_0 (w0 : Vec Ideal S1x1x704x1024 .f32) (L : List (View.Piece (Elt Ideal) S2x1x704x1024 .f32)) (e : Fin 704) (d : Fin 1024) :
    View.canon (⟨h0, w0⟩ :: L) (ix4 1 0 e d) = View.canon L (ix4 1 0 e d) :=
  View.canon_cons_of_not_mem (⟨h0, w0⟩ : View.Piece (Elt Ideal) S2x1x704x1024 .f32) L (y := ix4 1 0 e d) (out0 e d)
theorem two_1 (w1 : Vec Ideal S1x1x704x1024 .f32) (L : List (View.Piece (Elt Ideal) S2x1x704x1024 .f32)) (e : Fin 704) (d : Fin 1024) :
    View.canon (⟨h1, w1⟩ :: L) (ix4 1 0 e d) = w1 (ix4 0 0 e d) :=
  (congrArg (View.canon (⟨h1, w1⟩ :: L)) (emb1 e d).symm).trans (View.canon_cons_emb h1 w1 L (ix4 0 0 e d))

/-- The columns of half `k` of a point's block. -/
def colk (k : Fin 2) (e : Fin 704) : Fin 1408 := ⟨704 * k.val + e.val, by omega⟩

section
variable (c : Dev nD) (i : grid0.Coords) (a1 : Memref sig .tc .vmem S1024x1408 .bf16) (w1 : a1.IsWhole) (a2 : Memref sig .tc .vmem S1024x1024 .f32)
  (w2 : a2.IsWhole) (a3 : Memref sig .tc .vmem S2x1x704x1024 .f32) (w3 : a3.IsWhole)
  (x0 : Vec Ideal S1024x1408 .bf16) (x1 : Vec Ideal S1024x1024 .f32) (p : Vec Ideal S2x1x704x1024 .f32)

/-- A later point adds to its block. -/
theorem out_B (hc : ¬cond0_0 i) (k : Fin 2) (e : Fin 704) (d : Fin 1024) :
    out0_B_2 c i a1 w1 a2 w2 a3 w3 hc x0 x1 p (ix4 k 0 e d) = p (ix4 k 0 e d) + (∑ r : Fin 1024, x0 (ix2 r (colk k e)) * x1 (ix2 r d)) * half := by
  unfold out0_B_2
  rw [View.read_writes_eq_canon _ _ _ (cover0_B_2 c i a1 w1 a2 w2 a3 w3 hc x0 x1 p)]
  unfold kernelRun0_B
  dsimp only
  sl_unfold_words
  match k with
  | 0 =>
    refine (two_0 _ _ _ e d).trans ?_
    refine (congrFun (congr (congrArg₂ k0_pay3 (ld_mat a1 w1 x0 _) (ld_mat a2 w2 x1 _)) rfl) _).trans ((adds0_at _ x0 x1 e d).trans (congrArg₂ (· + ·) ?_ ?_))
    · exact (congrFun (w3.read_unread p) _).trans (congrArg p (emb0 e d))
    · refine congrArg (· * half) (Finset.sum_congr rfl fun r _ => congrArg (x0 · * _) (congrArg (ix2 r) (Fin.ext ?_)))
      show e.val = 704 * 0 + e.val; omega
  | 1 =>
    refine (two_1 _ _ e d).trans ?_
    refine (congrFun (congr (congrArg₂ k0_pay4 (ld_mat a1 w1 x0 _) (ld_mat a2 w2 x1 _)) rfl) _).trans ((adds1_at _ x0 x1 e d).trans (congrArg₂ (· + ·) ?_ rfl))
    exact (congrFun (w3.read_unread p) _).trans (congrArg p (emb1 e d))

/-- The first point of a block of rows starts from nothing. -/
theorem out_A (hc : cond0_0 i) (k : Fin 2) (e : Fin 704) (d : Fin 1024) :
    out0_A_2 c i a1 w1 a2 w2 a3 w3 hc x0 x1 (ix4 k 0 e d) = (∑ r : Fin 1024, x0 (ix2 r (colk k e)) * x1 (ix2 r d)) * half := by
  unfold out0_A_2
  rw [View.read_writes_eq_canon _ _ _ (cover0_A_2 c i a1 w1 a2 w2 a3 w3 hc x0 x1)]
  unfold kernelRun0_A
  dsimp only
  sl_unfold_words
  match k with
  | 0 =>
    refine (two_0 _ _ _ e d).trans ?_
    refine (congrFun (congr (congrArg₂ k0_pay3 (ld_mat a1 w1 x0 _) (ld_mat a2 w2 x1 _)) rfl) _).trans ((adds0_at _ x0 x1 e d).trans ?_)
    refine (congrArg₂ (· + ·) ?_ ?_).trans (zero_add _)
    · rw [View.readCov_eq_canon', View.canon_unit_zero (S := S2x1x704x1024) hz4]
      exact (congrArg (k0_pay1 (F := Ideal)) (emb0 e d)).trans (clear_at 0 e d)
    · refine congrArg (· * half) (Finset.sum_congr rfl fun r _ => congrArg (x0 · * _) (congrArg (ix2 r) (Fin.ext ?_)))
      show e.val = 704 * 0 + e.val; omega
  | 1 =>
    refine (two_1 _ _ e d).trans ?_
    refine (congrFun (congr (congrArg₂ k0_pay4 (ld_mat a1 w1 x0 _) (ld_mat a2 w2 x1 _)) rfl) _).trans ((adds1_at _ x0 x1 e d).trans ?_)
    refine (congrArg₂ (· + ·) ?_ rfl).trans (zero_add _)
    rw [View.readCov_eq_canon']
    refine (congrArg (View.canon _) (emb1 e d)).trans ?_
    refine (off_0 _ _ e d).trans ?_
    rw [View.canon_unit_zero (S := S2x1x704x1024) hz4]
    exact clear_at 1 e d
end

/-! The launch. -/

variable (m : (ℓ : Loc nD τ sig) → Buf (Elt Ideal) ℓ) (c : Dev nD)

/-- The rows the weights multiply. -/
abbrev X0 : S16384x2816.Idx → EReal := m ((c : Thread nD τ).loc main_arg0)
/-- The gradient of the halved products. -/
abbrev X1 : S16384x1024.Idx → EReal := m ((c : Thread nD τ).loc main_arg1)

def W1 : FVec Ideal S16384x2816 .bf16 := V m c main_v1

theorem W1_at (s : Fin 16384) (e : Fin 2816) : W1 m c (ix2 s e) = X0 m c (ix2 s e) := by
  unfold W1 V
  after_reads_simp
  pointwise

theorem ix_0 : ∀ t : Fin cfg0.N, win0_0.index t = ![t.val % 16, t.val / 16] := (by decide +kernel : ∀ t : Fin grid0.N, _)
theorem ix_1 : ∀ t : Fin cfg0.N, win0_1.index t = ![t.val % 16, 0] := (by decide +kernel : ∀ t : Fin grid0.N, _)
theorem ix_2 : ∀ t : Fin cfg0.N, win0_2.index t = ![t.val / 16, 0, 0, 0] := (by decide +kernel : ∀ t : Fin grid0.N, _)

theorem lt32 (t : Fin cfg0.N) : t.val < 32 := t.isLt

/-- Row `r` of point `t`. -/
def row (t : Fin cfg0.N) (r : Fin 1024) : Fin 16384 := ⟨1024 * (t.val % 16) + r.val, by omega⟩
/-- Column `e` of point `t`. -/
def col (t : Fin cfg0.N) (e : Fin 1408) : Fin 2816 := ⟨1408 * (t.val / 16) + e.val, by have := lt32 t; omega⟩

theorem blk_0 (t : Fin cfg0.N) (r : Fin 1024) (e : Fin 1408) : iblk m c 0 t (ix2 r e) = X0 m c (ix2 (row t r) (col t e)) := by
  refine Eq.trans ?_ (W1_at m c _ _)
  unfold W1 row col
  blk_simp [iblk]
  congr 1
  blk_ext [ix_0 t]
theorem blk_1 (t : Fin cfg0.N) (r : Fin 1024) (d : Fin 1024) : iblk m c 1 t (ix2 r d) = X1 m c (ix2 (row t r) d) := by
  unfold row
  refine Eq.trans ?_ (congrFun (V_main_arg1 m c) _)
  blk_simp [iblk]
  congr 1
  blk_ext [ix_1 t]

/-- The term of token `s` in the gradient of the weight of row `e` of the `k`-th block of rows and column `d`. -/
def term (k : Fin 4) (e : Fin 704) (d : Fin 1024) (s : Fin 16384) : EReal :=
  X0 m c (ix2 s ⟨704 * k.val + e.val, by omega⟩) * X1 m c (ix2 s d) * half

/-- Half `k` of the block of rows after `j`. -/
def blkk (j : ℕ) (hj : j < 2) (k : Fin 2) : Fin 4 := ⟨2 * j + k.val, by omega⟩

/-- The blocks point `t` reads. -/
abbrev B0 (t : Fin cfg0.N) : Vec Ideal S1024x1408 .bf16 := iblk m c 0 t
abbrev B1 (t : Fin cfg0.N) : Vec Ideal S1024x1024 .f32 := iblk m c 1 t

/-- What point `t` adds. -/
theorem adds (t : Fin cfg0.N) (k : Fin 2) (e : Fin 704) (d : Fin 1024) :
    (∑ r : Fin 1024, B0 m c t (ix2 r (colk k e)) * B1 m c t (ix2 r d)) * half
      = ∑ r : Fin 1024, term m c (blkk (t.val / 16) (by have := lt32 t; omega) k) e d (row t r) := by
  rw [sum_half]
  refine Finset.sum_congr rfl fun r _ => congrArg (· * half) (congrArg₂ (· * ·) ?_ (blk_1 m c t r d))
  refine (blk_0 m c t r (colk k e)).trans (congrArg (X0 m c) (congrArg (ix2 (row t r)) (Fin.ext ?_)))
  show 1408 * (t.val / 16) + (704 * k.val + e.val) = 704 * (2 * (t.val / 16) + k.val) + e.val
  omega

theorem outs_A (t : Fin cfg0.N) (h : t.val % 16 = 0) (k : Fin 2) (e : Fin 704) (d : Fin 1024) :
    outsAt0 m c t.val t.isLt (ix4 k 0 e d) = ∑ r : Fin 1024, term m c (blkk (t.val / 16) (by have := lt32 t; omega) k) e d (row t r) := by
  rw [← adds]
  simp only [outsAt0_A m c t h]
  rw [out_A]
theorem outs_B (t : Fin cfg0.N) (h : ¬ t.val % 16 = 0) (k : Fin 2) (e : Fin 704) (d : Fin 1024) :
    outsAt0 m c t.val t.isLt (ix4 k 0 e d) = outsAt0 m c (t.val - 1) (Nat.lt_of_le_of_lt (Nat.sub_le _ _) t.isLt) (ix4 k 0 e d)
      + ∑ r : Fin 1024, term m c (blkk (t.val / 16) (by have := lt32 t; omega) k) e d (row t r) := by
  rw [← adds]
  simp only [outsAt0_B m c t h]
  rw [out_B]

/-- After point `n` its block has the tokens of the points of the block up to `n`. -/
theorem outs_at (k : Fin 2) (e : Fin 704) (d : Fin 1024) : ∀ (n : ℕ) (hn : n < cfg0.N),
    outsAt0 m c n hn (ix4 k 0 e d) = part (n % 16 + 1) (term m c (blkk (n / 16) (by have : n < 32 := hn; omega) k) e d) := by
  intro n
  induction n with
  | zero =>
    intro hn
    rw [part_succ _ (by omega)]
    refine (outs_A m c ⟨0, hn⟩ rfl k e d).trans ((zero_add _).symm.trans (congrArg₂ (· + ·) ?_ rfl))
    exact (part_zero _).symm
  | succ n ih =>
    intro hn
    have h32 : n + 1 < 32 := hn
    rw [part_succ _ (by omega)]
    by_cases h : (n + 1) % 16 = 0
    · refine (outs_A m c ⟨n + 1, hn⟩ h k e d).trans ((zero_add _).symm.trans (congrArg₂ (· + ·) ?_ rfl))
      rw [h]
      exact (part_zero _).symm
    · refine (outs_B m c ⟨n + 1, hn⟩ h k e d).trans (congrArg₂ (· + ·) ?_ rfl)
      refine (ih (Nat.lt_of_succ_lt hn)).trans ?_
      have e1 : n % 16 + 1 = (n + 1) % 16 := by omega
      have e2 : blkk (n / 16) (by omega) k = blkk ((n + 1) / 16) (by omega) k := Fin.ext (show 2 * (n / 16) + k.val = 2 * ((n + 1) / 16) + k.val by omega)
      rw [e1, e2]

/-- An index of a point's block is a half, a row and a column. -/
theorem idx_blk (z : S2x1x704x1024.Idx) : ∃ (k : Fin 2) (e : Fin 704) (d : Fin 1024), z = ix4 k 0 e d :=
  ⟨⟨(z 0).val, (z 0).isLt⟩, ⟨(z 2).val, (z 2).isLt⟩, ⟨(z 3).val, (z 3).isLt⟩, by
    funext a; apply Fin.ext
    match a with
    | ⟨0, _⟩ => rfl
    | ⟨1, _⟩ => have h : (z 1).val < 1 := (z 1).isLt; show (z 1).val = 0; omega
    | ⟨2, _⟩ => rfl
    | ⟨3, _⟩ => rfl⟩

/-- The entry of the result. -/
def entry (k : Fin 4) (e : Fin 704) (d : Fin 1024) : EReal := ∑ s, term m c k e d s

/-- The result. -/
def R : S4x1x704x1024.Idx → EReal := fun i => entry m c ⟨(i 0).val, (i 0).isLt⟩ ⟨(i 2).val, (i 2).isLt⟩ ⟨(i 3).val, (i 3).isLt⟩

theorem final : (dats m 0 c).arrAt 2 cfg0.N = R m c := by
  refine (dats m 0 c).arrAt_eq_of_covers 2 _ (by decide +kernel) fun t hf z => ?_
  blk_simp
  rw [after0_2]
  have ht := (flush0_2 t).1 hf
  have h32 := lt32 t
  obtain ⟨k, e, d, rfl⟩ := idx_blk z
  refine (outs_at m c k e d t.val t.isLt).trans ?_
  rw [ht, part_all]
  unfold R
  have e0 : (⟨((win0_2.blk t).view.emb (ix4 k 0 e d) 0).val, ((win0_2.blk t).view.emb (ix4 k 0 e d) 0).isLt⟩ : Fin 4) = blkk (t.val / 16) (by omega) k := by
    apply Fin.ext
    blk_simp [ix_2 t]
    show t.val / 16 * 2 + k.val = 2 * (t.val / 16) + k.val
    omega
  have e2 : (⟨((win0_2.blk t).view.emb (ix4 k 0 e d) 2).val, ((win0_2.blk t).view.emb (ix4 k 0 e d) 2).isLt⟩ : Fin 704) = e := by
    apply Fin.ext
    blk_simp [ix_2 t]
  have e3 : (⟨((win0_2.blk t).view.emb (ix4 k 0 e d) 3).val, ((win0_2.blk t).view.emb (ix4 k 0 e d) 3).isLt⟩ : Fin 1024) = d := by
    apply Fin.ext
    blk_simp [ix_2 t]
  exact (congr (congr (congrArg (entry m c) e0) e2) e3).symm

end Cert.Kernel5Ideal.Wgt

end
-- ==== Proof.WgtRefG.lean ====
module

public import proofs.«01_k».proof.Proof.WgtSpec
public import proofs.«01_k».proof.Proof.Gen.Reference3Ideal.Read
public import Idealize.ShloMosaic.Lib.KernelVsHost
public import Idealize.ShloMosaic.Lib.Tactic.CleanTypes

/-!
The reference's gradient of the weights of the gate, entry by entry.
-/

@[expose] public section

set_option maxRecDepth 16384
set_option maxHeartbeats 1000000

noncomputable section

namespace Cert.Reference3Ideal.Wgt

open Idealize.ShloMosaic Idealize.ShloMosaic.TcCoe Idealize.ShloMosaic.Tactic
open Cert.Reference3Ideal Cert.Reference3Ideal.Gen Cert.Reference3Ideal.Read Cert.Attn Cert.Wgt

variable (x0 : FVec Ideal S16384x1024 .f32) (x1 : FVec Ideal S16384x2816 .f32)

/-- The two blocks of columns. -/
theorem v10_at (k : Fin 2) (d : Fin 1024) (e : Fin 1408) : (val_main_v10 (F := Ideal) x0 x1) (ix4 k 0 d e)
    = ∑ s, x0 (ix2 s d) * x1 (ix2 s ⟨1408 * k.val + e.val, by omega⟩) := by
  unfold val_main_v10 val_main_v9 val_main_v8 val_main_v7 val_main_v6
  pointwise
  refine Finset.sum_congr rfl fun s _ => ?_
  rw [mul_comm]
  refine congrArg (x0 (ix2 s d) * ·) (congrArg x1 (congrArg (ix2 s) (Fin.ext ?_)))
  show k.val * 1408 + e.val = 1408 * k.val + e.val
  omega

/-- The whole result: nothing in the other blocks. -/
theorem v11_at (k : Fin 4) (d : Fin 1024) (e : Fin 1408) : (val_main_v11 (F := Ideal) x0 x1) (ix4 k 0 d e)
    = if h : 0 ≤ k.val ∧ k.val < 0 + 2 then ∑ s, x0 (ix2 s d) * x1 (ix2 s ⟨1408 * (k.val - 0) + e.val, by omega⟩) else 0 := by
  unfold val_main_v11
  split
  · rename_i h
    refine (pad_apply_of_inside _ _ _ _ _ _ _ _ (ix4 (⟨k.val - 0, by omega⟩ : Fin 2) 0 d e) fun a => ?_).trans (v10_at x0 x1 _ d e)
    match a with
    | ⟨0, _⟩ => show k.val = 0 + (k.val - 0) * 1; omega
    | ⟨1, _⟩ => rfl
    | ⟨2, _⟩ => show d.val = 0 + d.val * 1; omega
    | ⟨3, _⟩ => show e.val = 0 + e.val * 1; omega
  · rename_i h
    refine (pad_apply_of_not_inside _ _ _ _ _ _ _ _ (0 : Fin 4) fun hh => h ?_).trans ?_
    · obtain ⟨q1, -, q2⟩ := hh
      change 0 ≤ k.val at q1
      change (k.val - 0) / (0 + 1) < 2 at q2
      omega
    · show Ideal.ofBits .f32 0x00000000#32 = 0
      exact Ideal.ofBits_zero_f32

end Cert.Reference3Ideal.Wgt

end
-- ==== Proof.WgtRefU.lean ====
module

public import proofs.«01_k».proof.Proof.WgtSpec
public import proofs.«01_k».proof.Proof.Gen.Reference4Ideal.Read
public import Idealize.ShloMosaic.Lib.KernelVsHost
public import Idealize.ShloMosaic.Lib.Tactic.CleanTypes

/-!
The reference's gradient of the weights of the gate's other factor, entry by entry.
-/

@[expose] public section

set_option maxRecDepth 16384
set_option maxHeartbeats 1000000

noncomputable section

namespace Cert.Reference4Ideal.Wgt

open Idealize.ShloMosaic Idealize.ShloMosaic.TcCoe Idealize.ShloMosaic.Tactic
open Cert.Reference4Ideal Cert.Reference4Ideal.Gen Cert.Reference4Ideal.Read Cert.Attn Cert.Wgt

variable (x0 : FVec Ideal S16384x1024 .f32) (x1 : FVec Ideal S16384x2816 .f32)

/-- The two blocks of columns. -/
theorem v10_at (k : Fin 2) (d : Fin 1024) (e : Fin 1408) : (val_main_v10 (F := Ideal) x0 x1) (ix4 k 0 d e)
    = ∑ s, x0 (ix2 s d) * x1 (ix2 s ⟨1408 * k.val + e.val, by omega⟩) := by
  unfold val_main_v10 val_main_v9 val_main_v8 val_main_v7 val_main_v6
  pointwise
  refine Finset.sum_congr rfl fun s _ => ?_
  rw [mul_comm]
  refine congrArg (x0 (ix2 s d) * ·) (congrArg x1 (congrArg (ix2 s) (Fin.ext ?_)))
  show k.val * 1408 + e.val = 1408 * k.val + e.val
  omega

/-- The whole result: nothing in the other blocks. -/
theorem v11_at (k : Fin 4) (d : Fin 1024) (e : Fin 1408) : (val_main_v11 (F := Ideal) x0 x1) (ix4 k 0 d e)
    = if h : 2 ≤ k.val ∧ k.val < 2 + 2 then ∑ s, x0 (ix2 s d) * x1 (ix2 s ⟨1408 * (k.val - 2) + e.val, by omega⟩) else 0 := by
  unfold val_main_v11
  split
  · rename_i h
    refine (pad_apply_of_inside _ _ _ _ _ _ _ _ (ix4 (⟨k.val - 2, by omega⟩ : Fin 2) 0 d e) fun a => ?_).trans (v10_at x0 x1 _ d e)
    match a with
    | ⟨0, _⟩ => show k.val = 2 + (k.val - 2) * 1; omega
    | ⟨1, _⟩ => rfl
    | ⟨2, _⟩ => show d.val = 0 + d.val * 1; omega
    | ⟨3, _⟩ => show e.val = 0 + e.val * 1; omega
  · rename_i h
    refine (pad_apply_of_not_inside _ _ _ _ _ _ _ _ (0 : Fin 4) fun hh => h ?_).trans ?_
    · obtain ⟨q1, -, q2⟩ := hh
      change 2 ≤ k.val at q1
      change (k.val - 2) / (0 + 1) < 2 at q2
      omega
    · show Ideal.ofBits .f32 0x00000000#32 = 0
      exact Ideal.ofBits_zero_f32

end Cert.Reference4Ideal.Wgt

end
-- ==== Proof.WgtRefD.lean ====
module

public import proofs.«01_k».proof.Proof.WgtSpec
public import proofs.«01_k».proof.Proof.Gen.Reference5Ideal.Read
public import Idealize.ShloMosaic.Lib.Tactic.CleanTypes

/-!
The reference's gradient of the weights of the last product, entry by entry.
-/

@[expose] public section

set_option maxRecDepth 16384
set_option maxHeartbeats 1000000

noncomputable section

namespace Cert.Reference5Ideal.Wgt

open Idealize.ShloMosaic Idealize.ShloMosaic.TcCoe Idealize.ShloMosaic.Tactic
open Cert.Reference5Ideal Cert.Reference5Ideal.Gen Cert.Reference5Ideal.Read Cert.Attn Cert.Wgt

variable (x0 : FVec Ideal S16384x2816 .f32) (x1 : FVec Ideal S16384x1024 .f32)

/-- An entry of the result. -/
theorem v9_at (k : Fin 4) (e : Fin 704) (d : Fin 1024) : (val_main_v9 (F := Ideal) x0 x1) (ix4 k 0 e d)
    = ∑ s, x0 (ix2 s ⟨704 * k.val + e.val, by omega⟩) * x1 (ix2 s d) * half := by
  unfold val_main_v9 val_main_v8 val_main_v7 val_main_v6 val_main_v5 val_main_cst_1
  pointwise
  refine Finset.sum_congr rfl fun s _ => ?_
  have hx : (⟨k.val * 704 + e.val, by omega⟩ : Fin 2816) = ⟨704 * k.val + e.val, by omega⟩ := Fin.ext (by show k.val * 704 + e.val = 704 * k.val + e.val; omega)
  refine Eq.trans ?_ (congrArg (fun q => x0 (ix2 s q) * x1 (ix2 s d) * half) hx)
  show half * x1 (ix2 s d) * x0 _ = _
  rw [mul_comm, mul_comm half, ← mul_assoc]

end Cert.Reference5Ideal.Wgt

end
-- ==== Proof.lean ====
/-
The claims about the backward pass of the attention, of a feed-forward layer's rows and of its weights.

The statement is in proof/Defs.lean.  Of the attention the programs are in proof/Kernel.lean, proof/KernelIdeal.lean,
proof/ReferenceIdeal.lean:

  frame of the kernel at bits         Proof/Word.lean and the two modules it imports: the body runs at every grid point,
                                      whatever the outputs hold; so the launch runs and leaves the arguments alone
  frame of the kernel at extended     Proof/Run.lean: the launch, with every output named
  reals
  frame of the reference              a program of host operations: its generated run
  the two are the same function       Proof/Spec.lean .. Proof/Run.lean give what the kernel's arrays hold, Proof/Host.lean what
                                      it is launched on, Proof/Tail.lean what its results are; Proof/Ref.lean the reference's
                                      results; both are the real numbers of Proof/Real.lean

Of the rows of a feed-forward layer they are in proof/Kernel2.lean, proof/Kernel2Ideal.lean, proof/Reference2Ideal.lean:

  the three frames                    generated
  the two are the same function       Proof/NormSpec.lean says what both compute, Proof/NormTile.lean and Proof/NormArr.lean
                                      that the kernel does, Proof/NormRef.lean that the reference does

Of the gradients of the layer's weights (the gate's, those of its other factor, those of the last product) they are in
proof/Kernel3.lean, proof/Kernel4.lean, proof/Kernel5.lean and the like:

  the three frames                    generated
  the two are the same function       Proof/WgtG.lean, Proof/WgtU.lean, Proof/WgtD.lean say what the kernels compute, a sum over
                                      all the tokens; Proof/WgtRefG.lean, Proof/WgtRefU.lean, Proof/WgtRefD.lean that the
                                      references do
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite
public import proofs.«01_k».proof.Proof.Word
public import proofs.«01_k».proof.Proof.Tail
public import proofs.«01_k».proof.Proof.Ref
public import proofs.«01_k».proof.Proof.Inputs
public import proofs.«01_k».proof.Proof.NormArr
public import proofs.«01_k».proof.Proof.NormRef
public import proofs.«01_k».proof.Proof.WgtG
public import proofs.«01_k».proof.Proof.WgtU
public import proofs.«01_k».proof.Proof.WgtD
public import proofs.«01_k».proof.Proof.WgtRefG
public import proofs.«01_k».proof.Proof.WgtRefU
public import proofs.«01_k».proof.Proof.WgtRefD
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Attn

/-- An array over three axes is known by its entries. -/
theorem ext3 {a b c : ℕ} {f g : FVec Ideal ⟨3, ![a, b, c]⟩ .f32} (h : ∀ q r s, f (ix3 q r s) = g (ix3 q r s)) : f = g := by
  funext i
  have e : i = ix3 (i 0) (i 1) (i 2) := by
    funext x
    match x with
    | ⟨0, _⟩ => rfl
    | ⟨1, _⟩ => rfl
    | ⟨2, _⟩ => rfl
  rw [e]; exact h _ _ _

/-- An array over two axes is known by its entries. -/
theorem ext2 {a b : ℕ} {f g : FVec Ideal ⟨2, ![a, b]⟩ .f32} (h : ∀ q r, f (ix2 q r) = g (ix2 q r)) : f = g := by
  funext i
  obtain ⟨q, r, rfl⟩ := idx_eq i
  exact h q r

/-- The kernel over bits: the launch runs to its end with the arguments unchanged and every counter at zero. -/
theorem frame_k : Cert.quiescent_Kernel := fun m ρ _ => Cert.Kernel.Attn.frame_main m ρ

/-- The kernel over the extended reals: the launch runs to its end with the arguments unchanged and every counter at zero. -/
theorem frame_ki : Cert.quiescent_KernelIdeal := fun m ρ _ =>
  θ_run_and (Cert.KernelIdeal.Gen.frame_of m ρ (Cert.KernelIdeal.Attn.dats m) (Cert.KernelIdeal.Attn.A_eq m)
      ((θ_run Cert.KernelIdeal.defs _ _).mono (fun _ h => h.1) (Cert.KernelIdeal.Attn.run_main m ρ)))
    ((θ_run Cert.KernelIdeal.defs _ _).mono (fun _ h => h.2) (Cert.KernelIdeal.Attn.run_main m ρ))

/-- The same under the precondition, which it does not use. -/
theorem frame_ki_pre : Cert.quiescent_KernelIdeal_pre_finite := fun m ρ _ => frame_ki m ρ (by trivial)

/-- The reference: its operations run to their end with the arguments unchanged; it has no counters. -/
theorem frame_r : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run m ρ)

/-- The same under the precondition, which it does not use. -/
theorem frame_r_pre : Cert.quiescent_ReferenceIdeal_pre_finite := fun m ρ _ => frame_r m ρ (by trivial)

section Value

open Cert.KernelIdeal Cert.KernelIdeal.Gen Cert.KernelIdeal.Attn

variable (m : (ℓ : Loc nD τ sig) → Buf (Elt Ideal) ℓ) (ρ : Dev nD → PrngReg)

/-- The kernel's five results, as the host operations after the launch leave them. -/
theorem kernel_results : θ_run defs (onTc (τ := τ) (main (F := Ideal))) ⟨m, fun _ => 0, ρ⟩ (fun r => ∀ c : Dev nD,
    r.2.mem ((c.tc : Thread nD τ).loc main_v60) = U60 (WA m c)
    ∧ r.2.mem ((c.tc : Thread nD τ).loc main_v64) = U64 (WA m c)
    ∧ r.2.mem ((c.tc : Thread nD τ).loc main_v65) = U65 (WA m c)
    ∧ r.2.mem ((c.tc : Thread nD τ).loc main_v68) = U68 (WA m c)
    ∧ r.2.mem ((c.tc : Thread nD τ).loc main_v69) = U69 (WA m c)) :=
  (θ_run defs _ _).mono (fun _ h c => ⟨(h.1 c).2 main_v60 (Pipeline.mem_restRefs_of main_v60 (by decide) (by decide)),
      (h.1 c).2 main_v64 (Pipeline.mem_restRefs_of main_v64 (by decide) (by decide)),
      (h.1 c).2 main_v65 (Pipeline.mem_restRefs_of main_v65 (by decide) (by decide)),
      (h.1 c).2 main_v68 (Pipeline.mem_restRefs_of main_v68 (by decide) (by decide)),
      (h.1 c).2 main_v69 (Pipeline.mem_restRefs_of main_v69 (by decide) (by decide))⟩) (run_main m ρ)

end Value

/-- On finite arguments the kernel's results are the reference's. -/
theorem algebraic : Cert.algebraic_KernelIdeal_ReferenceIdeal_pre_finite := by
  intro m g m' g' hpre hargs
  refine ⟨fun c => Cert.KernelIdeal.Attn.U60 (Cert.KernelIdeal.Attn.WA m c), fun c => Cert.KernelIdeal.Attn.U64 (Cert.KernelIdeal.Attn.WA m c),
    fun c => Cert.KernelIdeal.Attn.U65 (Cert.KernelIdeal.Attn.WA m c), fun c => Cert.KernelIdeal.Attn.U68 (Cert.KernelIdeal.Attn.WA m c),
    fun c => Cert.KernelIdeal.Attn.U69 (Cert.KernelIdeal.Attn.WA m c), ?_, ?_⟩
  · exact (θ_run Cert.KernelIdeal.defs _ _).mono (fun _ h c => ⟨(h.1 c).1, (h.1 c).2.1, (h.1 c).2.2.1, (h.1 c).2.2.2.1, (h.1 c).2.2.2.2, h.2.1 c⟩)
      (θ_run_and (kernel_results m g) (frame_ki m g (by trivial)))
  · refine (θ_run Cert.ReferenceIdeal.defs _ _).mono (fun r h c => ?_) (Cert.ReferenceIdeal.Value.run m' g')
    obtain ⟨e0, e1, e2, e3, e4, e5⟩ := hargs c
    have H := holds_of _ _ _ _ _ _ (hpre c)
    obtain ⟨r0, r1, r2, r3, r4, ra⟩ := h c
    refine ⟨r0.trans ?_, r1.trans ?_, r2.trans ?_, r3.trans ?_, r4.trans ?_, ra⟩
    · rw [Cert.ReferenceIdeal.Read.val_main_v71_eq, e0, e1, e2, e3, e4, e5]
      exact ext3 fun q h d => (Cert.ReferenceIdeal.Attn.v71_at H q h d).trans (Cert.KernelIdeal.Attn.res0 H q h d).symm
    · rw [Cert.ReferenceIdeal.Read.val_main_v66_eq, e0, e1, e2, e3, e4, e5]
      exact ext3 fun q h d => (Cert.ReferenceIdeal.Attn.v66_at H q h d).trans (Cert.KernelIdeal.Attn.res1 H q h d).symm
    · rw [Cert.ReferenceIdeal.Read.val_main_v69_eq, e0, e1, e2, e3, e4, e5]
      exact ext3 fun q h d => (Cert.ReferenceIdeal.Attn.v69_at H q h d).trans (Cert.KernelIdeal.Attn.res2 H q h d).symm
    · rw [Cert.ReferenceIdeal.Read.val_main_v67_eq, e0, e1, e2, e3, e4, e5]
      exact ext2 fun k d => (Cert.ReferenceIdeal.Attn.v67_at H k d).trans (Cert.KernelIdeal.Attn.res3 H k d).symm
    · rw [Cert.ReferenceIdeal.Read.val_main_v49_eq, e0, e1, e2, e3, e5]
      exact ext3 fun q h d => (Cert.ReferenceIdeal.Attn.v49_at H q h d).trans (Cert.KernelIdeal.Attn.res4 H q h d).symm

/-- The second kernel over bits. -/
theorem frame2_k : Cert.quiescent_Kernel2 := fun m ρ _ => Cert.Kernel2.Gen.frame m ρ

/-- The second kernel over the extended reals. -/
theorem frame2_ki : Cert.quiescent_Kernel2Ideal := fun m ρ _ => Cert.Kernel2Ideal.Gen.frame m ρ

/-- The second reference. -/
theorem frame2_r : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

/-- The second kernel's results are its reference's. -/
theorem algebraic2 : Cert.algebraic_Kernel2Ideal_Reference2Ideal := by
  intro m g m' g' _ hargs
  refine ⟨fun c => Cert.Kernel2Ideal.Norm.R0 m c, fun c => Cert.Kernel2Ideal.Norm.R1 m c, ?_, ?_⟩
  · refine (θ_run Cert.Kernel2Ideal.defs _ _).mono (fun r h c => ?_) (Cert.Kernel2Ideal.Value.run_blocks m g)
    obtain ⟨r0, r1, ra⟩ := h c
    exact ⟨r0.trans (Cert.Kernel2Ideal.Norm.final_9 m c), r1.trans (Cert.Kernel2Ideal.Norm.final_10 m c), ra⟩
  · refine (θ_run Cert.Reference2Ideal.defs _ _).mono (fun r h c => ?_) (Cert.Reference2Ideal.Value.run m' g')
    obtain ⟨e0, e1, e2, e3, e4⟩ := hargs c
    obtain ⟨r0, r1, ra⟩ := h c
    refine ⟨r0.trans ?_, r1.trans ?_, ra⟩
    · rw [Cert.Reference2Ideal.Read.val_main_v38_eq, e0, e1, e2, e3, e4]
      exact ext2 fun s d => Cert.Reference2Ideal.Norm.v38_at _ _ _ _ _ s d
    · refine (Cert.Reference2Ideal.Read.val_main_v39_eq _ _ _).trans ?_
      rw [e0, e2, e4]
      refine ext2 fun s d => ?_
      obtain rfl : s = 0 := Subsingleton.elim _ _
      exact Cert.Reference2Ideal.Norm.v39_at _ _ _ d

/-- Arrays with one unit axis agree when their entries do. -/
theorem ext4 {a b c : ℕ} {x y : (⟨4, ![a, 1, b, c]⟩ : Shape).Idx → EReal} (h : ∀ k d e, x (ix4 k 0 d e) = y (ix4 k 0 d e)) : x = y := by
  funext i
  have hi : i = ix4 ⟨(i 0).val, (i 0).isLt⟩ 0 ⟨(i 2).val, (i 2).isLt⟩ ⟨(i 3).val, (i 3).isLt⟩ := by
    funext q; apply Fin.ext
    match q with
    | ⟨0, _⟩ => rfl
    | ⟨1, _⟩ => have hq : (i 1).val < 1 := (i 1).isLt; show (i 1).val = 0; omega
    | ⟨2, _⟩ => rfl
    | ⟨3, _⟩ => rfl
  rw [hi]
  exact h _ _ _

/-- The third kernel, the gradient of the gate's weights, whatever the floats, runs and leaves its arguments. -/
theorem frame3_k : Cert.quiescent_Kernel3 := fun m ρ _ => Cert.Kernel3.Gen.frame m ρ

/-- The third kernel over the extended reals. -/
theorem frame3_ki : Cert.quiescent_Kernel3Ideal := fun m ρ _ => Cert.Kernel3Ideal.Gen.frame m ρ

/-- The third reference. -/
theorem frame3_r : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The third kernel's result is its reference's. -/
theorem algebraic3 : Cert.algebraic_Kernel3Ideal_Reference3Ideal := by
  intro m g m' g' _ hargs
  refine ⟨fun c => Cert.Kernel3Ideal.Wgt.R m c, ?_, ?_⟩
  · refine (θ_run Cert.Kernel3Ideal.defs _ _).mono (fun r h c => ?_) (Cert.Kernel3Ideal.Value.run_blocks m g)
    obtain ⟨r0, ra⟩ := h c
    exact ⟨r0.trans (Cert.Kernel3Ideal.Wgt.final m c), ra⟩
  · refine (θ_run Cert.Reference3Ideal.defs _ _).mono (fun r h c => ?_) (Cert.Reference3Ideal.Value.run m' g')
    obtain ⟨e0, e1⟩ := hargs c
    obtain ⟨r0, ra⟩ := h c
    refine ⟨r0.trans ?_, ra⟩
    refine (Cert.Reference3Ideal.Read.val_main_v11_eq _ _).trans ?_
    rw [e0, e1]
    exact ext4 fun k d e => Cert.Reference3Ideal.Wgt.v11_at _ _ k d e

/-- The fourth kernel, the gradient of the weights of the gate's other factor, whatever the floats, runs and leaves its arguments. -/
theorem frame4_k : Cert.quiescent_Kernel4 := fun m ρ _ => Cert.Kernel4.Gen.frame m ρ

/-- The fourth kernel over the extended reals. -/
theorem frame4_ki : Cert.quiescent_Kernel4Ideal := fun m ρ _ => Cert.Kernel4Ideal.Gen.frame m ρ

/-- The fourth reference. -/
theorem frame4_r : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The fourth kernel's result is its reference's. -/
theorem algebraic4 : Cert.algebraic_Kernel4Ideal_Reference4Ideal := by
  intro m g m' g' _ hargs
  refine ⟨fun c => Cert.Kernel4Ideal.Wgt.R m c, ?_, ?_⟩
  · refine (θ_run Cert.Kernel4Ideal.defs _ _).mono (fun r h c => ?_) (Cert.Kernel4Ideal.Value.run_blocks m g)
    obtain ⟨r0, ra⟩ := h c
    exact ⟨r0.trans (Cert.Kernel4Ideal.Wgt.final m c), ra⟩
  · refine (θ_run Cert.Reference4Ideal.defs _ _).mono (fun r h c => ?_) (Cert.Reference4Ideal.Value.run m' g')
    obtain ⟨e0, e1⟩ := hargs c
    obtain ⟨r0, ra⟩ := h c
    refine ⟨r0.trans ?_, ra⟩
    refine (Cert.Reference4Ideal.Read.val_main_v11_eq _ _).trans ?_
    rw [e0, e1]
    exact ext4 fun k d e => Cert.Reference4Ideal.Wgt.v11_at _ _ k d e

/-- The fifth kernel, the gradient of the weights of the last product, whatever the floats, runs and leaves its arguments. -/
theorem frame5_k : Cert.quiescent_Kernel5 := fun m ρ _ => Cert.Kernel5.Gen.frame m ρ

/-- The fifth kernel over the extended reals. -/
theorem frame5_ki : Cert.quiescent_Kernel5Ideal := fun m ρ _ => Cert.Kernel5Ideal.Gen.frame m ρ

/-- The fifth reference. -/
theorem frame5_r : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The fifth kernel's result is its reference's. -/
theorem algebraic5 : Cert.algebraic_Kernel5Ideal_Reference5Ideal := by
  intro m g m' g' _ hargs
  refine ⟨fun c => Cert.Kernel5Ideal.Wgt.R m c, ?_, ?_⟩
  · refine (θ_run Cert.Kernel5Ideal.defs _ _).mono (fun r h c => ?_) (Cert.Kernel5Ideal.Value.run_blocks m g)
    obtain ⟨r0, ra⟩ := h c
    exact ⟨r0.trans (Cert.Kernel5Ideal.Wgt.final m c), ra⟩
  · refine (θ_run Cert.Reference5Ideal.defs _ _).mono (fun r h c => ?_) (Cert.Reference5Ideal.Value.run m' g')
    obtain ⟨e0, e1⟩ := hargs c
    obtain ⟨r0, ra⟩ := h c
    refine ⟨r0.trans ?_, ra⟩
    refine (Cert.Reference5Ideal.Read.val_main_v9_eq _ _).trans ?_
    rw [e0, e1]
    exact ext4 fun k d e => Cert.Reference5Ideal.Wgt.v9_at _ _ k d e

/-- The certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Pre_finite.Gen.facts,
    frame_k, frame_ki, frame_ki_pre, frame_r, frame_r_pre, frame2_k, frame2_ki, frame2_r, frame3_k, frame3_ki, frame3_r,
    frame4_k, frame4_ki, frame4_r, frame5_k, frame5_ki, frame5_r,
    trivial, algebraic, trivial, algebraic2, trivial, algebraic3, trivial, algebraic4, trivial, algebraic5⟩

end Cert.Proof

end
